-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))).2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v77) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  IdealRules.named_const.Statement Cert.Kernel3Ideal.κ "inv_sqrt2" .f32 0x3F3504F3#32 (((Real.sqrt 2)⁻¹ : ℝ) : EReal)
  ∧ IdealRules.named_const.Statement Cert.Kernel3Ideal.κ "q_scale" .f32 0x3E38AA3B#32 (((8 * (Real.log 2))⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v8_0)) (v1 : (c : Dev Cert.Kernel3Ideal.nD) → Buf (Elt Ideal) ((c.tc : Thread Cert.Kernel3Ideal.nD Cert.Kernel3Ideal.τ).loc Cert.Kernel3Ideal.main_v8_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8_0) = v0 c
          ∧ r.2.mem ((c.tc : Thread Cert.Kernel3Ideal.nD Cert.Kernel3Ideal.τ).loc Cert.Kernel3Ideal.main_v8_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v60) = v0 c
          ∧ r.2.mem ((c.tc : Thread Cert.Reference3Ideal.nD Cert.Reference3Ideal.τ).loc Cert.Reference3Ideal.main_v61) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v20) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v13)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v13) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v64) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite2 : Cert.Pre_finite2.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
-- ==== Pre_finite.lean ====
abbrev S16384x7168 : Shape := ⟨2, ![16384, 7168]⟩
abbrev S128x16384 : Shape := ⟨2, ![128, 16384]⟩
abbrev S16384x128 : Shape := ⟨2, ![16384, 128]⟩
abbrev S_ : Shape := ⟨0, ![]⟩

class Facts : Prop where
  bitsLt_bf16_f32 : FTy.bits .bf16 < FTy.bits .f32
  bcast_S_S16384x7168 : S_.BroadcastsInDim S16384x7168 (![] : Fin 0 → Fin S16384x7168.rank)
  bcast_S_S128x16384 : S_.BroadcastsInDim S128x16384 (![] : Fin 0 → Fin S128x16384.rank)
  bcast_S_S16384x128 : S_.BroadcastsInDim S16384x128 (![] : Fin 0 → Fin S16384x128.rank)

variable [Facts]

def fn {F : FTy → Type} [FloatOps F] (main_arg0 : FVec F S16384x7168 .bf16) (main_arg1 : FVec F S128x16384 .bf16) (main_arg2 : FVec F S16384x128 .bf16) : IVec S16384x7168 1 × IVec S128x16384 1 × IVec S16384x128 1 :=
  let main_v0 : FVec F S16384x7168 .f32 := (extf .f32 · bitsLt_bf16_f32) main_arg0
  let main_v1 : FVec F S16384x7168 .f32 := Host.absf main_v0
  let main_cst : FVec F S_ .f32 := constant S_ .f32 0x7F800000#32
  let main_v2 : FVec F S16384x7168 .f32 := broadcastInDim S16384x7168 ![] bcast_S_S16384x7168 main_cst
  let main_v3 : IVec S16384x7168 1 := cmpf .olt main_v1 main_v2
  let main_v4 : FVec F S128x16384 .f32 := (extf .f32 · bitsLt_bf16_f32) main_arg1
  let main_v5 : FVec F S128x16384 .f32 := Host.absf main_v4
  let main_cst_0 : FVec F S_ .f32 := constant S_ .f32 0x7F800000#32
  let main_v6 : FVec F S128x16384 .f32 := broadcastInDim S128x16384 ![] bcast_S_S128x16384 main_cst_0
  let main_v7 : IVec S128x16384 1 := cmpf .olt main_v5 main_v6
  let main_v8 : FVec F S16384x128 .f32 := (extf .f32 · bitsLt_bf16_f32) main_arg2
  let main_v9 : FVec F S16384x128 .f32 := Host.absf main_v8
  let main_cst_1 : FVec F S_ .f32 := constant S_ .f32 0x7F800000#32
  let main_v10 : FVec F S16384x128 .f32 := broadcastInDim S16384x128 ![] bcast_S_S16384x128 main_cst_1
  let main_v11 : IVec S16384x128 1 := cmpf .olt main_v9 main_v10
  (main_v3, main_v7, main_v11)
-- ==== Pre_finite2.lean ====
abbrev S16384x7168 : Shape := ⟨2, ![16384, 7168]⟩
abbrev S2x1024 : Shape := ⟨2, ![2, 1024]⟩
abbrev S2x8x128x128 : Shape := ⟨4, ![2, 8, 128, 128]⟩
abbrev S2x8x128 : Shape := ⟨3, ![2, 8, 128]⟩
abbrev S16384x1024 : Shape := ⟨2, ![16384, 1024]⟩
abbrev S16384x2048 : Shape := ⟨2, ![16384, 2048]⟩
abbrev S4x1x2048 : Shape := ⟨3, ![4, 1, 2048]⟩
abbrev S2x2048x2048 : Shape := ⟨3, ![2, 2048, 2048]⟩
abbrev S2048 : Shape := ⟨1, ![2048]⟩
abbrev S_ : Shape := ⟨0, ![]⟩

class Facts : Prop where
  bcast_S_S4x1x2048 : S_.BroadcastsInDim S4x1x2048 (![] : Fin 0 → Fin S4x1x2048.rank)

variable [Facts]

def fn {F : FTy → Type} [FloatOps F] (main_arg0 : FVec F S16384x7168 .bf16) (main_arg1 : FVec F S2x1024 .f32) (main_arg2 : FVec F S2x1024 .f32) (main_arg3 : FVec F S2x8x128x128 .f32) (main_arg4 : FVec F S2x8x128 .f32) (main_arg5 : FVec F S16384x1024 .bf16) (main_arg6 : FVec F S16384x2048 .f32) (main_arg7 : FVec F S4x1x2048 .f32) (main_arg8 : FVec F S2x2048x2048 .f32) (main_arg9 : FVec F S2048 .f32) : IVec S4x1x2048 1 :=
  let main_v0 : FVec F S4x1x2048 .f32 := Host.absf main_arg7
  let main_cst : FVec F S_ .f32 := constant S_ .f32 0x7F800000#32
  let main_v1 : FVec F S4x1x2048 .f32 := broadcastInDim S4x1x2048 ![] bcast_S_S4x1x2048 main_cst
  let main_v2 : IVec S4x1x2048 1 := cmpf .olt main_v0 main_v1
  main_v2
-- ==== Pre_finite5.lean ====
abbrev S16384x7168 : Shape := ⟨2, ![16384, 7168]⟩
abbrev S2x1024 : Shape := ⟨2, ![2, 1024]⟩
abbrev S2x8x128x128 : Shape := ⟨4, ![2, 8, 128, 128]⟩
abbrev S2x8x128 : Shape := ⟨3, ![2, 8, 128]⟩
abbrev S16384x1024 : Shape := ⟨2, ![16384, 1024]⟩
abbrev S16384x2048 : Shape := ⟨2, ![16384, 2048]⟩
abbrev S4x1x2048 : Shape := ⟨3, ![4, 1, 2048]⟩
abbrev S2x2048x2048 : Shape := ⟨3, ![2, 2048, 2048]⟩
abbrev S2048 : Shape := ⟨1, ![2048]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  bcast_S_S4x1x2048 : S_.BroadcastsInDim S4x1x2048 (![] : Fin 0 → Fin S4x1x2048.rank)
  bcast_S_S2x2048x2048 : S_.BroadcastsInDim S2x2048x2048 (![] : Fin 0 → Fin S2x2048x2048.rank)

variable [Facts]

def fn {F : FTy → Type} [FloatOps F] (main_arg0 : FVec F S16384x7168 .bf16) (main_arg1 : FVec F S2x1024 .f32) (main_arg2 : FVec F S2x1024 .f32) (main_arg3 : FVec F S2x8x128x128 .f32) (main_arg4 : FVec F S2x8x128 .f32) (main_arg5 : FVec F S16384x1024 .bf16) (main_arg6 : FVec F S16384x2048 .f32) (main_arg7 : FVec F S4x1x2048 .f32) (main_arg8 : FVec F S2x2048x2048 .f32) (main_arg9 : FVec F S2048 .f32) : IVec S16384x1024 1 × IVec S4x1x2048 1 × IVec S2x2048x2048 1 :=
  let main_v0 : FVec F S16384x1024 .f32 := (extf .f32 · bitsLt_bf16_f32) main_arg5
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_v4 : FVec F S4x1x2048 .f32 := Host.absf main_arg7
  let main_cst_0 : FVec F S_ .f32 := constant S_ .f32 0x7F800000#32
  let main_v5 : FVec F S4x1x2048 .f32 := broadcastInDim S4x1x2048 ![] bcast_S_S4x1x2048 main_cst_0
  let main_v6 : IVec S4x1x2048 1 := cmpf .olt main_v4 main_v5
  let main_v7 : FVec F S2x2048x2048 .f32 := Host.absf main_arg8
  let main_cst_1 : FVec F S_ .f32 := constant S_ .f32 0x7F800000#32
  let main_v8 : FVec F S2x2048x2048 .f32 := broadcastInDim S2x2048x2048 ![] bcast_S_S2x2048x2048 main_cst_1
  let main_v9 : IVec S2x2048x2048 1 := cmpf .olt main_v7 main_v8
  (main_v3, main_v6, main_v9)
-- ==== Kernel.lean ====
abbrev S16384x7168 : Shape := ⟨2, ![16384, 7168]⟩
abbrev S128x16384 : Shape := ⟨2, ![128, 16384]⟩
abbrev S16384x128 : Shape := ⟨2, ![16384, 128]⟩
abbrev S16384x1024 : Shape := ⟨2, ![16384, 1024]⟩
abbrev S4096x128 : Shape := ⟨2, ![4096, 128]⟩
abbrev S128x4096 : Shape := ⟨2, ![128, 4096]⟩
abbrev S4096x256 : Shape := ⟨2, ![4096, 256]⟩
abbrev S2x80x4096 : Shape := ⟨3, ![2, 80, 4096]⟩
abbrev S2x256x4096 : Shape := ⟨3, ![2, 256, 4096]⟩
abbrev S2x4096x256 : Shape := ⟨3, ![2, 4096, 256]⟩
abbrev S2x1x256 : Shape := ⟨3, ![2, 1, 256]⟩
abbrev S16x1024 : Shape := ⟨2, ![16, 1024]⟩
abbrev S1024x128 : Shape := ⟨2, ![1024, 128]⟩
abbrev S128x1024 : Shape := ⟨2, ![128, 1024]⟩
abbrev S64x1024 : Shape := ⟨2, ![64, 1024]⟩
abbrev S80x1024 : Shape := ⟨2, ![80, 1024]⟩
abbrev S1x80x1024 : Shape := ⟨3, ![1, 80, 1024]⟩
abbrev S256x128 : Shape := ⟨2, ![256, 128]⟩
abbrev S128x256 : Shape := ⟨2, ![128, 256]⟩
abbrev S64x256 : Shape := ⟨2, ![64, 256]⟩
abbrev S256x256 : Shape := ⟨2, ![256, 256]⟩
abbrev S1x256x256 : Shape := ⟨3, ![1, 256, 256]⟩
abbrev S256 : Shape := ⟨1, ![256]⟩
abbrev S1x256 : Shape := ⟨2, ![1, 256]⟩
abbrev S3840x256 : Shape := ⟨2, ![3840, 256]⟩
abbrev S1x3840x256 : Shape := ⟨3, ![1, 3840, 256]⟩
abbrev S1x1x256 : Shape := ⟨3, ![1, 1, 256]⟩
abbrev S3584x256 : Shape := ⟨2, ![3584, 256]⟩
abbrev S1x3584x256 : Shape := ⟨3, ![1, 3584, 256]⟩
abbrev S1x4096x256 : Shape := ⟨3, ![1, 4096, 256]⟩
abbrev S1x80x4096 : Shape := ⟨3, ![1, 80, 4096]⟩
abbrev S80x4096 : Shape := ⟨2, ![80, 4096]⟩
abbrev S80x256 : Shape := ⟨2, ![80, 256]⟩
abbrev S3328x256 : Shape := ⟨2, ![3328, 256]⟩
abbrev S1x3328x256 : Shape := ⟨3, ![1, 3328, 256]⟩
abbrev S1x80x3840 : Shape := ⟨3, ![1, 80, 3840]⟩
abbrev S80x3840 : Shape := ⟨2, ![80, 3840]⟩
abbrev S3072x256 : Shape := ⟨2, ![3072, 256]⟩
abbrev S1x3072x256 : Shape := ⟨3, ![1, 3072, 256]⟩
abbrev S1x80x3584 : Shape := ⟨3, ![1, 80, 3584]⟩
abbrev S80x3584 : Shape := ⟨2, ![80, 3584]⟩
abbrev S2816x256 : Shape := ⟨2, ![2816, 256]⟩
abbrev S1x2816x256 : Shape := ⟨3, ![1, 2816, 256]⟩
abbrev S1x80x3328 : Shape := ⟨3, ![1, 80, 3328]⟩
abbrev S80x3328 : Shape := ⟨2, ![80, 3328]⟩
abbrev S2560x256 : Shape := ⟨2, ![2560, 256]⟩
abbrev S1x2560x256 : Shape := ⟨3, ![1, 2560, 256]⟩
abbrev S1x80x3072 : Shape := ⟨3, ![1, 80, 3072]⟩
abbrev S80x3072 : Shape := ⟨2, ![80, 3072]⟩
abbrev S2304x256 : Shape := ⟨2, ![2304, 256]⟩
abbrev S1x2304x256 : Shape := ⟨3, ![1, 2304, 256]⟩
abbrev S1x80x2816 : Shape := ⟨3, ![1, 80, 2816]⟩
abbrev S80x2816 : Shape := ⟨2, ![80, 2816]⟩
abbrev S2048x256 : Shape := ⟨2, ![2048, 256]⟩
abbrev S1x2048x256 : Shape := ⟨3, ![1, 2048, 256]⟩
abbrev S1x80x2560 : Shape := ⟨3, ![1, 80, 2560]⟩
abbrev S80x2560 : Shape := ⟨2, ![80, 2560]⟩
abbrev S1792x256 : Shape := ⟨2, ![1792, 256]⟩
abbrev S1x1792x256 : Shape := ⟨3, ![1, 1792, 256]⟩
abbrev S1x80x2304 : Shape := ⟨3, ![1, 80, 2304]⟩
abbrev S80x2304 : Shape := ⟨2, ![80, 2304]⟩
abbrev S1536x256 : Shape := ⟨2, ![1536, 256]⟩
abbrev S1x1536x256 : Shape := ⟨3, ![1, 1536, 256]⟩
abbrev S1x80x2048 : Shape := ⟨3, ![1, 80, 2048]⟩
abbrev S80x2048 : Shape := ⟨2, ![80, 2048]⟩
abbrev S1280x256 : Shape := ⟨2, ![1280, 256]⟩
abbrev S1x1280x256 : Shape := ⟨3, ![1, 1280, 256]⟩
abbrev S1x80x1792 : Shape := ⟨3, ![1, 80, 1792]⟩
abbrev S80x1792 : Shape := ⟨2, ![80, 1792]⟩
abbrev S1024x256 : Shape := ⟨2, ![1024, 256]⟩
abbrev S1x1024x256 : Shape := ⟨3, ![1, 1024, 256]⟩
abbrev S1x80x1536 : Shape := ⟨3, ![1, 80, 1536]⟩
abbrev S80x1536 : Shape := ⟨2, ![80, 1536]⟩
abbrev S768x256 : Shape := ⟨2, ![768, 256]⟩
abbrev S1x768x256 : Shape := ⟨3, ![1, 768, 256]⟩
abbrev S1x80x1280 : Shape := ⟨3, ![1, 80, 1280]⟩
abbrev S80x1280 : Shape := ⟨2, ![80, 1280]⟩
abbrev S512x256 : Shape := ⟨2, ![512, 256]⟩
abbrev S1x512x256 : Shape := ⟨3, ![1, 512, 256]⟩
abbrev S1x80x768 : Shape := ⟨3, ![1, 80, 768]⟩
abbrev S80x768 : Shape := ⟨2, ![80, 768]⟩
abbrev S1x80x512 : Shape := ⟨3, ![1, 80, 512]⟩
abbrev S80x512 : Shape := ⟨2, ![80, 512]⟩
abbrev S1x80x256 : Shape := ⟨3, ![1, 80, 256]⟩

abbrev nBuf : Space → Nat
  | .hbm => 4
  | .vmem => 21
  | .smem => 0
  | _ => 0

abbrev bufTy : (tb : Table) → Fin (tcTables nBuf tb) → BufTy
  | .hbm, ⟨0, _⟩ => ⟨S16384x7168, .bf16⟩
  | .hbm, ⟨1, _⟩ => ⟨S128x16384, .bf16⟩
  | .hbm, ⟨2, _⟩ => ⟨S16384x128, .bf16⟩
  | .hbm, ⟨3, _⟩ => ⟨S16384x1024, .bf16⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S128x4096, .bf16⟩
  | .local _ .vmem, ⟨9, _⟩ => ⟨S128x4096, .bf16⟩
  | .local _ .vmem, ⟨10, _⟩ => ⟨S4096x128, .bf16⟩
  | .local _ .vmem, ⟨11, _⟩ => ⟨S4096x128, .bf16⟩
  | .local _ .vmem, ⟨12, _⟩ => ⟨S4096x128, .bf16⟩
  | .local _ .vmem, ⟨13, _⟩ => ⟨S4096x128, .bf16⟩
  | .local _ .vmem, ⟨14, _⟩ => ⟨S4096x256, .bf16⟩
  | .local _ .vmem, ⟨15, _⟩ => ⟨S2x80x4096, .bf16⟩
  | .local _ .vmem, ⟨16, _⟩ => ⟨S2x256x4096, .bf16⟩
  | .local _ .vmem, ⟨17, _⟩ => ⟨S2x4096x256, .f32⟩
  | .local _ .vmem, ⟨18, _⟩ => ⟨S2x4096x256, .f32⟩
  | .local _ .vmem, ⟨19, _⟩ => ⟨S2x1x256, .f32⟩
  | .local _ .vmem, ⟨20, _⟩ => ⟨S2x1x256, .f32⟩
  | _, _ => ⟨S16384x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg0 : BitVec 32 := BitVec.ofNat 32 (i 0).val
  let c0_i32 : BitVec 32 := 0#32
  let v57 : BitVec 32 := Scalar.minsi arg0 c0_i32
  let c256_i32 : BitVec 32 := 256#32
  let v58 : BitVec 32 := Scalar.muli v57 c256_i32
  v58
def k0_off1 (i : grid0.Coords) : Fin 3 → Nat :=
  let c0_439 : Index := 0#32
  let arg0 : BitVec 32 := BitVec.ofNat 32 (i 0).val
  let c0_i32 : BitVec 32 := 0#32
  let v57 : BitVec 32 := Scalar.minsi arg0 c0_i32
  let c256_i32 : BitVec 32 := 256#32
  let v58 : BitVec 32 := Scalar.muli v57 c256_i32
  let v59 : BitVec 32 := v58
  let v800 : Index := Scalar.indexCast v59
  let c0_440 : Index := 0#32
  ![0, v800.toNat, 0]
def k0_off2 (i : grid0.Coords) : Fin 3 → Nat :=
  let c1_448 : Index := 1#32
  let arg0 : BitVec 32 := BitVec.ofNat 32 (i 0).val
  let c0_i32 : BitVec 32 := 0#32
  let v57 : BitVec 32 := Scalar.minsi arg0 c0_i32
  let c256_i32 : BitVec 32 := 256#32
  let v58 : BitVec 32 := Scalar.muli v57 c256_i32
  let v59 : BitVec 32 := v58
  let v812 : Index := Scalar.indexCast v59
  let c0_449 : Index := 0#32
  ![1, v812.toNat, 0]
def k0_off3 (i : grid0.Coords) : Fin 3 → Nat :=
  let c0_503 : Index := 0#32
  let arg0 : BitVec 32 := BitVec.ofNat 32 (i 0).val
  let c0_i32 : BitVec 32 := 0#32
  let v57 : BitVec 32 := Scalar.minsi arg0 c0_i32
  let c256_i32 : BitVec 32 := 256#32
  let v58 : BitVec 32 := Scalar.muli v57 c256_i32
  let v59 : BitVec 32 := v58
  let v889 : Index := Scalar.indexCast v59
  let c0_504 : Index := 0#32
  ![0, v889.toNat, 0]
def k0_off4 (i : grid0.Coords) : Fin 3 → Nat :=
  let c1_512 : Index := 1#32
  let arg0 : BitVec 32 := BitVec.ofNat 32 (i 0).val
  let c0_i32 : BitVec 32 := 0#32
  let v57 : BitVec 32 := Scalar.minsi arg0 c0_i32
  let c256_i32 : BitVec 32 := 256#32
  let v58 : BitVec 32 := Scalar.muli v57 c256_i32
  let v59 : BitVec 32 := v58
  let v901 : Index := Scalar.indexCast v59
  let c0_513 : Index := 0#32
  ![1, v901.toNat, 0]
def k0_off5 (i : grid0.Coords) : Fin 3 → Nat :=
  let c0_567 : Index := 0#32
  let arg0 : BitVec 32 := BitVec.ofNat 32 (i 0).val
  let c0_i32 : BitVec 32 := 0#32
  let v57 : BitVec 32 := Scalar.minsi arg0 c0_i32
  let c256_i32 : BitVec 32 := 256#32
  let v58 : BitVec 32 := Scalar.muli v57 c256_i32
  let v59 : BitVec 32 := v58
  let v978 : Index := Scalar.indexCast v59
  let c0_568 : Index := 0#32
  ![0, v978.toNat, 0]
def k0_off6 (i : grid0.Coords) : Fin 3 → Nat :=
  let c1_576 : Index := 1#32
  let arg0 : BitVec 32 := BitVec.ofNat 32 (i 0).val
  let c0_i32 : BitVec 32 := 0#32
  let v57 : BitVec 32 := Scalar.minsi arg0 c0_i32
  let c256_i32 : BitVec 32 := 256#32
  let v58 : BitVec 32 := Scalar.muli v57 c256_i32
  let v59 : BitVec 32 := v58
  let v990 : Index := Scalar.indexCast v59
  let c0_577 : Index := 0#32
  ![1, v990.toNat, 0]
def k0_off7 (i : grid0.Coords) : Fin 3 → Nat :=
  let c0_631 : Index := 0#32
  let arg0 : BitVec 32 := BitVec.ofNat 32 (i 0).val
  let c0_i32 : BitVec 32 := 0#32
  let v57 : BitVec 32 := Scalar.minsi arg0 c0_i32
  let c256_i32 : BitVec 32 := 256#32
  let v58 : BitVec 32 := Scalar.muli v57 c256_i32
  let v59 : BitVec 32 := v58
  let v1067 : Index := Scalar.indexCast v59
  let c0_632 : Index := 0#32
  ![0, v1067.toNat, 0]
def k0_off8 (i : grid0.Coords) : Fin 3 → Nat :=
  let c1_640 : Index := 1#32
  let arg0 : BitVec 32 := BitVec.ofNat 32 (i 0).val
  let c0_i32 : BitVec 32 := 0#32
  let v57 : BitVec 32 := Scalar.minsi arg0 c0_i32
  let c256_i32 : BitVec 32 := 256#32
  let v58 : BitVec 32 := Scalar.muli v57 c256_i32
  let v59 : BitVec 32 := v58
  let v1079 : Index := Scalar.indexCast v59
  let c0_641 : Index := 0#32
  ![1, v1079.toNat, 0]
def k0_off9 (i : grid0.Coords) : Fin 3 → Nat :=
  let c0_695 : Index := 0#32
  let arg0 : BitVec 32 := BitVec.ofNat 32 (i 0).val
  let c0_i32 : BitVec 32 := 0#32
  let v57 : BitVec 32 := Scalar.minsi arg0 c0_i32
  let c256_i32 : BitVec 32 := 256#32
  let v58 : BitVec 32 := Scalar.muli v57 c256_i32
  let v59 : BitVec 32 := v58
  let v1156 : Index := Scalar.indexCast v59
  let c0_696 : Index := 0#32
  ![0, v1156.toNat, 0]
def k0_off10 (i : grid0.Coords) : Fin 3 → Nat :=
  let c1_704 : Index := 1#32
  let arg0 : BitVec 32 := BitVec.ofNat 32 (i 0).val
  let c0_i32 : BitVec 32 := 0#32
  let v57 : BitVec 32 := Scalar.minsi arg0 c0_i32
  let c256_i32 : BitVec 32 := 256#32
  let v58 : BitVec 32 := Scalar.muli v57 c256_i32
  let v59 : BitVec 32 := v58
  let v1168 : Index := Scalar.indexCast v59
  let c0_705 : Index := 0#32
  ![1, v1168.toNat, 0]
def k0_off11 (i : grid0.Coords) : Fin 3 → Nat :=
  let c0_759 : Index := 0#32
  let arg0 : BitVec 32 := BitVec.ofNat 32 (i 0).val
  let c0_i32 : BitVec 32 := 0#32
  let v57 : BitVec 32 := Scalar.minsi arg0 c0_i32
  let c256_i32 : BitVec 32 := 256#32
  let v58 : BitVec 32 := Scalar.muli v57 c256_i32
  let v59 : BitVec 32 := v58
  let v1245 : Index := Scalar.indexCast v59
  let c0_760 : Index := 0#32
  ![0, v1245.toNat, 0]
def k0_off12 (i : grid0.Coords) : Fin 3 → Nat :=
  let c1_768 : Index := 1#32
  let arg0 : BitVec 32 := BitVec.ofNat 32 (i 0).val
  let c0_i32 : BitVec 32 := 0#32
  let v57 : BitVec 32 := Scalar.minsi arg0 c0_i32
  let c256_i32 : BitVec 32 := 256#32
  let v58 : BitVec 32 := Scalar.muli v57 c256_i32
  let v59 : BitVec 32 := v58
  let v1257 : Index := Scalar.indexCast v59
  let c0_769 : Index := 0#32
  ![1, v1257.toNat, 0]
def k0_off13 (i : grid0.Coords) : Fin 3 → Nat :=
  let c0_823 : Index := 0#32
  let arg0 : BitVec 32 := BitVec.ofNat 32 (i 0).val
  let c0_i32 : BitVec 32 := 0#32
  let v57 : BitVec 32 := Scalar.minsi arg0 c0_i32
  let c256_i32 : BitVec 32 := 256#32
  let v58 : BitVec 32 := Scalar.muli v57 c256_i32
  let v59 : BitVec 32 := v58
  let v1334 : Index := Scalar.indexCast v59
  let c0_824 : Index := 0#32
  ![0, v1334.toNat, 0]
def k0_off14 (i : grid0.Coords) : Fin 3 → Nat :=
  let c1_832 : Index := 1#32
  let arg0 : BitVec 32 := BitVec.ofNat 32 (i 0).val
  let c0_i32 : BitVec 32 := 0#32
  let v57 : BitVec 32 := Scalar.minsi arg0 c0_i32
  let c256_i32 : BitVec 32 := 256#32
  let v58 : BitVec 32 := Scalar.muli v57 c256_i32
  let v59 : BitVec 32 := v58
  let v1346 : Index := Scalar.indexCast v59
  let c0_833 : Index := 0#32
  ![1, v1346.toNat, 0]
def k0_off15 (i : grid0.Coords) : Fin 3 → Nat :=
  let c0_887 : Index := 0#32
  let arg0 : BitVec 32 := BitVec.ofNat 32 (i 0).val
  let c0_i32 : BitVec 32 := 0#32
  let v57 : BitVec 32 := Scalar.minsi arg0 c0_i32
  let c256_i32 : BitVec 32 := 256#32
  let v58 : BitVec 32 := Scalar.muli v57 c256_i32
  let v59 : BitVec 32 := v58
  let v1423 : Index := Scalar.indexCast v59
  let c0_888 : Index := 0#32
  ![0, v1423.toNat, 0]
def k0_off16 (i : grid0.Coords) : Fin 3 → Nat :=
  let c1_896 : Index := 1#32
  let arg0 : BitVec 32 := BitVec.ofNat 32 (i 0).val
  let c0_i32 : BitVec 32 := 0#32
  let v57 : BitVec 32 := Scalar.minsi arg0 c0_i32
  let c256_i32 : BitVec 32 := 256#32
  let v58 : BitVec 32 := Scalar.muli v57 c256_i32
  let v59 : BitVec 32 := v58
  let v1435 : Index := Scalar.indexCast v59
  let c0_897 : Index := 0#32
  ![1, v1435.toNat, 0]
def k0_off17 (i : grid0.Coords) : Fin 3 → Nat :=
  let c0_951 : Index := 0#32
  let arg0 : BitVec 32 := BitVec.ofNat 32 (i 0).val
  let c0_i32 : BitVec 32 := 0#32
  let v57 : BitVec 32 := Scalar.minsi arg0 c0_i32
  let c256_i32 : BitVec 32 := 256#32
  let v58 : BitVec 32 := Scalar.muli v57 c256_i32
  let v59 : BitVec 32 := v58
  let v1512 : Index := Scalar.indexCast v59
  let c0_952 : Index := 0#32
  ![0, v1512.toNat, 0]
def k0_off18 (i : grid0.Coords) : Fin 3 → Nat :=
  let c1_960 : Index := 1#32
  let arg0 : BitVec 32 := BitVec.ofNat 32 (i 0).val
  let c0_i32 : BitVec 32 := 0#32
  let v57 : BitVec 32 := Scalar.minsi arg0 c0_i32
  let c256_i32 : BitVec 32 := 256#32
  let v58 : BitVec 32 := Scalar.muli v57 c256_i32
  let v59 : BitVec 32 := v58
  let v1524 : Index := Scalar.indexCast v59
  let c0_961 : Index := 0#32
  ![1, v1524.toNat, 0]
def k0_off19 (i : grid0.Coords) : Fin 3 → Nat :=
  let c0_1015 : Index := 0#32
  let arg0 : BitVec 32 := BitVec.ofNat 32 (i 0).val
  let c0_i32 : BitVec 32 := 0#32
  let v57 : BitVec 32 := Scalar.minsi arg0 c0_i32
  let c256_i32 : BitVec 32 := 256#32
  let v58 : BitVec 32 := Scalar.muli v57 c256_i32
  let v59 : BitVec 32 := v58
  let v1601 : Index := Scalar.indexCast v59
  let c0_1016 : Index := 0#32
  ![0, v1601.toNat, 0]
def k0_off20 (i : grid0.Coords) : Fin 3 → Nat :=
  let c1_1024 : Index := 1#32
  let arg0 : BitVec 32 := BitVec.ofNat 32 (i 0).val
  let c0_i32 : BitVec 32 := 0#32
  let v57 : BitVec 32 := Scalar.minsi arg0 c0_i32
  let c256_i32 : BitVec 32 := 256#32
  let v58 : BitVec 32 := Scalar.muli v57 c256_i32
  let v59 : BitVec 32 := v58
  let v1613 : Index := Scalar.indexCast v59
  let c0_1025 : Index := 0#32
  ![1, v1613.toNat, 0]
def k0_off21 (i : grid0.Coords) : Fin 3 → Nat :=
  let c0_1079 : Index := 0#32
  let arg0 : BitVec 32 := BitVec.ofNat 32 (i 0).val
  let c0_i32 : BitVec 32 := 0#32
  let v57 : BitVec 32 := Scalar.minsi arg0 c0_i32
  let c256_i32 : BitVec 32 := 256#32
  let v58 : BitVec 32 := Scalar.muli v57 c256_i32
  let v59 : BitVec 32 := v58
  let v1690 : Index := Scalar.indexCast v59
  let c0_1080 : Index := 0#32
  ![0, v1690.toNat, 0]
def k0_off22 (i : grid0.Coords) : Fin 3 → Nat :=
  let c1_1088 : Index := 1#32
  let arg0 : BitVec 32 := BitVec.ofNat 32 (i 0).val
  let c0_i32 : BitVec 32 := 0#32
  let v57 : BitVec 32 := Scalar.minsi arg0 c0_i32
  let c256_i32 : BitVec 32 := 256#32
  let v58 : BitVec 32 := Scalar.muli v57 c256_i32
  let v59 : BitVec 32 := v58
  let v1702 : Index := Scalar.indexCast v59
  let c0_1089 : Index := 0#32
  ![1, v1702.toNat, 0]
def k0_off23 (i : grid0.Coords) : Fin 3 → Nat :=
  let c0_1143 : Index := 0#32
  let arg0 : BitVec 32 := BitVec.ofNat 32 (i 0).val
  let c0_i32 : BitVec 32 := 0#32
  let v57 : BitVec 32 := Scalar.minsi arg0 c0_i32
  let c256_i32 : BitVec 32 := 256#32
  let v58 : BitVec 32 := Scalar.muli v57 c256_i32
  let v59 : BitVec 32 := v58
  let v1779 : Index := Scalar.indexCast v59
  let c0_1144 : Index := 0#32
  ![0, v1779.toNat, 0]
def k0_off24 (i : grid0.Coords) : Fin 3 → Nat :=
  let c1_1152 : Index := 1#32
  let arg0 : BitVec 32 := BitVec.ofNat 32 (i 0).val
  let c0_i32 : BitVec 32 := 0#32
  let v57 : BitVec 32 := Scalar.minsi arg0 c0_i32
  let c256_i32 : BitVec 32 := 256#32
  let v58 : BitVec 32 := Scalar.muli v57 c256_i32
  let v59 : BitVec 32 := v58
  let v1791 : Index := Scalar.indexCast v59
  let c0_1153 : Index := 0#32
  ![1, v1791.toNat, 0]
def k0_off25 (i : grid0.Coords) : Fin 3 → Nat :=
  let c0_1207 : Index := 0#32
  let arg0 : BitVec 32 := BitVec.ofNat 32 (i 0).val
  let c0_i32 : BitVec 32 := 0#32
  let v57 : BitVec 32 := Scalar.minsi arg0 c0_i32
  let c256_i32 : BitVec 32 := 256#32
  let v58 : BitVec 32 := Scalar.muli v57 c256_i32
  let v59 : BitVec 32 := v58
  let v1868 : Index := Scalar.indexCast v59
  let c0_1208 : Index := 0#32
  ![0, v1868.toNat, 0]
def k0_off26 (i : grid0.Coords) : Fin 3 → Nat :=
  let c1_1216 : Index := 1#32
  let arg0 : BitVec 32 := BitVec.ofNat 32 (i 0).val
  let c0_i32 : BitVec 32 := 0#32
  let v57 : BitVec 32 := Scalar.minsi arg0 c0_i32
  let c256_i32 : BitVec 32 := 256#32
  let v58 : BitVec 32 := Scalar.muli v57 c256_i32
  let v59 : BitVec 32 := v58
  let v1880 : Index := Scalar.indexCast v59
  let c0_1217 : Index := 0#32
  ![1, v1880.toNat, 0]
def k0_off27 (i : grid0.Coords) : Fin 3 → Nat :=
  let c0_1271 : Index := 0#32
  let arg0 : BitVec 32 := BitVec.ofNat 32 (i 0).val
  let c0_i32 : BitVec 32 := 0#32
  let v57 : BitVec 32 := Scalar.minsi arg0 c0_i32
  let c256_i32 : BitVec 32 := 256#32
  let v58 : BitVec 32 := Scalar.muli v57 c256_i32
  let v59 : BitVec 32 := v58
  let v1957 : Index := Scalar.indexCast v59
  let c0_1272 : Index := 0#32
  ![0, v1957.toNat, 0]
def k0_off28 (i : grid0.Coords) : Fin 3 → Nat :=
  let c1_1280 : Index := 1#32
  let arg0 : BitVec 32 := BitVec.ofNat 32 (i 0).val
  let c0_i32 : BitVec 32 := 0#32
  let v57 : BitVec 32 := Scalar.minsi arg0 c0_i32
  let c256_i32 : BitVec 32 := 256#32
  let v58 : BitVec 32 := Scalar.muli v57 c256_i32
  let v59 : BitVec 32 := v58
  let v1969 : Index := Scalar.indexCast v59
  let c0_1281 : Index := 0#32
  ![1, v1969.toNat, 0]
def k0_off29 (i : grid0.Coords) : Fin 3 → Nat :=
  let c0_1321 : Index := 0#32
  let arg0 : BitVec 32 := BitVec.ofNat 32 (i 0).val
  let c0_i32 : BitVec 32 := 0#32
  let v57 : BitVec 32 := Scalar.minsi arg0 c0_i32
  let c256_i32 : BitVec 32 := 256#32
  let v58 : BitVec 32 := Scalar.muli v57 c256_i32
  let v59 : BitVec 32 := v58
  let v2030 : Index := Scalar.indexCast v59
  let c0_1322 : Index := 0#32
  ![0, v2030.toNat, 0]
def k0_off30 (i : grid0.Coords) : Fin 3 → Nat :=
  let c1_1330 : Index := 1#32
  let arg0 : BitVec 32 := BitVec.ofNat 32 (i 0).val
  let c0_i32 : BitVec 32 := 0#32
  let v57 : BitVec 32 := Scalar.minsi arg0 c0_i32
  let c256_i32 : BitVec 32 := 256#32
  let v58 : BitVec 32 := Scalar.muli v57 c256_i32
  let v59 : BitVec 32 := v58
  let v2042 : Index := Scalar.indexCast v59
  let c0_1331 : Index := 0#32
  ![1, v2042.toNat, 0]
def k0_off31 (i : grid0.Coords) : Fin 3 → Nat :=
  let c0_1343 : Index := 0#32
  let arg0 : BitVec 32 := BitVec.ofNat 32 (i 0).val
  let c0_i32 : BitVec 32 := 0#32
  let v57 : BitVec 32 := Scalar.minsi arg0 c0_i32
  let c256_i32 : BitVec 32 := 256#32
  let v58 : BitVec 32 := Scalar.muli v57 c256_i32
  let v59 : BitVec 32 := v58
  let v2069 : Index := Scalar.indexCast v59
  let c0_1344 : Index := 0#32
  ![0, v2069.toNat, 0]
def k0_off32 (i : grid0.Coords) : Fin 3 → Nat :=
  let c1_1352 : Index := 1#32
  let arg0 : BitVec 32 := BitVec.ofNat 32 (i 0).val
  let c0_i32 : BitVec 32 := 0#32
  let v57 : BitVec 32 := Scalar.minsi arg0 c0_i32
  let c256_i32 : BitVec 32 := 256#32
  let v58 : BitVec 32 := Scalar.muli v57 c256_i32
  let v59 : BitVec 32 := v58
  let v2081 : Index := Scalar.indexCast v59
  let c0_1353 : Index := 0#32
  ![1, v2081.toNat, 0]
def cc0_transform_0 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S16384x7168 : Shape := ⟨2, ![16384, 7168]⟩
abbrev S128x16384 : Shape := ⟨2, ![128, 16384]⟩
abbrev S16384x128 : Shape := ⟨2, ![16384, 128]⟩
abbrev S16384x1024 : Shape := ⟨2, ![16384, 1024]⟩
abbrev S4x4096x16x64 : Shape := ⟨4, ![4, 4096, 16, 64]⟩
abbrev S4x16x4096x64 : Shape := ⟨4, ![4, 16, 4096, 64]⟩
abbrev S4x16x4096x4096 : Shape := ⟨4, ![4, 16, 4096, 4096]⟩
abbrev S16384x96 : Shape := ⟨2, ![16384, 96]⟩
abbrev S4x4096x16x6 : Shape := ⟨4, ![4, 4096, 16, 6]⟩
abbrev S4x16x4096x6 : Shape := ⟨4, ![4, 16, 4096, 6]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S4x16x4096 : Shape := ⟨3, ![4, 16, 4096]⟩
abbrev S4x16x4096x1 : Shape := ⟨4, ![4, 16, 4096, 1]⟩

abbrev nBuf : Space → Nat
  | .hbm => 63
  | .vmem => 0
  | .smem => 0
  | _ => 0

abbrev bufTy : (tb : Table) → Fin (tcTables nBuf tb) → BufTy
  | .hbm, ⟨0, _⟩ => ⟨S16384x7168, .bf16⟩
  | .hbm, ⟨1, _⟩ => ⟨S128x16384, .bf16⟩
  | .hbm, ⟨2, _⟩ => ⟨S16384x128, .bf16⟩
  | .hbm, ⟨3, _⟩ => ⟨S16384x1024, .bf16⟩
  | .hbm, ⟨4, _⟩ => ⟨S16384x1024, .f32⟩
  | .hbm, ⟨5, _⟩ => ⟨S4x4096x16x64, .f32⟩
  | .hbm, ⟨6, _⟩ => ⟨S4x16x4096x64, .f32⟩
  | .hbm, ⟨7, _⟩ => ⟨S16384x1024, .bf16⟩
  | .hbm, ⟨8, _⟩ => ⟨S16384x1024, .f32⟩
  | .hbm, ⟨9, _⟩ => ⟨S4x4096x16x64, .f32⟩
  | .hbm, ⟨10, _⟩ => ⟨S4x16x4096x64, .f32⟩
  | .hbm, ⟨11, _⟩ => ⟨S16384x1024, .bf16⟩
  | .hbm, ⟨12, _⟩ => ⟨S16384x1024, .f32⟩
  | .hbm, ⟨13, _⟩ => ⟨S4x4096x16x64, .f32⟩
  | .hbm, ⟨14, _⟩ => ⟨S4x16x4096x64, .f32⟩
  | .hbm, ⟨15, _⟩ => ⟨S4x16x4096x4096, .f32⟩
  | .hbm, ⟨16, _⟩ => ⟨S16384x128, .bf16⟩
  | .hbm, ⟨17, _⟩ => ⟨S16384x128, .f32⟩
  | .hbm, ⟨18, _⟩ => ⟨S16384x96, .f32⟩
  | .hbm, ⟨19, _⟩ => ⟨S4x4096x16x6, .f32⟩
  | .hbm, ⟨20, _⟩ => ⟨S4x16x4096x6, .f32⟩
  | .hbm, ⟨21, _⟩ => ⟨S16384x128, .f32⟩
  | .hbm, ⟨22, _⟩ => ⟨S16384x96, .f32⟩
  | .hbm, ⟨23, _⟩ => ⟨S4x4096x16x6, .f32⟩
  | .hbm, ⟨24, _⟩ => ⟨S4x16x4096x6, .f32⟩
  | .hbm, ⟨25, _⟩ => ⟨S4x16x4096x4096, .f32⟩
  | .hbm, ⟨26, _⟩ => ⟨S4x16x4096x4096, .f32⟩
  | .hbm, ⟨27, _⟩ => ⟨S_, .f32⟩
  | .hbm, ⟨28, _⟩ => ⟨S_, .f32⟩
  | .hbm, ⟨29, _⟩ => ⟨S4x16x4096x4096, .f32⟩
  | .hbm, ⟨30, _⟩ => ⟨S4x16x4096x4096, .f32⟩
  | .hbm, ⟨31, _⟩ => ⟨S4096, .i32⟩
  | .hbm, ⟨32, _⟩ => ⟨S4096x1, .i32⟩
  | .hbm, ⟨33, _⟩ => ⟨S1x4096, .i32⟩
  | .hbm, ⟨34, _⟩ => ⟨S4096x4096, .i32⟩
  | .hbm, ⟨35, _⟩ => ⟨S4096x4096, .i32⟩
  | .hbm, ⟨36, _⟩ => ⟨S4096x4096, .i1⟩
  | .hbm, ⟨37, _⟩ => ⟨S_, .f32⟩
  | .hbm, ⟨38, _⟩ => ⟨S_, .f32⟩
  | .hbm, ⟨39, _⟩ => ⟨S4x16x4096x4096, .i1⟩
  | .hbm, ⟨40, _⟩ => ⟨S4x16x4096x4096, .f32⟩
  | .hbm, ⟨41, _⟩ => ⟨S4x16x4096x4096, .f32⟩
  | .hbm, ⟨42, _⟩ => ⟨S_, .f32⟩
  | .hbm, ⟨43, _⟩ => ⟨S4x16x4096, .f32⟩
  | .hbm, ⟨44, _⟩ => ⟨S_, .f32⟩
  | .hbm, ⟨45, _⟩ => ⟨S4x16x4096, .f32⟩
  | .hbm, ⟨46, _⟩ => ⟨S4x16x4096, .f32⟩
  | .hbm, ⟨47, _⟩ => ⟨S4x16x4096x1, .f32⟩
  | .hbm, ⟨48, _⟩ => ⟨S4x16x4096x4096, .f32⟩
  | .hbm, ⟨49, _⟩ => ⟨S4x16x4096x4096, .f32⟩
  | .hbm, ⟨50, _⟩ => ⟨S4x16x4096x4096, .f32⟩
  | .hbm, ⟨51, _⟩ => ⟨S_, .f32⟩
  | .hbm, ⟨52, _⟩ => ⟨S4x16x4096, .f32⟩
  | .hbm, ⟨53, _⟩ => ⟨S4x16x4096x1, .f32⟩
  | .hbm, ⟨54, _⟩ => ⟨S4x16x4096x4096, .f32⟩
  | .hbm, ⟨55, _⟩ => ⟨S4x16x4096x4096, .f32⟩
  | .hbm, ⟨56, _⟩ => ⟨S4x16x4096x64, .f32⟩
  | .hbm, ⟨57, _⟩ => ⟨S4x4096x16x64, .f32⟩
  | .hbm, ⟨58, _⟩ => ⟨S16384x1024, .f32⟩
  | .hbm, ⟨59, _⟩ => ⟨S16384x1024, .bf16⟩
  | .hbm, ⟨60, _⟩ => ⟨S16384x1024, .f32⟩
  | .hbm, ⟨61, _⟩ => ⟨S16384x1024, .f32⟩
  | .hbm, ⟨62, _⟩ => ⟨S16384x1024, .bf16⟩
  | _, _ => ⟨S16384x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_cst : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_cst_0 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v33 : Ref sig .tc := ⟨.hbm, 41, rfl⟩
abbrev main_cst_1 : Ref sig .tc := ⟨.hbm, 42, rfl⟩
abbrev main_v34 : Ref sig .tc := ⟨.hbm, 43, rfl⟩
abbrev main_cst_2 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_3 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩

abbrev nD : Nat := 1
abbrev τ : Topo := Topo.v7x

variable {F : FTy → Type} [FloatOps F]
-- ==== Kernel2.lean ====
abbrev S16384x7168 : Shape := ⟨2, ![16384, 7168]⟩
abbrev S2x1024 : Shape := ⟨2, ![2, 1024]⟩
abbrev S2x8x128x128 : Shape := ⟨4, ![2, 8, 128, 128]⟩
abbrev S2x8x128 : Shape := ⟨3, ![2, 8, 128]⟩
abbrev S16384x1024 : Shape := ⟨2, ![16384, 1024]⟩
abbrev S16384x2048 : Shape := ⟨2, ![16384, 2048]⟩
abbrev S4x1x2048 : Shape := ⟨3, ![4, 1, 2048]⟩
abbrev S2x2048x2048 : Shape := ⟨3, ![2, 2048, 2048]⟩
abbrev S2048 : Shape := ⟨1, ![2048]⟩
abbrev S1x1024 : Shape := ⟨2, ![1, 1024]⟩
abbrev S1024 : Shape := ⟨1, ![1024]⟩
abbrev S1x8x128x128 : Shape := ⟨4, ![1, 8, 128, 128]⟩
abbrev S8x128x128 : Shape := ⟨3, ![8, 128, 128]⟩
abbrev S1x8x128 : Shape := ⟨3, ![1, 8, 128]⟩
abbrev S8x128 : Shape := ⟨2, ![8, 128]⟩
abbrev S128x8 : Shape := ⟨2, ![128, 8]⟩
abbrev S1x2048 : Shape := ⟨2, ![1, 2048]⟩
abbrev S512x1024 : Shape := ⟨2, ![512, 1024]⟩
abbrev S512x2048 : Shape := ⟨2, ![512, 2048]⟩
abbrev S1x1x2048 : Shape := ⟨3, ![1, 1, 2048]⟩
abbrev S1x1024x2048 : Shape := ⟨3, ![1, 1024, 2048]⟩
abbrev S1024x2048 : Shape := ⟨2, ![1024, 2048]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩
abbrev S128x1 : Shape := ⟨2, ![128, 1]⟩

abbrev nBuf : Space → Nat
  | .hbm => 24
  | .vmem => 22
  | .smem => 0
  | _ => 0

abbrev bufTy : (tb : Table) → Fin (tcTables nBuf tb) → BufTy
  | .hbm, ⟨0, _⟩ => ⟨S16384x7168, .bf16⟩
  | .hbm, ⟨1, _⟩ => ⟨S2x1024, .f32⟩
  | .hbm, ⟨2, _⟩ => ⟨S2x1024, .f32⟩
  | .hbm, ⟨3, _⟩ => ⟨S2x8x128x128, .f32⟩
  | .hbm, ⟨4, _⟩ => ⟨S2x8x128, .f32⟩
  | .hbm, ⟨5, _⟩ => ⟨S16384x1024, .bf16⟩
  | .hbm, ⟨6, _⟩ => ⟨S16384x2048, .f32⟩
  | .hbm, ⟨7, _⟩ => ⟨S4x1x2048, .f32⟩
  | .hbm, ⟨8, _⟩ => ⟨S2x2048x2048, .f32⟩
  | .hbm, ⟨9, _⟩ => ⟨S2048, .f32⟩
  | .hbm, ⟨10, _⟩ => ⟨S2x2048x2048, .bf16⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S1x8x128x128, .f32⟩
  | .hbm, ⟨18, _⟩ => ⟨S8x128x128, .f32⟩
  | .hbm, ⟨19, _⟩ => ⟨S1x8x128, .f32⟩
  | .hbm, ⟨20, _⟩ => ⟨S8x128, .f32⟩
  | .hbm, ⟨21, _⟩ => ⟨S128x8, .f32⟩
  | .hbm, ⟨22, _⟩ => ⟨S1x2048, .f32⟩
  | .hbm, ⟨23, _⟩ => ⟨S16384x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S1x1024, .f32⟩
  | .local _ .vmem, ⟨8, _⟩ => ⟨S8x128x128, .f32⟩
  | .local _ .vmem, ⟨9, _⟩ => ⟨S128x8, .f32⟩
  | .local _ .vmem, ⟨10, _⟩ => ⟨S512x1024, .bf16⟩
  | .local _ .vmem, ⟨11, _⟩ => ⟨S512x1024, .bf16⟩
  | .local _ .vmem, ⟨12, _⟩ => ⟨S512x2048, .f32⟩
  | .local _ .vmem, ⟨13, _⟩ => ⟨S512x2048, .f32⟩
  | .local _ .vmem, ⟨14, _⟩ => ⟨S1x1x2048, .f32⟩
  | .local _ .vmem, ⟨15, _⟩ => ⟨S1x1x2048, .f32⟩
  | .local _ .vmem, ⟨16, _⟩ => ⟨S1x1024x2048, .bf16⟩
  | .local _ .vmem, ⟨17, _⟩ => ⟨S1x1024x2048, .bf16⟩
  | .local _ .vmem, ⟨18, _⟩ => ⟨S1x2048, .f32⟩
  | .local _ .vmem, ⟨19, _⟩ => ⟨S512x2048, .f32⟩
  | .local _ .vmem, ⟨20, _⟩ => ⟨S512x2048, .f32⟩
  | .local _ .vmem, ⟨21, _⟩ => ⟨S512x1024, .bf16⟩
  | _, _ => ⟨S16384x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 3 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  ![c1_i32.toNat, c1_i32_0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S16384x7168 : Shape := ⟨2, ![16384, 7168]⟩
abbrev S2x1024 : Shape := ⟨2, ![2, 1024]⟩
abbrev S2x8x128x128 : Shape := ⟨4, ![2, 8, 128, 128]⟩
abbrev S2x8x128 : Shape := ⟨3, ![2, 8, 128]⟩
abbrev S16384x1024 : Shape := ⟨2, ![16384, 1024]⟩
abbrev S16384x2048 : Shape := ⟨2, ![16384, 2048]⟩
abbrev S4x1x2048 : Shape := ⟨3, ![4, 1, 2048]⟩
abbrev S2x2048x2048 : Shape := ⟨3, ![2, 2048, 2048]⟩
abbrev S2048 : Shape := ⟨1, ![2048]⟩
abbrev S4x4096x1024 : Shape := ⟨3, ![4, 4096, 1024]⟩
abbrev S1x1024 : Shape := ⟨2, ![1, 1024]⟩
abbrev S1024 : Shape := ⟨1, ![1024]⟩
abbrev S1x8x128x128 : Shape := ⟨4, ![1, 8, 128, 128]⟩
abbrev S8x128x128 : Shape := ⟨3, ![8, 128, 128]⟩
abbrev S1x8x128 : Shape := ⟨3, ![1, 8, 128]⟩
abbrev S8x128 : Shape := ⟨2, ![8, 128]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x32x128x8x128 : Shape := ⟨5, ![4, 32, 128, 8, 128]⟩
abbrev S128x128 : Shape := ⟨2, ![128, 128]⟩
abbrev S1x128x128 : Shape := ⟨3, ![1, 128, 128]⟩
abbrev S8x4x32x128x128 : Shape := ⟨5, ![8, 4, 32, 128, 128]⟩
abbrev S128x8 : Shape := ⟨2, ![128, 8]⟩
abbrev S1x1x128x8x1 : Shape := ⟨5, ![1, 1, 128, 8, 1]⟩
abbrev S4x4096x2048 : Shape := ⟨3, ![4, 4096, 2048]⟩
abbrev S1x2048x2048 : Shape := ⟨3, ![1, 2048, 2048]⟩
abbrev S2048x2048 : Shape := ⟨2, ![2048, 2048]⟩
abbrev S1x1x2048 : Shape := ⟨3, ![1, 1, 2048]⟩

abbrev nBuf : Space → Nat
  | .hbm => 107
  | .vmem => 0
  | .smem => 0
  | _ => 0

abbrev bufTy : (tb : Table) → Fin (tcTables nBuf tb) → BufTy
  | .hbm, ⟨0, _⟩ => ⟨S16384x7168, .bf16⟩
  | .hbm, ⟨1, _⟩ => ⟨S2x1024, .f32⟩
  | .hbm, ⟨2, _⟩ => ⟨S2x1024, .f32⟩
  | .hbm, ⟨3, _⟩ => ⟨S2x8x128x128, .f32⟩
  | .hbm, ⟨4, _⟩ => ⟨S2x8x128, .f32⟩
  | .hbm, ⟨5, _⟩ => ⟨S16384x1024, .bf16⟩
  | .hbm, ⟨6, _⟩ => ⟨S16384x2048, .f32⟩
  | .hbm, ⟨7, _⟩ => ⟨S4x1x2048, .f32⟩
  | .hbm, ⟨8, _⟩ => ⟨S2x2048x2048, .f32⟩
  | .hbm, ⟨9, _⟩ => ⟨S2048, .f32⟩
  | .hbm, ⟨10, _⟩ => ⟨S16384x1024, .bf16⟩
  | .hbm, ⟨11, _⟩ => ⟨S16384x1024, .f32⟩
  | .hbm, ⟨12, _⟩ => ⟨S4x4096x1024, .f32⟩
  | .hbm, ⟨13, _⟩ => ⟨S16384x1024, .bf16⟩
  | .hbm, ⟨14, _⟩ => ⟨S16384x1024, .f32⟩
  | .hbm, ⟨15, _⟩ => ⟨S4x4096x1024, .f32⟩
  | .hbm, ⟨16, _⟩ => ⟨S16384x1024, .bf16⟩
  | .hbm, ⟨17, _⟩ => ⟨S16384x1024, .f32⟩
  | .hbm, ⟨18, _⟩ => ⟨S4x4096x1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S1024, .f32⟩
  | .hbm, ⟨23, _⟩ => ⟨S1x8x128x128, .f32⟩
  | .hbm, ⟨24, _⟩ => ⟨S8x128x128, .f32⟩
  | .hbm, ⟨25, _⟩ => ⟨S1x8x128, .f32⟩
  | .hbm, ⟨26, _⟩ => ⟨S8x128, .f32⟩
  | .hbm, ⟨27, _⟩ => ⟨S_, .f32⟩
  | .hbm, ⟨28, _⟩ => ⟨S4x4096, .f32⟩
  | .hbm, ⟨29, _⟩ => ⟨S4x4096x1, .f32⟩
  | .hbm, ⟨30, _⟩ => ⟨S_, .f32⟩
  | .hbm, ⟨31, _⟩ => ⟨S4x4096x1, .f32⟩
  | .hbm, ⟨32, _⟩ => ⟨S4x4096x1, .f32⟩
  | .hbm, ⟨33, _⟩ => ⟨S4x4096x1024, .f32⟩
  | .hbm, ⟨34, _⟩ => ⟨S4x4096x1024, .f32⟩
  | .hbm, ⟨35, _⟩ => ⟨S4x4096x1024, .f32⟩
  | .hbm, ⟨36, _⟩ => ⟨S_, .f32⟩
  | .hbm, ⟨37, _⟩ => ⟨S4x4096, .f32⟩
  | .hbm, ⟨38, _⟩ => ⟨S4x4096x1, .f32⟩
  | .hbm, ⟨39, _⟩ => ⟨S_, .f32⟩
  | .hbm, ⟨40, _⟩ => ⟨S4x4096x1, .f32⟩
  | .hbm, ⟨41, _⟩ => ⟨S4x4096x1, .f32⟩
  | .hbm, ⟨42, _⟩ => ⟨S_, .f32⟩
  | .hbm, ⟨43, _⟩ => ⟨S4x4096x1, .f32⟩
  | .hbm, ⟨44, _⟩ => ⟨S4x4096x1, .f32⟩
  | .hbm, ⟨45, _⟩ => ⟨S4x4096x1, .f32⟩
  | .hbm, ⟨46, _⟩ => ⟨S4x4096x1024, .f32⟩
  | .hbm, ⟨47, _⟩ => ⟨S4x4096x1024, .f32⟩
  | .hbm, ⟨48, _⟩ => ⟨S1x1x1024, .f32⟩
  | .hbm, ⟨49, _⟩ => ⟨S4x4096x1024, .f32⟩
  | .hbm, ⟨50, _⟩ => ⟨S4x4096x1024, .f32⟩
  | .hbm, ⟨51, _⟩ => ⟨S1x1x1024, .f32⟩
  | .hbm, ⟨52, _⟩ => ⟨S4x4096x1024, .f32⟩
  | .hbm, ⟨53, _⟩ => ⟨S4x4096x1024, .f32⟩
  | .hbm, ⟨54, _⟩ => ⟨S4x32x128x8x128, .f32⟩
  | .hbm, ⟨55, _⟩ => ⟨S_, .i1⟩
  | .hbm, ⟨56, _⟩ => ⟨S128x128, .i1⟩
  | .hbm, ⟨57, _⟩ => ⟨S128x128, .i32⟩
  | .hbm, ⟨58, _⟩ => ⟨S_, .i32⟩
  | .hbm, ⟨59, _⟩ => ⟨S128x128, .i32⟩
  | .hbm, ⟨60, _⟩ => ⟨S128x128, .i32⟩
  | .hbm, ⟨61, _⟩ => ⟨S128x128, .i32⟩
  | .hbm, ⟨62, _⟩ => ⟨S128x128, .i1⟩
  | .hbm, ⟨63, _⟩ => ⟨S_, .i1⟩
  | .hbm, ⟨64, _⟩ => ⟨S128x128, .i1⟩
  | .hbm, ⟨65, _⟩ => ⟨S128x128, .i1⟩
  | .hbm, ⟨66, _⟩ => ⟨S1x128x128, .i1⟩
  | .hbm, ⟨67, _⟩ => ⟨S_, .f32⟩
  | .hbm, ⟨68, _⟩ => ⟨S8x128x128, .f32⟩
  | .hbm, ⟨69, _⟩ => ⟨S8x128x128, .i1⟩
  | .hbm, ⟨70, _⟩ => ⟨S8x128x128, .f32⟩
  | .hbm, ⟨71, _⟩ => ⟨S8x4x32x128x128, .f32⟩
  | .hbm, ⟨72, _⟩ => ⟨S4x32x128x8x128, .f32⟩
  | .hbm, ⟨73, _⟩ => ⟨S128x8, .f32⟩
  | .hbm, ⟨74, _⟩ => ⟨S1x1x128x8x1, .f32⟩
  | .hbm, ⟨75, _⟩ => ⟨S4x32x128x8x128, .f32⟩
  | .hbm, ⟨76, _⟩ => ⟨S4x32x128x8x128, .f32⟩
  | .hbm, ⟨77, _⟩ => ⟨S4x4096x1024, .f32⟩
  | .hbm, ⟨78, _⟩ => ⟨S4x4096x1024, .f32⟩
  | .hbm, ⟨79, _⟩ => ⟨S4x4096x1024, .f32⟩
  | .hbm, ⟨80, _⟩ => ⟨S16384x1024, .f32⟩
  | .hbm, ⟨81, _⟩ => ⟨S4x4096x1024, .f32⟩
  | .hbm, ⟨82, _⟩ => ⟨S4x4096x2048, .f32⟩
  | .hbm, ⟨83, _⟩ => ⟨S1x2048x2048, .f32⟩
  | .hbm, ⟨84, _⟩ => ⟨S2048x2048, .f32⟩
  | .hbm, ⟨85, _⟩ => ⟨S4x4096x2048, .f32⟩
  | .hbm, ⟨86, _⟩ => ⟨S4x4096x2048, .f32⟩
  | .hbm, ⟨87, _⟩ => ⟨S4x4096x2048, .f32⟩
  | .hbm, ⟨88, _⟩ => ⟨S4x4096x2048, .f32⟩
  | .hbm, ⟨89, _⟩ => ⟨S4x4096x2048, .f32⟩
  | .hbm, ⟨90, _⟩ => ⟨S4x4096x2048, .f32⟩
  | .hbm, ⟨91, _⟩ => ⟨S_, .f32⟩
  | .hbm, ⟨92, _⟩ => ⟨S4x4096, .f32⟩
  | .hbm, ⟨93, _⟩ => ⟨S4x4096x1, .f32⟩
  | .hbm, ⟨94, _⟩ => ⟨S_, .f32⟩
  | .hbm, ⟨95, _⟩ => ⟨S4x4096x1, .f32⟩
  | .hbm, ⟨96, _⟩ => ⟨S4x4096x1, .f32⟩
  | .hbm, ⟨97, _⟩ => ⟨S_, .f32⟩
  | .hbm, ⟨98, _⟩ => ⟨S4x4096x1, .f32⟩
  | .hbm, ⟨99, _⟩ => ⟨S4x4096x1, .f32⟩
  | .hbm, ⟨100, _⟩ => ⟨S4x4096x1, .f32⟩
  | .hbm, ⟨101, _⟩ => ⟨S4x4096x2048, .f32⟩
  | .hbm, ⟨102, _⟩ => ⟨S4x4096x2048, .f32⟩
  | .hbm, ⟨103, _⟩ => ⟨S1x1x2048, .f32⟩
  | .hbm, ⟨104, _⟩ => ⟨S4x4096x2048, .f32⟩
  | .hbm, ⟨105, _⟩ => ⟨S4x4096x2048, .f32⟩
  | .hbm, ⟨106, _⟩ => ⟨S16384x2048, .f32⟩
  | _, _ => ⟨S16384x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_cst_0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_1 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c : Ref sig .tc := ⟨.hbm, 55, rfl⟩
abbrev main_v40 : Ref sig .tc := ⟨.hbm, 56, rfl⟩
abbrev main_call0_v0 : Ref sig .tc := ⟨.hbm, 57, rfl⟩
abbrev main_call0_c : Ref sig .tc := ⟨.hbm, 58, rfl⟩
abbrev main_call0_v1 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_call0_c_0 : Ref sig .tc := ⟨.hbm, 63, rfl⟩
abbrev main_call0_v5 : Ref sig .tc := ⟨.hbm, 64, rfl⟩
abbrev main_v41 : Ref sig .tc := ⟨.hbm, 65, rfl⟩
abbrev main_v42 : Ref sig .tc := ⟨.hbm, 66, rfl⟩
abbrev main_cst_4 : Ref sig .tc := ⟨.hbm, 67, rfl⟩
abbrev main_v43 : Ref sig .tc := ⟨.hbm, 68, rfl⟩
abbrev main_call1_v0 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_5 : Ref sig .tc := ⟨.hbm, 91, rfl⟩
abbrev main_v65 : Ref sig .tc := ⟨.hbm, 92, rfl⟩
abbrev main_v66 : Ref sig .tc := ⟨.hbm, 93, rfl⟩
abbrev main_cst_6 : Ref sig .tc := ⟨.hbm, 94, rfl⟩
abbrev main_v67 : Ref sig .tc := ⟨.hbm, 95, rfl⟩
abbrev main_v68 : Ref sig .tc := ⟨.hbm, 96, rfl⟩
abbrev main_cst_7 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩

abbrev nD : Nat := 1
abbrev τ : Topo := Topo.v7x

variable {F : FTy → Type} [FloatOps F]
-- ==== Kernel3.lean ====
abbrev S4x4096x2048 : Shape := ⟨3, ![4, 4096, 2048]⟩
abbrev S4x1x2048 : Shape := ⟨3, ![4, 1, 2048]⟩
abbrev S2x2048 : Shape := ⟨2, ![2, 2048]⟩
abbrev S2x2048x7184 : Shape := ⟨3, ![2, 2048, 7184]⟩
abbrev S1x2048x16 : Shape := ⟨3, ![1, 2048, 16]⟩
abbrev S2048x16 : Shape := ⟨2, ![2048, 16]⟩
abbrev S_ : Shape := ⟨0, ![]⟩
abbrev S2048x128 : Shape := ⟨2, ![2048, 128]⟩
abbrev S16384x2048 : Shape := ⟨2, ![16384, 2048]⟩
abbrev S1x2048 : Shape := ⟨2, ![1, 2048]⟩
abbrev S2048 : Shape := ⟨1, ![2048]⟩
abbrev S16384x7168 : Shape := ⟨2, ![16384, 7168]⟩
abbrev S16384x128 : Shape := ⟨2, ![16384, 128]⟩
abbrev S1024x2048 : Shape := ⟨2, ![1024, 2048]⟩
abbrev S1x1x2048 : Shape := ⟨3, ![1, 1, 2048]⟩
abbrev S1x2048x1792 : Shape := ⟨3, ![1, 2048, 1792]⟩
abbrev S1024x1792 : Shape := ⟨2, ![1024, 1792]⟩
abbrev S1024x128 : Shape := ⟨2, ![1024, 128]⟩
abbrev S1024 : Shape := ⟨1, ![1024]⟩
abbrev S1024x1 : Shape := ⟨2, ![1024, 1]⟩
abbrev S1x2048x256 : Shape := ⟨3, ![1, 2048, 256]⟩
abbrev S2048x256 : Shape := ⟨2, ![2048, 256]⟩
abbrev S1024x256 : Shape := ⟨2, ![1024, 256]⟩

abbrev nBuf : Space → Nat
  | .hbm => 17
  | .vmem => 15
  | .smem => 0
  | _ => 0

abbrev bufTy : (tb : Table) → Fin (tcTables nBuf tb) → BufTy
  | .hbm, ⟨0, _⟩ => ⟨S4x4096x2048, .f32⟩
  | .hbm, ⟨1, _⟩ => ⟨S4x1x2048, .f32⟩
  | .hbm, ⟨2, _⟩ => ⟨S4x1x2048, .f32⟩
  | .hbm, ⟨3, _⟩ => ⟨S2x2048, .f32⟩
  | .hbm, ⟨4, _⟩ => ⟨S2x2048x7184, .f32⟩
  | .hbm, ⟨5, _⟩ => ⟨S2x2048x7184, .bf16⟩
  | .hbm, ⟨6, _⟩ => ⟨S1x2048x16, .bf16⟩
  | .hbm, ⟨7, _⟩ => ⟨S2048x16, .bf16⟩
  | .hbm, ⟨8, _⟩ => ⟨S_, .i32⟩
  | .hbm, ⟨9, _⟩ => ⟨S_, .bf16⟩
  | .hbm, ⟨10, _⟩ => ⟨S2048x128, .bf16⟩
  | .hbm, ⟨11, _⟩ => ⟨S16384x2048, .f32⟩
  | .hbm, ⟨12, _⟩ => ⟨S1x2048, .f32⟩
  | .hbm, ⟨13, _⟩ => ⟨S2048, .f32⟩
  | .hbm, ⟨14, _⟩ => ⟨S1x2048, .f32⟩
  | .hbm, ⟨15, _⟩ => ⟨S16384x7168, .bf16⟩
  | .hbm, ⟨16, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S1x2048x1792, .bf16⟩
  | .local _ .vmem, ⟨8, _⟩ => ⟨S1x2048x1792, .bf16⟩
  | .local _ .vmem, ⟨9, _⟩ => ⟨S2048x128, .bf16⟩
  | .local _ .vmem, ⟨10, _⟩ => ⟨S1024x1792, .bf16⟩
  | .local _ .vmem, ⟨11, _⟩ => ⟨S1024x1792, .bf16⟩
  | .local _ .vmem, ⟨12, _⟩ => ⟨S1024x128, .f32⟩
  | .local _ .vmem, ⟨13, _⟩ => ⟨S1024x128, .f32⟩
  | .local _ .vmem, ⟨14, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c2_i32 : BitVec 32 := 2#32
  let v6 : BitVec 1 := Scalar.cmpi .eq arg1 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2048x1792 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1792 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Kernel3Ideal.lean ====
variable {F : FTy → Type} [FloatOps F] [Named F]
def κ : String → Option EReal := fun
  | "inv_sqrt2" => some (((Real.sqrt 2)⁻¹ : ℝ) : EReal)
  | "q_scale" => some (((8 * (Real.log 2))⁻¹ : ℝ) : EReal)
  | _ => none
-- ==== Reference3Ideal.lean ====
abbrev S4x4096x2048 : Shape := ⟨3, ![4, 4096, 2048]⟩
abbrev S4x1x2048 : Shape := ⟨3, ![4, 1, 2048]⟩
abbrev S2x2048 : Shape := ⟨2, ![2, 2048]⟩
abbrev S2x2048x7184 : Shape := ⟨3, ![2, 2048, 7184]⟩
abbrev S1x2048 : Shape := ⟨2, ![1, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S1x2048x7184 : Shape := ⟨3, ![1, 2048, 7184]⟩
abbrev S2048x7184 : Shape := ⟨2, ![2048, 7184]⟩
abbrev S4x4096x7184 : Shape := ⟨3, ![4, 4096, 7184]⟩
abbrev S4x4096x1024 : Shape := ⟨3, ![4, 4096, 1024]⟩
abbrev S4x4096x16 : Shape := ⟨3, ![4, 4096, 16]⟩
abbrev S4x4096x7168 : Shape := ⟨3, ![4, 4096, 7168]⟩
abbrev S4x4096x128 : Shape := ⟨3, ![4, 4096, 128]⟩
abbrev S16384x7168 : Shape := ⟨2, ![16384, 7168]⟩
abbrev S16384x128 : Shape := ⟨2, ![16384, 128]⟩

abbrev nBuf : Space → Nat
  | .hbm => 97
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x1x2048, .f32⟩
  | .hbm, ⟨2, _⟩ => ⟨S4x1x2048, .f32⟩
  | .hbm, ⟨3, _⟩ => ⟨S2x2048, .f32⟩
  | .hbm, ⟨4, _⟩ => ⟨S2x2048x7184, .f32⟩
  | .hbm, ⟨5, _⟩ => ⟨S1x2048, .f32⟩
  | .hbm, ⟨6, _⟩ => ⟨S2048, .f32⟩
  | .hbm, ⟨7, _⟩ => ⟨S4x4096x2048, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x2048, .f32⟩
  | .hbm, ⟨19, _⟩ => ⟨S4x4096x2048, .f32⟩
  | .hbm, ⟨20, _⟩ => ⟨S1x1x2048, .f32⟩
  | .hbm, ⟨21, _⟩ => ⟨S4x4096x2048, .f32⟩
  | .hbm, ⟨22, _⟩ => ⟨S4x4096x2048, .f32⟩
  | .hbm, ⟨23, _⟩ => ⟨S_, .f32⟩
  | .hbm, ⟨24, _⟩ => ⟨S4x1x2048, .f32⟩
  | .hbm, ⟨25, _⟩ => ⟨S4x1x2048, .f32⟩
  | .hbm, ⟨26, _⟩ => ⟨S4x4096x2048, .f32⟩
  | .hbm, ⟨27, _⟩ => ⟨S4x4096x2048, .f32⟩
  | .hbm, ⟨28, _⟩ => ⟨S4x4096x2048, .f32⟩
  | .hbm, ⟨29, _⟩ => ⟨S4x4096x2048, .f32⟩
  | .hbm, ⟨30, _⟩ => ⟨S1x2048x7184, .f32⟩
  | .hbm, ⟨31, _⟩ => ⟨S2048x7184, .f32⟩
  | .hbm, ⟨32, _⟩ => ⟨S4x4096x7184, .f32⟩
  | .hbm, ⟨33, _⟩ => ⟨S4x4096x1024, .f32⟩
  | .hbm, ⟨34, _⟩ => ⟨S4x4096x1024, .f32⟩
  | .hbm, ⟨35, _⟩ => ⟨S4x4096x1024, .f32⟩
  | .hbm, ⟨36, _⟩ => ⟨S4x4096x1024, .f32⟩
  | .hbm, ⟨37, _⟩ => ⟨S4x4096x1024, .f32⟩
  | .hbm, ⟨38, _⟩ => ⟨S4x4096x1024, .f32⟩
  | .hbm, ⟨39, _⟩ => ⟨S4x4096x1024, .f32⟩
  | .hbm, ⟨40, _⟩ => ⟨S4x4096x16, .f32⟩
  | .hbm, ⟨41, _⟩ => ⟨S_, .f32⟩
  | .hbm, ⟨42, _⟩ => ⟨S4x4096x1024, .f32⟩
  | .hbm, ⟨43, _⟩ => ⟨S4x4096x1024, .f32⟩
  | .hbm, ⟨44, _⟩ => ⟨S_, .f32⟩
  | .hbm, ⟨45, _⟩ => ⟨S_, .f32⟩
  | .hbm, ⟨46, _⟩ => ⟨S4x4096x1024, .f32⟩
  | .hbm, ⟨47, _⟩ => ⟨S4x4096x1024, .f32⟩
  | .hbm, ⟨48, _⟩ => ⟨S_, .f32⟩
  | .hbm, ⟨49, _⟩ => ⟨S4x4096x1024, .f32⟩
  | .hbm, ⟨50, _⟩ => ⟨S4x4096x1024, .f32⟩
  | .hbm, ⟨51, _⟩ => ⟨S_, .f32⟩
  | .hbm, ⟨52, _⟩ => ⟨S_, .f32⟩
  | .hbm, ⟨53, _⟩ => ⟨S4x4096x1024, .f32⟩
  | .hbm, ⟨54, _⟩ => ⟨S4x4096x1024, .f32⟩
  | .hbm, ⟨55, _⟩ => ⟨S4x4096x1024, .f32⟩
  | .hbm, ⟨56, _⟩ => ⟨S_, .f32⟩
  | .hbm, ⟨57, _⟩ => ⟨S4x4096x1024, .f32⟩
  | .hbm, ⟨58, _⟩ => ⟨S4x4096x1024, .f32⟩
  | .hbm, ⟨59, _⟩ => ⟨S4x4096x1024, .f32⟩
  | .hbm, ⟨60, _⟩ => ⟨S_, .f32⟩
  | .hbm, ⟨61, _⟩ => ⟨S4x4096x1024, .f32⟩
  | .hbm, ⟨62, _⟩ => ⟨S4x4096x1024, .f32⟩
  | .hbm, ⟨63, _⟩ => ⟨S_, .f32⟩
  | .hbm, ⟨64, _⟩ => ⟨S_, .f32⟩
  | .hbm, ⟨65, _⟩ => ⟨S4x4096x1024, .f32⟩
  | .hbm, ⟨66, _⟩ => ⟨S4x4096x1024, .f32⟩
  | .hbm, ⟨67, _⟩ => ⟨S4x4096x1024, .f32⟩
  | .hbm, ⟨68, _⟩ => ⟨S_, .f32⟩
  | .hbm, ⟨69, _⟩ => ⟨S4x4096x1024, .f32⟩
  | .hbm, ⟨70, _⟩ => ⟨S4x4096x1024, .f32⟩
  | .hbm, ⟨71, _⟩ => ⟨S4x4096x1024, .f32⟩
  | .hbm, ⟨72, _⟩ => ⟨S4x4096x1024, .f32⟩
  | .hbm, ⟨73, _⟩ => ⟨S4x4096x1024, .f32⟩
  | .hbm, ⟨74, _⟩ => ⟨S_, .f32⟩
  | .hbm, ⟨75, _⟩ => ⟨S4x4096x1024, .f32⟩
  | .hbm, ⟨76, _⟩ => ⟨S4x4096x1024, .f32⟩
  | .hbm, ⟨77, _⟩ => ⟨S_, .f32⟩
  | .hbm, ⟨78, _⟩ => ⟨S4x4096x1024, .f32⟩
  | .hbm, ⟨79, _⟩ => ⟨S4x4096x1024, .f32⟩
  | .hbm, ⟨80, _⟩ => ⟨S4x4096x1024, .f32⟩
  | .hbm, ⟨81, _⟩ => ⟨S4x4096x1024, .f32⟩
  | .hbm, ⟨82, _⟩ => ⟨S4x4096x1024, .f32⟩
  | .hbm, ⟨83, _⟩ => ⟨S_, .f32⟩
  | .hbm, ⟨84, _⟩ => ⟨S4x4096x1024, .f32⟩
  | .hbm, ⟨85, _⟩ => ⟨S4x4096x1024, .f32⟩
  | .hbm, ⟨86, _⟩ => ⟨S_, .f32⟩
  | .hbm, ⟨87, _⟩ => ⟨S4x4096x1024, .f32⟩
  | .hbm, ⟨88, _⟩ => ⟨S4x4096x1024, .f32⟩
  | .hbm, ⟨89, _⟩ => ⟨S4x4096x1024, .f32⟩
  | .hbm, ⟨90, _⟩ => ⟨S4x4096x7168, .f32⟩
  | .hbm, ⟨91, _⟩ => ⟨S_, .i32⟩
  | .hbm, ⟨92, _⟩ => ⟨S_, .f32⟩
  | .hbm, ⟨93, _⟩ => ⟨S4x4096x128, .f32⟩
  | .hbm, ⟨94, _⟩ => ⟨S4x4096x7168, .bf16⟩
  | .hbm, ⟨95, _⟩ => ⟨S16384x7168, .bf16⟩
  | .hbm, ⟨96, _⟩ => ⟨S16384x128, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_8 : Ref sig .tc := ⟨.hbm, 60, rfl⟩
abbrev main_v46 : Ref sig .tc := ⟨.hbm, 61, rfl⟩
abbrev main_v47 : Ref sig .tc := ⟨.hbm, 62, rfl⟩
abbrev main_cst_9 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_10 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_call0_v0 : Ref sig .tc := ⟨.hbm, 72, rfl⟩
abbrev main_call0_v1 : Ref sig .tc := ⟨.hbm, 73, rfl⟩
abbrev main_call0_cst : Ref sig .tc := ⟨.hbm, 74, rfl⟩
abbrev main_call0_v2 : Ref sig .tc := ⟨.hbm, 75, rfl⟩
abbrev main_call0_v3 : Ref sig .tc := ⟨.hbm, 76, rfl⟩
abbrev main_call0_cst_0 : Ref sig .tc := ⟨.hbm, 77, rfl⟩
abbrev main_call0_v4 : Ref sig .tc := ⟨.hbm, 78, rfl⟩
abbrev main_call0_v5 : Ref sig .tc := ⟨.hbm, 79, rfl⟩
abbrev main_v55 : Ref sig .tc := ⟨.hbm, 80, rfl⟩
abbrev main_call1_v0 : Ref sig .tc := ⟨.hbm, 81, rfl⟩
abbrev main_call1_v1 : Ref sig .tc := ⟨.hbm, 82, rfl⟩
abbrev main_call1_cst : Ref sig .tc := ⟨.hbm, 83, rfl⟩
abbrev main_call1_v2 : Ref sig .tc := ⟨.hbm, 84, rfl⟩
abbrev main_call1_v3 : Ref sig .tc := ⟨.hbm, 85, rfl⟩
abbrev main_call1_cst_0 : Ref sig .tc := ⟨.hbm, 86, rfl⟩
abbrev main_call1_v4 : Ref sig .tc := ⟨.hbm, 87, rfl⟩
abbrev main_call1_v5 : Ref sig .tc := ⟨.hbm, 88, rfl⟩
abbrev main_v56 : Ref sig .tc := ⟨.hbm, 89, rfl⟩
abbrev main_v57 : Ref sig .tc := ⟨.hbm, 90, rfl⟩
abbrev main_c : Ref sig .tc := ⟨.hbm, 91, rfl⟩
abbrev main_call2_v0 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩

abbrev nD : Nat := 1
abbrev τ : Topo := Topo.v7x

variable {F : FTy → Type} [FloatOps F]
-- ==== Kernel4.lean ====
abbrev S4x2048 : Shape := ⟨2, ![4, 2048]⟩
abbrev S2x2048x6144 : Shape := ⟨3, ![2, 2048, 6144]⟩
abbrev S2x6144 : Shape := ⟨2, ![2, 6144]⟩
abbrev S_ : Shape := ⟨0, ![]⟩
abbrev S8x2048 : Shape := ⟨2, ![8, 2048]⟩
abbrev S2x1x6144 : Shape := ⟨3, ![2, 1, 6144]⟩
abbrev S2x8x6144 : Shape := ⟨3, ![2, 8, 6144]⟩
abbrev S1x2048x1536 : Shape := ⟨3, ![1, 2048, 1536]⟩
abbrev S1x1x1536 : Shape := ⟨3, ![1, 1, 1536]⟩
abbrev S1x8x1536 : Shape := ⟨3, ![1, 8, 1536]⟩
abbrev S2048x1536 : Shape := ⟨2, ![2048, 1536]⟩
abbrev S8x1536 : Shape := ⟨2, ![8, 1536]⟩
abbrev S1x1536 : Shape := ⟨2, ![1, 1536]⟩

abbrev nBuf : Space → Nat
  | .hbm => 8
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S2x2048x6144, .f32⟩
  | .hbm, ⟨2, _⟩ => ⟨S2x6144, .f32⟩
  | .hbm, ⟨3, _⟩ => ⟨S_, .i32⟩
  | .hbm, ⟨4, _⟩ => ⟨S_, .f32⟩
  | .hbm, ⟨5, _⟩ => ⟨S8x2048, .f32⟩
  | .hbm, ⟨6, _⟩ => ⟨S2x1x6144, .f32⟩
  | .hbm, ⟨7, _⟩ => ⟨S2x8x6144, .f32⟩
  | .local _ .vmem, ⟨0, _⟩ => ⟨S8x2048, .f32⟩
  | .local _ .vmem, ⟨1, _⟩ => ⟨S1x2048x1536, .f32⟩
  | .local _ .vmem, ⟨2, _⟩ => ⟨S1x2048x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S4x2048 : Shape := ⟨2, ![4, 2048]⟩
abbrev S2x2048x6144 : Shape := ⟨3, ![2, 2048, 6144]⟩
abbrev S2x6144 : Shape := ⟨2, ![2, 6144]⟩
abbrev S_ : Shape := ⟨0, ![]⟩
abbrev S8x2048 : Shape := ⟨2, ![8, 2048]⟩
abbrev S1x2048x6144 : Shape := ⟨3, ![1, 2048, 6144]⟩
abbrev S2048x6144 : Shape := ⟨2, ![2048, 6144]⟩
abbrev S8x6144 : Shape := ⟨2, ![8, 6144]⟩
abbrev S1x6144 : Shape := ⟨2, ![1, 6144]⟩
abbrev S6144 : Shape := ⟨1, ![6144]⟩
abbrev S1x8x6144 : Shape := ⟨3, ![1, 8, 6144]⟩
abbrev S2x8x6144 : Shape := ⟨3, ![2, 8, 6144]⟩

abbrev nBuf : Space → Nat
  | .hbm => 34
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S2x2048x6144, .f32⟩
  | .hbm, ⟨2, _⟩ => ⟨S2x6144, .f32⟩
  | .hbm, ⟨3, _⟩ => ⟨S_, .i32⟩
  | .hbm, ⟨4, _⟩ => ⟨S_, .f32⟩
  | .hbm, ⟨5, _⟩ => ⟨S8x2048, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S_, .f32⟩
  | .hbm, ⟨12, _⟩ => ⟨S8x2048, .f32⟩
  | .hbm, ⟨13, _⟩ => ⟨S8x2048, .f32⟩
  | .hbm, ⟨14, _⟩ => ⟨S8x2048, .f32⟩
  | .hbm, ⟨15, _⟩ => ⟨S1x2048x6144, .f32⟩
  | .hbm, ⟨16, _⟩ => ⟨S2048x6144, .f32⟩
  | .hbm, ⟨17, _⟩ => ⟨S8x6144, .f32⟩
  | .hbm, ⟨18, _⟩ => ⟨S1x6144, .f32⟩
  | .hbm, ⟨19, _⟩ => ⟨S6144, .f32⟩
  | .hbm, ⟨20, _⟩ => ⟨S1x6144, .f32⟩
  | .hbm, ⟨21, _⟩ => ⟨S8x6144, .f32⟩
  | .hbm, ⟨22, _⟩ => ⟨S8x6144, .f32⟩
  | .hbm, ⟨23, _⟩ => ⟨S1x2048x6144, .f32⟩
  | .hbm, ⟨24, _⟩ => ⟨S2048x6144, .f32⟩
  | .hbm, ⟨25, _⟩ => ⟨S8x6144, .f32⟩
  | .hbm, ⟨26, _⟩ => ⟨S1x6144, .f32⟩
  | .hbm, ⟨27, _⟩ => ⟨S6144, .f32⟩
  | .hbm, ⟨28, _⟩ => ⟨S1x6144, .f32⟩
  | .hbm, ⟨29, _⟩ => ⟨S8x6144, .f32⟩
  | .hbm, ⟨30, _⟩ => ⟨S8x6144, .f32⟩
  | .hbm, ⟨31, _⟩ => ⟨S1x8x6144, .f32⟩
  | .hbm, ⟨32, _⟩ => ⟨S1x8x6144, .f32⟩
  | .hbm, ⟨33, _⟩ => ⟨S2x8x6144, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_call1_v0 : Ref sig .tc := ⟨.hbm, 6, rfl⟩
abbrev main_call1_v1 : Ref sig .tc := ⟨.hbm, 7, rfl⟩
abbrev main_call1_cst : Ref sig .tc := ⟨.hbm, 8, rfl⟩
abbrev main_call1_v2 : Ref sig .tc := ⟨.hbm, 9, rfl⟩
abbrev main_call1_v3 : Ref sig .tc := ⟨.hbm, 10, rfl⟩
abbrev main_call1_cst_0 : Ref sig .tc := ⟨.hbm, 11, rfl⟩
abbrev main_call1_v4 : Ref sig .tc := ⟨.hbm, 12, rfl⟩
abbrev main_call1_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩

abbrev nD : Nat := 1
abbrev τ : Topo := Topo.v7x

variable {F : FTy → Type} [FloatOps F]
-- ==== Kernel5.lean ====
abbrev S16384x7168 : Shape := ⟨2, ![16384, 7168]⟩
abbrev S2x1024 : Shape := ⟨2, ![2, 1024]⟩
abbrev S2x8x128x128 : Shape := ⟨4, ![2, 8, 128, 128]⟩
abbrev S2x8x128 : Shape := ⟨3, ![2, 8, 128]⟩
abbrev S16384x1024 : Shape := ⟨2, ![16384, 1024]⟩
abbrev S16384x2048 : Shape := ⟨2, ![16384, 2048]⟩
abbrev S4x1x2048 : Shape := ⟨3, ![4, 1, 2048]⟩
abbrev S2x2048x2048 : Shape := ⟨3, ![2, 2048, 2048]⟩
abbrev S2048 : Shape := ⟨1, ![2048]⟩
abbrev S1x1024 : Shape := ⟨2, ![1, 1024]⟩
abbrev S1024 : Shape := ⟨1, ![1024]⟩
abbrev S1x8x128x128 : Shape := ⟨4, ![1, 8, 128, 128]⟩
abbrev S8x128x128 : Shape := ⟨3, ![8, 128, 128]⟩
abbrev S1x8x128 : Shape := ⟨3, ![1, 8, 128]⟩
abbrev S8x128 : Shape := ⟨2, ![8, 128]⟩
abbrev S128x8 : Shape := ⟨2, ![128, 8]⟩
abbrev S1x2048 : Shape := ⟨2, ![1, 2048]⟩
abbrev S512x1024 : Shape := ⟨2, ![512, 1024]⟩
abbrev S512x2048 : Shape := ⟨2, ![512, 2048]⟩
abbrev S1x1x2048 : Shape := ⟨3, ![1, 1, 2048]⟩
abbrev S1x1024x2048 : Shape := ⟨3, ![1, 1024, 2048]⟩
abbrev S1024x2048 : Shape := ⟨2, ![1024, 2048]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩
abbrev S128x1 : Shape := ⟨2, ![128, 1]⟩

abbrev nBuf : Space → Nat
  | .hbm => 24
  | .vmem => 22
  | .smem => 0
  | _ => 0

abbrev bufTy : (tb : Table) → Fin (tcTables nBuf tb) → BufTy
  | .hbm, ⟨0, _⟩ => ⟨S16384x7168, .bf16⟩
  | .hbm, ⟨1, _⟩ => ⟨S2x1024, .f32⟩
  | .hbm, ⟨2, _⟩ => ⟨S2x1024, .f32⟩
  | .hbm, ⟨3, _⟩ => ⟨S2x8x128x128, .f32⟩
  | .hbm, ⟨4, _⟩ => ⟨S2x8x128, .f32⟩
  | .hbm, ⟨5, _⟩ => ⟨S16384x1024, .bf16⟩
  | .hbm, ⟨6, _⟩ => ⟨S16384x2048, .f32⟩
  | .hbm, ⟨7, _⟩ => ⟨S4x1x2048, .f32⟩
  | .hbm, ⟨8, _⟩ => ⟨S2x2048x2048, .f32⟩
  | .hbm, ⟨9, _⟩ => ⟨S2048, .f32⟩
  | .hbm, ⟨10, _⟩ => ⟨S2x2048x2048, .bf16⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S1x8x128x128, .f32⟩
  | .hbm, ⟨18, _⟩ => ⟨S8x128x128, .f32⟩
  | .hbm, ⟨19, _⟩ => ⟨S1x8x128, .f32⟩
  | .hbm, ⟨20, _⟩ => ⟨S8x128, .f32⟩
  | .hbm, ⟨21, _⟩ => ⟨S128x8, .f32⟩
  | .hbm, ⟨22, _⟩ => ⟨S1x2048, .f32⟩
  | .hbm, ⟨23, _⟩ => ⟨S16384x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S1x1024, .f32⟩
  | .local _ .vmem, ⟨8, _⟩ => ⟨S8x128x128, .f32⟩
  | .local _ .vmem, ⟨9, _⟩ => ⟨S128x8, .f32⟩
  | .local _ .vmem, ⟨10, _⟩ => ⟨S512x1024, .bf16⟩
  | .local _ .vmem, ⟨11, _⟩ => ⟨S512x1024, .bf16⟩
  | .local _ .vmem, ⟨12, _⟩ => ⟨S512x2048, .f32⟩
  | .local _ .vmem, ⟨13, _⟩ => ⟨S512x2048, .f32⟩
  | .local _ .vmem, ⟨14, _⟩ => ⟨S1x1x2048, .f32⟩
  | .local _ .vmem, ⟨15, _⟩ => ⟨S1x1x2048, .f32⟩
  | .local _ .vmem, ⟨16, _⟩ => ⟨S1x1024x2048, .bf16⟩
  | .local _ .vmem, ⟨17, _⟩ => ⟨S1x1024x2048, .bf16⟩
  | .local _ .vmem, ⟨18, _⟩ => ⟨S1x2048, .f32⟩
  | .local _ .vmem, ⟨19, _⟩ => ⟨S512x2048, .f32⟩
  | .local _ .vmem, ⟨20, _⟩ => ⟨S512x2048, .f32⟩
  | .local _ .vmem, ⟨21, _⟩ => ⟨S512x1024, .bf16⟩
  | _, _ => ⟨S16384x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference5Ideal.lean ====
abbrev S16384x7168 : Shape := ⟨2, ![16384, 7168]⟩
abbrev S2x1024 : Shape := ⟨2, ![2, 1024]⟩
abbrev S2x8x128x128 : Shape := ⟨4, ![2, 8, 128, 128]⟩
abbrev S2x8x128 : Shape := ⟨3, ![2, 8, 128]⟩
abbrev S16384x1024 : Shape := ⟨2, ![16384, 1024]⟩
abbrev S16384x2048 : Shape := ⟨2, ![16384, 2048]⟩
abbrev S4x1x2048 : Shape := ⟨3, ![4, 1, 2048]⟩
abbrev S2x2048x2048 : Shape := ⟨3, ![2, 2048, 2048]⟩
abbrev S2048 : Shape := ⟨1, ![2048]⟩
abbrev S4x4096x1024 : Shape := ⟨3, ![4, 4096, 1024]⟩
abbrev S1x1024 : Shape := ⟨2, ![1, 1024]⟩
abbrev S1024 : Shape := ⟨1, ![1024]⟩
abbrev S1x8x128x128 : Shape := ⟨4, ![1, 8, 128, 128]⟩
abbrev S8x128x128 : Shape := ⟨3, ![8, 128, 128]⟩
abbrev S1x8x128 : Shape := ⟨3, ![1, 8, 128]⟩
abbrev S8x128 : Shape := ⟨2, ![8, 128]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x32x128x8x128 : Shape := ⟨5, ![4, 32, 128, 8, 128]⟩
abbrev S128x128 : Shape := ⟨2, ![128, 128]⟩
abbrev S1x128x128 : Shape := ⟨3, ![1, 128, 128]⟩
abbrev S8x4x32x128x128 : Shape := ⟨5, ![8, 4, 32, 128, 128]⟩
abbrev S128x8 : Shape := ⟨2, ![128, 8]⟩
abbrev S1x1x128x8x1 : Shape := ⟨5, ![1, 1, 128, 8, 1]⟩
abbrev S4x4096x2048 : Shape := ⟨3, ![4, 4096, 2048]⟩
abbrev S1x2048x2048 : Shape := ⟨3, ![1, 2048, 2048]⟩
abbrev S2048x2048 : Shape := ⟨2, ![2048, 2048]⟩

abbrev nBuf : Space → Nat
  | .hbm => 91
  | .vmem => 0
  | .smem => 0
  | _ => 0

abbrev bufTy : (tb : Table) → Fin (tcTables nBuf tb) → BufTy
  | .hbm, ⟨0, _⟩ => ⟨S16384x7168, .bf16⟩
  | .hbm, ⟨1, _⟩ => ⟨S2x1024, .f32⟩
  | .hbm, ⟨2, _⟩ => ⟨S2x1024, .f32⟩
  | .hbm, ⟨3, _⟩ => ⟨S2x8x128x128, .f32⟩
  | .hbm, ⟨4, _⟩ => ⟨S2x8x128, .f32⟩
  | .hbm, ⟨5, _⟩ => ⟨S16384x1024, .bf16⟩
  | .hbm, ⟨6, _⟩ => ⟨S16384x2048, .f32⟩
  | .hbm, ⟨7, _⟩ => ⟨S4x1x2048, .f32⟩
  | .hbm, ⟨8, _⟩ => ⟨S2x2048x2048, .f32⟩
  | .hbm, ⟨9, _⟩ => ⟨S2048, .f32⟩
  | .hbm, ⟨10, _⟩ => ⟨S16384x1024, .bf16⟩
  | .hbm, ⟨11, _⟩ => ⟨S16384x1024, .f32⟩
  | .hbm, ⟨12, _⟩ => ⟨S4x4096x1024, .f32⟩
  | .hbm, ⟨13, _⟩ => ⟨S16384x1024, .bf16⟩
  | .hbm, ⟨14, _⟩ => ⟨S16384x1024, .f32⟩
  | .hbm, ⟨15, _⟩ => ⟨S4x4096x1024, .f32⟩
  | .hbm, ⟨16, _⟩ => ⟨S16384x1024, .bf16⟩
  | .hbm, ⟨17, _⟩ => ⟨S16384x1024, .f32⟩
  | .hbm, ⟨18, _⟩ => ⟨S4x4096x1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S1024, .f32⟩
  | .hbm, ⟨23, _⟩ => ⟨S1x8x128x128, .f32⟩
  | .hbm, ⟨24, _⟩ => ⟨S8x128x128, .f32⟩
  | .hbm, ⟨25, _⟩ => ⟨S1x8x128, .f32⟩
  | .hbm, ⟨26, _⟩ => ⟨S8x128, .f32⟩
  | .hbm, ⟨27, _⟩ => ⟨S_, .f32⟩
  | .hbm, ⟨28, _⟩ => ⟨S4x4096, .f32⟩
  | .hbm, ⟨29, _⟩ => ⟨S4x4096x1, .f32⟩
  | .hbm, ⟨30, _⟩ => ⟨S_, .f32⟩
  | .hbm, ⟨31, _⟩ => ⟨S4x4096x1, .f32⟩
  | .hbm, ⟨32, _⟩ => ⟨S4x4096x1, .f32⟩
  | .hbm, ⟨33, _⟩ => ⟨S4x4096x1024, .f32⟩
  | .hbm, ⟨34, _⟩ => ⟨S4x4096x1024, .f32⟩
  | .hbm, ⟨35, _⟩ => ⟨S4x4096x1024, .f32⟩
  | .hbm, ⟨36, _⟩ => ⟨S_, .f32⟩
  | .hbm, ⟨37, _⟩ => ⟨S4x4096, .f32⟩
  | .hbm, ⟨38, _⟩ => ⟨S4x4096x1, .f32⟩
  | .hbm, ⟨39, _⟩ => ⟨S_, .f32⟩
  | .hbm, ⟨40, _⟩ => ⟨S4x4096x1, .f32⟩
  | .hbm, ⟨41, _⟩ => ⟨S4x4096x1, .f32⟩
  | .hbm, ⟨42, _⟩ => ⟨S_, .f32⟩
  | .hbm, ⟨43, _⟩ => ⟨S4x4096x1, .f32⟩
  | .hbm, ⟨44, _⟩ => ⟨S4x4096x1, .f32⟩
  | .hbm, ⟨45, _⟩ => ⟨S4x4096x1, .f32⟩
  | .hbm, ⟨46, _⟩ => ⟨S4x4096x1024, .f32⟩
  | .hbm, ⟨47, _⟩ => ⟨S4x4096x1024, .f32⟩
  | .hbm, ⟨48, _⟩ => ⟨S1x1x1024, .f32⟩
  | .hbm, ⟨49, _⟩ => ⟨S4x4096x1024, .f32⟩
  | .hbm, ⟨50, _⟩ => ⟨S4x4096x1024, .f32⟩
  | .hbm, ⟨51, _⟩ => ⟨S1x1x1024, .f32⟩
  | .hbm, ⟨52, _⟩ => ⟨S4x4096x1024, .f32⟩
  | .hbm, ⟨53, _⟩ => ⟨S4x4096x1024, .f32⟩
  | .hbm, ⟨54, _⟩ => ⟨S4x32x128x8x128, .f32⟩
  | .hbm, ⟨55, _⟩ => ⟨S_, .i1⟩
  | .hbm, ⟨56, _⟩ => ⟨S128x128, .i1⟩
  | .hbm, ⟨57, _⟩ => ⟨S128x128, .i32⟩
  | .hbm, ⟨58, _⟩ => ⟨S_, .i32⟩
  | .hbm, ⟨59, _⟩ => ⟨S128x128, .i32⟩
  | .hbm, ⟨60, _⟩ => ⟨S128x128, .i32⟩
  | .hbm, ⟨61, _⟩ => ⟨S128x128, .i32⟩
  | .hbm, ⟨62, _⟩ => ⟨S128x128, .i1⟩
  | .hbm, ⟨63, _⟩ => ⟨S_, .i1⟩
  | .hbm, ⟨64, _⟩ => ⟨S128x128, .i1⟩
  | .hbm, ⟨65, _⟩ => ⟨S128x128, .i1⟩
  | .hbm, ⟨66, _⟩ => ⟨S1x128x128, .i1⟩
  | .hbm, ⟨67, _⟩ => ⟨S_, .f32⟩
  | .hbm, ⟨68, _⟩ => ⟨S8x128x128, .f32⟩
  | .hbm, ⟨69, _⟩ => ⟨S8x128x128, .i1⟩
  | .hbm, ⟨70, _⟩ => ⟨S8x128x128, .f32⟩
  | .hbm, ⟨71, _⟩ => ⟨S8x4x32x128x128, .f32⟩
  | .hbm, ⟨72, _⟩ => ⟨S4x32x128x8x128, .f32⟩
  | .hbm, ⟨73, _⟩ => ⟨S128x8, .f32⟩
  | .hbm, ⟨74, _⟩ => ⟨S1x1x128x8x1, .f32⟩
  | .hbm, ⟨75, _⟩ => ⟨S4x32x128x8x128, .f32⟩
  | .hbm, ⟨76, _⟩ => ⟨S4x32x128x8x128, .f32⟩
  | .hbm, ⟨77, _⟩ => ⟨S4x4096x1024, .f32⟩
  | .hbm, ⟨78, _⟩ => ⟨S4x4096x1024, .f32⟩
  | .hbm, ⟨79, _⟩ => ⟨S4x4096x1024, .f32⟩
  | .hbm, ⟨80, _⟩ => ⟨S16384x1024, .f32⟩
  | .hbm, ⟨81, _⟩ => ⟨S4x4096x1024, .f32⟩
  | .hbm, ⟨82, _⟩ => ⟨S4x4096x2048, .f32⟩
  | .hbm, ⟨83, _⟩ => ⟨S1x2048x2048, .f32⟩
  | .hbm, ⟨84, _⟩ => ⟨S2048x2048, .f32⟩
  | .hbm, ⟨85, _⟩ => ⟨S4x4096x2048, .f32⟩
  | .hbm, ⟨86, _⟩ => ⟨S4x4096x2048, .f32⟩
  | .hbm, ⟨87, _⟩ => ⟨S4x4096x2048, .f32⟩
  | .hbm, ⟨88, _⟩ => ⟨S4x4096x2048, .f32⟩
  | .hbm, ⟨89, _⟩ => ⟨S4x4096x2048, .f32⟩
  | .hbm, ⟨90, _⟩ => ⟨S16384x2048, .f32⟩
  | _, _ => ⟨S16384x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_cst_0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_1 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c : Ref sig .tc := ⟨.hbm, 55, rfl⟩
abbrev main_v40 : Ref sig .tc := ⟨.hbm, 56, rfl⟩
abbrev main_call0_v0 : Ref sig .tc := ⟨.hbm, 57, rfl⟩
abbrev main_call0_c : Ref sig .tc := ⟨.hbm, 58, rfl⟩
abbrev main_call0_v1 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_call0_c_0 : Ref sig .tc := ⟨.hbm, 63, rfl⟩
abbrev main_call0_v5 : Ref sig .tc := ⟨.hbm, 64, rfl⟩
abbrev main_v41 : Ref sig .tc := ⟨.hbm, 65, rfl⟩
abbrev main_v42 : Ref sig .tc := ⟨.hbm, 66, rfl⟩
abbrev main_cst_4 : Ref sig .tc := ⟨.hbm, 67, rfl⟩
abbrev main_v43 : Ref sig .tc := ⟨.hbm, 68, rfl⟩
abbrev main_call1_v0 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩

abbrev nD : Nat := 1
abbrev τ : Topo := Topo.v7x

variable {F : FTy → Type} [FloatOps F]
-- ==== Proof.Tile.lean ====
/- One head of one column tile, as functions of the scores' operands for any number of keys, and their values at an index. -/
module

public import Idealize.ShloMosaic.Lib.Pointwise
public import Idealize.ShloMosaic.Lib.MatmulPlain
public import Idealize.ShloMosaic.Lib.WordCmp
public import Idealize.ShloMosaic.Lib.Pipeline.ValueKit
public import Idealize.ShloMosaic.Lib.Pipeline.ReadBack

@[expose] public section

set_option maxRecDepth 16384

noncomputable section

namespace Cert.Tile

open Idealize.ShloMosaic Idealize.ShloMosaic.TcCoe Idealize.SL.Sem
open Idealize.ShloMosaic.Pointwise

/-- A matrix shape. -/
abbrev Mat (a b : ℕ) : Shape := ⟨2, ![a, b]⟩
/-- A stack of matrices. -/
abbrev Cub (a b c : ℕ) : Shape := ⟨3, ![a, b, c]⟩

section Defs
variable {F : FTy → Type} [FloatOps F]

/-- The diagonal square of scores: keys by queries, a key after its query at minus infinity. -/
def sq (rhs : FVec F (Cub 1 256 256) .bf16) (kk : FVec F (Mat 256 256) .bf16)
    (h1 : (Cub 1 256 256).ShapeCasts (Mat 256 256)) (h2 : (Mat 256 256).Iotas .tc 32 [0]) (h3 : (Mat 256 256).Iotas .tc 32 [1]) :
    FVec F (Mat 256 256) .f32 :=
  select (cmpi .sle (iota .tc (Mat 256 256) 32 [0] h2) (iota .tc (Mat 256 256) 32 [1] h3))
    (matmul (DotDims.plain 256 256 256) none kk (shapeCast (Mat 256 256) rhs h1) (constant (Mat 256 256) .f32 0x00000000#32))
    (broadcast (Mat 256 256) (Scalar.ofBits .f32 0xFF800000#32))

/-- The scores of the keys before the tile. -/
def full {n : ℕ} (rhs : FVec F (Cub 1 256 256) .bf16) (kk : FVec F (Mat n 256) .bf16)
    (h1 : (Cub 1 256 256).ShapeCasts (Mat 256 256)) : FVec F (Mat n 256) .f32 :=
  matmul (DotDims.plain n 256 256) none kk (shapeCast (Mat 256 256) rhs h1) (constant (Mat n 256) .f32 0x00000000#32)

/-- The largest score of each column. -/
def colMax {n : ℕ} (s : FVec F (Mat n 256) .f32) (h : (Mat n 256).Reduces [0] ⟨1, ![256]⟩) (h' : Shape.ShapeCasts ⟨1, ![256]⟩ (Mat 1 256)) :
    FVec F (Mat 1 256) .f32 :=
  shapeCast (Mat 1 256) (multiReduction .maximumf [0] ⟨1, ![256]⟩ s 0xFF800000#32 h (.inl rfl) rfl) h'

/-- The unnormalized weights times the values, and below them the weights' sum. -/
def pv {n : ℕ} (s : FVec F (Cub 1 n 256) .f32) (mx : FVec F (Cub 1 1 256) .f32) (vt : FVec F (Cub 1 80 n) .bf16)
    (h1 : (Cub 1 80 n).ShapeCasts (Mat 80 n)) (h2 : (Cub 1 n 256).ShapeCasts (Mat n 256)) (h3 : (Cub 1 1 256).ShapeCasts (Mat 1 256))
    (h4 : (Mat 1 256).Broadcasts (Mat n 256)) (h5 : FTy.bf16.bits < FTy.f32.bits) : FVec F (Mat 80 256) .f32 :=
  matmul (DotDims.plain 80 n 256) none (shapeCast (Mat 80 n) vt h1)
    (truncf .bf16 (exp2 (subf (shapeCast (Mat n 256) s h2) (broadcastTo (Mat n 256) (shapeCast (Mat 1 256) mx h3) h4))) h5)
    (constant (Mat 80 256) .f32 0x00000000#32)

/-- One head's columns: values over the weights' sum. -/
def norm (a : FVec F (Mat 80 256) .f32) (h1 : (Mat 80 256).Slices ![0, 0] (Mat 64 256)) (h2 : (Mat 80 256).Slices ![64, 0] (Mat 1 256))
    (h3 : (Mat 1 256).Broadcasts (Mat 64 256)) : FVec F (Mat 64 256) .f32 :=
  divf (extractStridedSlice (Mat 64 256) ![0, 0] a h1) (broadcastTo (Mat 64 256) (extractStridedSlice (Mat 1 256) ![64, 0] a h2) h3)

/-- The tile's rows of the two heads side by side, times the gates. -/
def emit (x0 x1 : FVec F (Mat 64 256) .f32) (g : FVec F (Mat 256 128) .bf16)
    (h1 : Shape.Concatenates [Mat 64 256, Mat 64 256] (Mat 128 256) 0) (h2 : (Mat 128 256).Transposes [1, 0] (Mat 256 128))
    (h3 : FTy.bf16.bits < FTy.f32.bits) : FVec F (Mat 256 128) .bf16 :=
  truncf .bf16 (mulf (transpose (Mat 256 128) [1, 0] (concatenate (Mat 128 256) 0 [⟨Mat 64 256, x0⟩, ⟨Mat 64 256, x1⟩] h1) h2) (extf .f32 g h3)) h3

end Defs

section Ideal

/-- The word of minus infinity is the least extended real. -/
theorem negInf : Ideal.ofBits .f32 0xFF800000#32 = ⊥ := by
  simp [Ideal.ofBits, Ideal.ieee]

theorem sq_apply (rhs : FVec Ideal (Cub 1 256 256) .bf16) (kk : FVec Ideal (Mat 256 256) .bf16) (h1 h2 h3) (k q : Fin 256) :
    sq (F := Ideal) rhs kk h1 h2 h3 (ix2 k q) = if k.val ≤ q.val then ∑ l : Fin 256, kk (ix2 k l) * rhs (ix3 0 l q) else ⊥ := by
  pointwise [sq]
  rw [WordCmp.cmpi_sle_ofNat (by omega) (by omega), Scalar.select_decide, negInf]

theorem full_apply {n : ℕ} (rhs : FVec Ideal (Cub 1 256 256) .bf16) (kk : FVec Ideal (Mat n 256) .bf16) (h1) (k : Fin n) (q : Fin 256) :
    full (F := Ideal) rhs kk h1 (ix2 k q) = ∑ l : Fin 256, kk (ix2 k l) * rhs (ix3 0 l q) := by
  rw [full, ix2_eq_valueIdx]
  refine (Ideal.matmul_plain_apply _ _ _ _ k q).trans ?_
  simp only [← ix2_eq_valueIdx]
  pointwise

theorem colMax_apply {n : ℕ} (s : FVec Ideal (Mat n 256) .f32) (h h') (q : Fin 256) :
    colMax (F := Ideal) s h h' (ix2 0 q) = Finset.univ.fold max ⊥ fun k : Fin n => s (ix2 k q) := by
  pointwise [colMax]
  rw [negInf]

theorem shapeCast_drop {α : Type} {a b : ℕ} (v : (Cub 1 a b).Idx → α) (h : (Cub 1 a b).ShapeCasts (Mat a b)) (i : Fin a) (j : Fin b) :
    shapeCast (Mat a b) v h (ix2 i j) = v (ix3 0 i j) := by
  refine (shapeCast_dropUnit_apply ![a, b] v h (ix2 i j)).trans (congrArg v ?_)
  funext x; apply Fin.ext
  match x with
  | ⟨0, _⟩ => rfl
  | ⟨1, _⟩ => rfl
  | ⟨2, _⟩ => rfl

theorem shapeCast_add {α : Type} {a b : ℕ} (v : (Mat a b).Idx → α) (h : (Mat a b).ShapeCasts (Cub 1 a b)) (i : Fin a) (j : Fin b) :
    shapeCast (Cub 1 a b) v h (ix3 0 i j) = v (ix2 i j) := by
  refine (shapeCast_addUnit_apply ![a, b] v h (ix3 0 i j)).trans (congrArg v ?_)
  funext x; apply Fin.ext
  match x with
  | ⟨0, _⟩ => rfl
  | ⟨1, _⟩ => rfl

theorem pv_apply {n : ℕ} (s : FVec Ideal (Cub 1 n 256) .f32) (mx : FVec Ideal (Cub 1 1 256) .f32) (vt : FVec Ideal (Cub 1 80 n) .bf16)
    (h1 h2 h3 h4 h5) (i : Fin 80) (q : Fin 256) :
    pv (F := Ideal) s mx vt h1 h2 h3 h4 h5 (ix2 i q) = ∑ k : Fin n, vt (ix3 0 i k) * Ideal.exp2 (s (ix3 0 k q) - mx (ix3 0 0 q)) := by
  rw [pv, ix2_eq_valueIdx]
  refine (Ideal.matmul_plain_apply _ _ _ _ i q).trans ?_
  have h0 : constant (F := Ideal) (Mat 80 256) .f32 0x00000000#32 (ix2 i q) = 0 := by pointwise
  simp only [← ix2_eq_valueIdx]
  rw [h0, zero_add]
  refine Finset.sum_congr rfl fun k _ => congrArg₂ (· * ·) (shapeCast_drop vt h1 i k) (congrArg Ideal.exp2 (congrArg₂ (· - ·) (shapeCast_drop s h2 k q) ?_))
  pointwise

theorem norm_apply (a : FVec Ideal (Mat 80 256) .f32) (h1 h2 h3) (i : Fin 64) (q : Fin 256) :
    norm (F := Ideal) a h1 h2 h3 (ix2 i q) = Ideal.div (a (ix2 ⟨i, by omega⟩ q)) (a (ix2 64 q)) := by
  pointwise [norm]

theorem emit_apply (x0 x1 : FVec Ideal (Mat 64 256) .f32) (g : FVec Ideal (Mat 256 128) .bf16) (h1 h2 h3) (r : Fin 256) (d : Fin 128) :
    emit (F := Ideal) x0 x1 g h1 h2 h3 (ix2 r d)
      = (if h : d.val < 64 then x0 (ix2 ⟨d, h⟩ r) else x1 (ix2 ⟨d - 64, by omega⟩ r)) * g (ix2 r d) := by
  pointwise [emit]

/-! ## The weights of one pair of heads, from its keys, values and queries -/

variable (K : (Mat 4096 256).Idx → EReal) (V : (Cub 2 80 4096).Idx → EReal) (Q : (Cub 2 256 4096).Idx → EReal) (G : (Mat 4096 128).Idx → EReal)

/-- The score of key `k` at query `q`, a key after its query at minus infinity. -/
def score (h : Fin 2) (k q : Fin 4096) : EReal :=
  if k.val ≤ q.val then ∑ l : Fin 256, K (ix2 k l) * Q (ix3 h l q) else ⊥

/-- The largest score of a query. -/
def top (h : Fin 2) (q : Fin 4096) : EReal := Finset.univ.fold max ⊥ fun k => score K Q h k q

/-- Row `i` of the values, weighted by the scores of a query. -/
def acc (h : Fin 2) (i : Fin 80) (q : Fin 4096) : EReal :=
  ∑ k : Fin 4096, V (ix3 h i k) * Ideal.exp2 (score K Q h k q - top K Q h q)

/-- One column of one head, over the weights' sum. -/
def head (h : Fin 2) (i : Fin 64) (q : Fin 4096) : EReal :=
  Ideal.div (acc K V Q h ⟨i, by omega⟩ q) (acc K V Q h 64 q)

/-- The gated attention of a pair of heads. -/
def out (q : Fin 4096) (d : Fin 128) : EReal :=
  (if h : d.val < 64 then head K V Q 0 ⟨d, h⟩ q else head K V Q 1 ⟨d - 64, by omega⟩ q) * G (ix2 q d)

variable {K V Q G}

theorem score_after {h : Fin 2} {k q : Fin 4096} (hk : q.val < k.val) : score K Q h k q = ⊥ := if_neg (by omega)

/-- A sum over the keys up to a tile's last is the sum over all: a later key weighs nothing. -/
theorem acc_prefix {n : ℕ} (hn : n ≤ 4096) (h : Fin 2) (i : Fin 80) (q : Fin 4096) (hq : q.val < n) :
    ∑ k : Fin n, V (ix3 h i ⟨k, by omega⟩) * Ideal.exp2 (score K Q h ⟨k, by omega⟩ q - top K Q h q) = acc K V Q h i q := by
  have e := Finset.sum_map (Finset.univ : Finset (Fin n)) (Fin.castLEEmb hn)
    (fun k : Fin 4096 => V (ix3 h i k) * Ideal.exp2 (score K Q h k q - top K Q h q))
  refine e.symm.trans (Finset.sum_subset (Finset.subset_univ _) fun k _ hk => ?_)
  have hk' : q.val < k.val := by
    by_contra hc
    exact hk (Finset.mem_map.mpr ⟨⟨k, by omega⟩, Finset.mem_univ _, Fin.ext rfl⟩)
  rw [score_after hk', EReal.bot_sub, Ideal.exp2_bot, mul_zero]

/-- The maximum over the square and over the keys before it is the maximum over all keys. -/
theorem top_split {n nb : ℕ} (hn : n = nb + 256) (hle : n ≤ 4096) (h : Fin 2) (r : Fin 256) :
    max (Finset.univ.fold max ⊥ fun k : Fin 256 => score K Q h ⟨nb + k, by omega⟩ ⟨nb + r, by omega⟩)
        (Finset.univ.fold max ⊥ fun k : Fin nb => score K Q h ⟨k, by omega⟩ ⟨nb + r, by omega⟩)
      = top K Q h ⟨nb + r, by omega⟩ := by
  refine eq_of_forall_ge_iff fun c => ?_
  rw [top, max_le_iff, Finset.fold_max_le, Finset.fold_max_le, Finset.fold_max_le]
  constructor
  · rintro ⟨⟨hb, h1⟩, -, h2⟩
    refine ⟨hb, fun k _ => ?_⟩
    by_cases hk : k.val < nb
    · exact h2 ⟨k, hk⟩ (Finset.mem_univ _)
    · by_cases hk' : k.val < n
      · have := h1 ⟨k - nb, by omega⟩ (Finset.mem_univ _)
        rwa [show (⟨nb + (k.val - nb), by omega⟩ : Fin 4096) = k from Fin.ext (by show nb + (k.val - nb) = k.val; omega)] at this
      · rw [score_after (by show nb + r.val < k.val; omega)]; exact bot_le
  · rintro ⟨hb, h1⟩
    exact ⟨⟨hb, fun k _ => h1 _ (Finset.mem_univ _)⟩, hb, fun k _ => h1 _ (Finset.mem_univ _)⟩

/-- The first tile has no keys before its square. -/
theorem top_first (h : Fin 2) (r : Fin 256) :
    (Finset.univ.fold max ⊥ fun k : Fin 256 => score K Q h ⟨k, by omega⟩ ⟨r, by omega⟩) = top K Q h ⟨r, by omega⟩ := by
  refine eq_of_forall_ge_iff fun c => ?_
  rw [top, Finset.fold_max_le, Finset.fold_max_le]
  constructor
  · rintro ⟨hb, h1⟩
    refine ⟨hb, fun k _ => ?_⟩
    by_cases hk : k.val < 256
    · exact h1 ⟨k, hk⟩ (Finset.mem_univ _)
    · rw [score_after (by show r.val < k.val; omega)]; exact bot_le
  · rintro ⟨hb, h1⟩
    exact ⟨hb, fun k _ => h1 _ (Finset.mem_univ _)⟩

theorem sq_score {n nb : ℕ} (hn : n = nb + 256) (hle : n ≤ 4096) (h : Fin 2) {rhs : FVec Ideal (Cub 1 256 256) .bf16}
    {kk : FVec Ideal (Mat 256 256) .bf16} (hq : ∀ l r, rhs (ix3 0 l r) = Q (ix3 h l ⟨nb + r.val, by omega⟩))
    (hk : ∀ k l, kk (ix2 k l) = K (ix2 ⟨nb + k.val, by omega⟩ l)) (h1 h2 h3) (k r : Fin 256) :
    sq (F := Ideal) rhs kk h1 h2 h3 (ix2 k r) = score K Q h ⟨nb + k, by omega⟩ ⟨nb + r, by omega⟩ := by
  rw [sq_apply, score]
  simp only [hq, hk, Nat.add_le_add_iff_left]

theorem full_score {n nb : ℕ} (hn : n = nb + 256) (hle : n ≤ 4096) (h : Fin 2) {rhs : FVec Ideal (Cub 1 256 256) .bf16}
    {kk : FVec Ideal (Mat nb 256) .bf16} (hq : ∀ l r, rhs (ix3 0 l r) = Q (ix3 h l ⟨nb + r.val, by omega⟩))
    (hk : ∀ k l, kk (ix2 k l) = K (ix2 ⟨k.val, by omega⟩ l)) (h1) (k : Fin nb) (r : Fin 256) :
    full (F := Ideal) rhs kk h1 (ix2 k r) = score K Q h ⟨k, by omega⟩ ⟨nb + r, by omega⟩ := by
  rw [full_apply, score, if_pos (by show k.val ≤ nb + r.val; omega)]
  simp only [hq, hk]

theorem max_top {n nb : ℕ} (hn : n = nb + 256) (hle : n ≤ 4096) (h : Fin 2) {a : FVec Ideal (Mat 256 256) .f32} {b : FVec Ideal (Mat nb 256) .f32}
    (ha : ∀ k r, a (ix2 k r) = score K Q h ⟨nb + k.val, by omega⟩ ⟨nb + r.val, by omega⟩)
    (hb : ∀ k r, b (ix2 k r) = score K Q h ⟨k.val, by omega⟩ ⟨nb + r.val, by omega⟩) (h1 h2 h3 h4 h5) (r : Fin 256) :
    shapeCast (Cub 1 1 256) (maximumf (F := Ideal) (colMax (F := Ideal) a h1 h2) (colMax (F := Ideal) b h3 h4)) h5 (ix3 0 0 r)
      = top K Q h ⟨nb + r, by omega⟩ := by
  rw [shapeCast_add]
  refine (congrArg₂ max (colMax_apply a h1 h2 r) (colMax_apply b h3 h4 r)).trans ?_
  simp only [ha, hb]
  exact top_split hn hle h r

theorem max_first (h : Fin 2) {a : FVec Ideal (Mat 256 256) .f32}
    (ha : ∀ k r, a (ix2 k r) = score K Q h ⟨k.val, by omega⟩ ⟨r.val, by omega⟩) (h1 h2 h5) (r : Fin 256) :
    shapeCast (Cub 1 1 256) (colMax (F := Ideal) a h1 h2) h5 (ix3 0 0 r) = top K Q h ⟨r, by omega⟩ := by
  rw [shapeCast_add, colMax_apply]
  simp only [ha]
  exact top_first h r

/-- A tile's rows from its scores, their maxima, the values and the gates. -/
theorem tile_out {n nb : ℕ} (hn : n = nb + 256) (hle : n ≤ 4096) {s0 s1 : FVec Ideal (Cub 1 n 256) .f32} {m0 m1 : FVec Ideal (Cub 1 1 256) .f32}
    {v0 v1 : FVec Ideal (Cub 1 80 n) .bf16} {g : FVec Ideal (Mat 256 128) .bf16}
    (hs0 : ∀ k r, s0 (ix3 0 k r) = score K Q 0 ⟨k.val, by omega⟩ ⟨nb + r.val, by omega⟩)
    (hs1 : ∀ k r, s1 (ix3 0 k r) = score K Q 1 ⟨k.val, by omega⟩ ⟨nb + r.val, by omega⟩)
    (hm0 : ∀ r, m0 (ix3 0 0 r) = top K Q 0 ⟨nb + r.val, by omega⟩)
    (hm1 : ∀ r, m1 (ix3 0 0 r) = top K Q 1 ⟨nb + r.val, by omega⟩)
    (hv0 : ∀ i k, v0 (ix3 0 i k) = V (ix3 0 i ⟨k.val, by omega⟩))
    (hv1 : ∀ i k, v1 (ix3 0 i k) = V (ix3 1 i ⟨k.val, by omega⟩))
    (hg : ∀ r d, g (ix2 r d) = G (ix2 ⟨nb + r.val, by omega⟩ d))
    (a1 a2 a3 a4 a5 b1 b2 b3 b4 b5 c1 c2 c3 d1 d2 d3 e1 e2 e3) (r : Fin 256) (d : Fin 128) :
    emit (F := Ideal) (norm (F := Ideal) (pv (F := Ideal) s0 m0 v0 a1 a2 a3 a4 a5) c1 c2 c3)
      (norm (F := Ideal) (pv (F := Ideal) s1 m1 v1 b1 b2 b3 b4 b5) d1 d2 d3) g e1 e2 e3 (ix2 r d)
      = out K V Q G ⟨nb + r, by omega⟩ d := by
  have hq : (⟨nb + r.val, by omega⟩ : Fin 4096).val < n := by show nb + r.val < n; omega
  have p0 := fun i => (pv_apply s0 m0 v0 a1 a2 a3 a4 a5 i r).trans
    ((Finset.sum_congr rfl fun k _ => congrArg₂ (· * ·) (hv0 i k) (congrArg Ideal.exp2 (congrArg₂ (· - ·) (hs0 k r) (hm0 r)))).trans (acc_prefix (V := V) hle 0 i ⟨nb + r.val, by omega⟩ hq))
  have p1 := fun i => (pv_apply s1 m1 v1 b1 b2 b3 b4 b5 i r).trans
    ((Finset.sum_congr rfl fun k _ => congrArg₂ (· * ·) (hv1 i k) (congrArg Ideal.exp2 (congrArg₂ (· - ·) (hs1 k r) (hm1 r)))).trans (acc_prefix (V := V) hle 1 i ⟨nb + r.val, by omega⟩ hq))
  rw [emit_apply, hg, out]
  simp only [norm_apply, p0, p1, head]

/-! ## Reading stores back -/

variable {sig : RefSig} {κ : Kind} {Val : EltTy → Type} {e : EltTy} [∀ e, Nonempty (Val e)]

/-- A load covered by stores that are blocks of one array reads that array. -/
theorem read_pieces {s : Shape} (v : View sig κ .vmem s e) (A : s.Idx → Val e) (L L' : List (View.Piece Val s e)) (B : LoadRect s) (hL : View.PiecesOf A L)
    (j : B.shape.Idx) (hc : ∃ p ∈ L, B.idx j ∈ p.1.set) : v.readCov (L ++ L') B j = A (B.idx j) := by
  rw [View.readCov_eq_canon']
  exact View.canon_append_of_piecesOf A L' L hL _ hc

/-! ## The same at a function that unfolds to one of these -/

theorem store_score {a b : ℕ} {f : FVec Ideal (Cub 1 a b) .f32} (v : FVec Ideal (Mat a b) .f32) (h : (Mat a b).ShapeCasts (Cub 1 a b))
    (e : f = shapeCast (Cub 1 a b) v h) {c : EReal} (i : Fin a) (j : Fin b) (hv : v (ix2 i j) = c) : f (ix3 0 i j) = c := by
  subst e; exact (shapeCast_add v h i j).trans hv

theorem is_sq {n nb : ℕ} (hn : n = nb + 256) (hle : n ≤ 4096) (h : Fin 2) {f : FVec Ideal (Mat 256 256) .f32} {rhs : FVec Ideal (Cub 1 256 256) .bf16}
    {kk : FVec Ideal (Mat 256 256) .bf16} {h1 h2 h3} (e : f = sq rhs kk h1 h2 h3) (hq : ∀ l r, rhs (ix3 0 l r) = Q (ix3 h l ⟨nb + r.val, by omega⟩))
    (hk : ∀ k l, kk (ix2 k l) = K (ix2 ⟨nb + k.val, by omega⟩ l)) (k r : Fin 256) :
    f (ix2 k r) = score K Q h ⟨nb + k, by omega⟩ ⟨nb + r, by omega⟩ := by
  subst e; exact sq_score hn hle h hq hk _ _ _ k r

theorem is_full {n nb : ℕ} (hn : n = nb + 256) (hle : n ≤ 4096) (h : Fin 2) {f : FVec Ideal (Mat nb 256) .f32} {rhs : FVec Ideal (Cub 1 256 256) .bf16}
    {kk : FVec Ideal (Mat nb 256) .bf16} {h1} (e : f = full rhs kk h1) (hq : ∀ l r, rhs (ix3 0 l r) = Q (ix3 h l ⟨nb + r.val, by omega⟩))
    (hk : ∀ k l, kk (ix2 k l) = K (ix2 ⟨k.val, by omega⟩ l)) (k : Fin nb) (r : Fin 256) :
    f (ix2 k r) = score K Q h ⟨k, by omega⟩ ⟨nb + r, by omega⟩ := by
  subst e; exact full_score hn hle h hq hk _ k r

theorem is_top {n nb : ℕ} (hn : n = nb + 256) (hle : n ≤ 4096) (h : Fin 2) {f : FVec Ideal (Cub 1 1 256) .f32} {a : FVec Ideal (Mat 256 256) .f32} {b : FVec Ideal (Mat nb 256) .f32}
    {h1 h2 h3 h4 h5} (e : f = shapeCast (Cub 1 1 256) (maximumf (F := Ideal) (colMax (F := Ideal) a h1 h2) (colMax (F := Ideal) b h3 h4)) h5)
    (ha : ∀ k r, a (ix2 k r) = score K Q h ⟨nb + k.val, by omega⟩ ⟨nb + r.val, by omega⟩)
    (hb : ∀ k r, b (ix2 k r) = score K Q h ⟨k.val, by omega⟩ ⟨nb + r.val, by omega⟩) (r : Fin 256) :
    f (ix3 0 0 r) = top K Q h ⟨nb + r, by omega⟩ := by
  subst e; exact max_top hn hle h ha hb _ _ _ _ _ r

theorem is_top_first (h : Fin 2) {f : FVec Ideal (Cub 1 1 256) .f32} {a : FVec Ideal (Mat 256 256) .f32}
    {h1 h2 h5} (e : f = shapeCast (Cub 1 1 256) (colMax (F := Ideal) a h1 h2) h5)
    (ha : ∀ k r, a (ix2 k r) = score K Q h ⟨k.val, by omega⟩ ⟨r.val, by omega⟩) (r : Fin 256) :
    f (ix3 0 0 r) = top K Q h ⟨r, by omega⟩ := by
  subst e; exact max_first h ha _ _ _ r

theorem is_out {n nb : ℕ} (hn : n = nb + 256) (hle : n ≤ 4096) {f : FVec Ideal (Mat 256 128) .bf16} {s0 s1 : FVec Ideal (Cub 1 n 256) .f32} {m0 m1 : FVec Ideal (Cub 1 1 256) .f32}
    {v0 v1 : FVec Ideal (Cub 1 80 n) .bf16} {g : FVec Ideal (Mat 256 128) .bf16} {a1 a2 a3 a4 a5 b1 b2 b3 b4 b5 c1 c2 c3 d1 d2 d3 e1 e2 e3}
    (e : f = emit (F := Ideal) (norm (F := Ideal) (pv (F := Ideal) s0 m0 v0 a1 a2 a3 a4 a5) c1 c2 c3)
      (norm (F := Ideal) (pv (F := Ideal) s1 m1 v1 b1 b2 b3 b4 b5) d1 d2 d3) g e1 e2 e3)
    (hs0 : ∀ k r, s0 (ix3 0 k r) = score K Q 0 ⟨k.val, by omega⟩ ⟨nb + r.val, by omega⟩)
    (hs1 : ∀ k r, s1 (ix3 0 k r) = score K Q 1 ⟨k.val, by omega⟩ ⟨nb + r.val, by omega⟩)
    (hm0 : ∀ r, m0 (ix3 0 0 r) = top K Q 0 ⟨nb + r.val, by omega⟩)
    (hm1 : ∀ r, m1 (ix3 0 0 r) = top K Q 1 ⟨nb + r.val, by omega⟩)
    (hv0 : ∀ i k, v0 (ix3 0 i k) = V (ix3 0 i ⟨k.val, by omega⟩))
    (hv1 : ∀ i k, v1 (ix3 0 i k) = V (ix3 1 i ⟨k.val, by omega⟩))
    (hg : ∀ r d, g (ix2 r d) = G (ix2 ⟨nb + r.val, by omega⟩ d)) (r : Fin 256) (d : Fin 128) :
    f (ix2 r d) = out K V Q G ⟨nb + r, by omega⟩ d := by
  subst e; exact tile_out hn hle hs0 hs1 hm0 hm1 hv0 hv1 hg _ _ _ _ _ _ _ _ _ _ _ _ _ _ _ _ _ _ _ r d

theorem idx3 {a b c x y z : ℕ} (off : Fin 3 → ℕ) (inb : ∀ i, off i + (Cub x y z).size i ≤ (Cub a b c).size i)
    (i : Fin x) (j : Fin y) (k : Fin z) {p q r : ℕ} (hoff : off = ![p, q, r]) (hp : p + i.val < a) (hq : q + j.val < b) (hr : r + k.val < c) :
    (Rect.unit (s := Cub a b c) off (Cub x y z).size inb).toLoadRect.idx (ix3 i j k) = ix3 ⟨p + i, hp⟩ ⟨q + j, hq⟩ ⟨r + k, hr⟩ := by
  subst hoff
  funext t; apply Fin.ext
  refine (Rect.idx_unit_val _ _ _ _ t).trans ?_
  match t with
  | ⟨0, _⟩ => rfl
  | ⟨1, _⟩ => rfl
  | ⟨2, _⟩ => rfl

theorem emb3 {a b c x y z : ℕ} (off : Fin 3 → ℕ) (inb : ∀ i, off i + (Cub x y z).size i ≤ (Cub a b c).size i)
    (i : Fin x) (j : Fin y) (k : Fin z) {p q r : ℕ} (hoff : off = ![p, q, r]) (hp : p + i.val < a) (hq : q + j.val < b) (hr : r + k.val < c) :
    (Rect.unit (s := Cub a b c) off (Cub x y z).size inb).emb (ix3 i j k) = ix3 ⟨p + i, hp⟩ ⟨q + j, hq⟩ ⟨r + k, hr⟩ := by
  subst hoff
  funext t; apply Fin.ext
  refine (ValueKit.rect_emb_unit_val _ _ _ _ t).trans ?_
  match t with
  | ⟨0, _⟩ => rfl
  | ⟨1, _⟩ => rfl
  | ⟨2, _⟩ => rfl

theorem idx2 {a b x y : ℕ} (off : Fin 2 → ℕ) (inb : ∀ i, off i + (Mat x y).size i ≤ (Mat a b).size i)
    (i : Fin x) (j : Fin y) {p q : ℕ} (hoff : off = ![p, q]) (hp : p + i.val < a) (hq : q + j.val < b) :
    (Rect.unit (s := Mat a b) off (Mat x y).size inb).toLoadRect.idx (ix2 i j) = ix2 ⟨p + i, hp⟩ ⟨q + j, hq⟩ := by
  subst hoff
  funext t; apply Fin.ext
  refine (Rect.idx_unit_val _ _ _ _ t).trans ?_
  match t with
  | ⟨0, _⟩ => rfl
  | ⟨1, _⟩ => rfl

theorem emb2 {a b x y : ℕ} (off : Fin 2 → ℕ) (inb : ∀ i, off i + (Mat x y).size i ≤ (Mat a b).size i)
    (i : Fin x) (j : Fin y) {p q : ℕ} (hoff : off = ![p, q]) (hp : p + i.val < a) (hq : q + j.val < b) :
    (Rect.unit (s := Mat a b) off (Mat x y).size inb).emb (ix2 i j) = ix2 ⟨p + i, hp⟩ ⟨q + j, hq⟩ := by
  subst hoff
  funext t; apply Fin.ext
  refine (ValueKit.rect_emb_unit_val _ _ _ _ t).trans ?_
  match t with
  | ⟨0, _⟩ => rfl
  | ⟨1, _⟩ => rfl

theorem mem3 {a b c x y z : ℕ} (off : Fin 3 → ℕ) (inb : ∀ i, off i + (Cub x y z).size i ≤ (Cub a b c).size i)
    (i : Fin a) (j : Fin b) (k : Fin c) {p q r : ℕ} (hoff : off = ![p, q, r]) (h1 : p ≤ i.val ∧ i.val < p + x) (h2 : q ≤ j.val ∧ j.val < q + y)
    (h3 : r ≤ k.val ∧ k.val < r + z) : ix3 i j k ∈ (Rect.unit (s := Cub a b c) off (Cub x y z).size inb).set := by
  subst hoff
  refine Rect.mem_set_unit.mpr fun t => ?_
  match t with
  | ⟨0, _⟩ => exact h1
  | ⟨1, _⟩ => exact h2
  | ⟨2, _⟩ => exact h3

/-- A block of a stack of matrices is a block of an array when it is so at every coordinate. -/
theorem piece3 {α : Type} {a b c x y z : ℕ} {A : (Cub a b c).Idx → α} (off : Fin 3 → ℕ) (inb : ∀ i, off i + (Cub x y z).size i ≤ (Cub a b c).size i)
    {p q r : ℕ} (hoff : off = ![p, q, r]) (hp : p + x ≤ a) (hq : q + y ≤ b) (hr : r + z ≤ c) {w : (Cub x y z).Idx → α}
    (h : ∀ i j k, w (ix3 i j k) = A (ix3 ⟨p + i.val, by omega⟩ ⟨q + j.val, by omega⟩ ⟨r + k.val, by omega⟩))
    (j : (Rect.unit (s := Cub a b c) off (Cub x y z).size inb).shape.Idx) :
    w j = A ((Rect.unit (s := Cub a b c) off (Cub x y z).size inb).emb j) := by
  have e := eq_ix3 (n0 := x) (n1 := y) (n2 := z) j
  refine (congrArg w e).trans ((h _ _ _).trans (congrArg A ?_))
  refine (emb3 off inb _ _ _ hoff (by have := (show Fin x from j 0).isLt; omega) (by have := (show Fin y from j 1).isLt; omega)
    (by have := (show Fin z from j 2).isLt; omega)).symm.trans (congrArg _ e.symm)

/-- The scores of one head read back: the two heads' squares and the keys before them were stored last. -/
theorem read_scores {n nb : ℕ} (hn : n = nb + 256) (hle : n ≤ 4096) (h : Fin 2) (v : View sig κ .vmem (Cub 2 4096 256) .f32)
    {L' : List (View.Piece (Elt Ideal) (Cub 2 4096 256) .f32)} {w1 w0 : (Cub 1 nb 256).Idx → EReal} {u1 u0 : (Cub 1 256 256).Idx → EReal}
    {off : Fin 3 → ℕ} (hoff : off = ![h.val, 0, 0]) (i1 i2 i3 i4 inb)
    (hw1 : ∀ k r, w1 (ix3 0 k r) = score K Q 1 ⟨k.val, by omega⟩ ⟨nb + r.val, by omega⟩)
    (hu1 : ∀ k r, u1 (ix3 0 k r) = score K Q 1 ⟨nb + k.val, by omega⟩ ⟨nb + r.val, by omega⟩)
    (hw0 : ∀ k r, w0 (ix3 0 k r) = score K Q 0 ⟨k.val, by omega⟩ ⟨nb + r.val, by omega⟩)
    (hu0 : ∀ k r, u0 (ix3 0 k r) = score K Q 0 ⟨nb + k.val, by omega⟩ ⟨nb + r.val, by omega⟩) (k : Fin n) (r : Fin 256) :
    v.readCov (⟨Rect.unit ![1, 0, 0] (Cub 1 nb 256).size i1, w1⟩ :: ⟨Rect.unit ![1, nb, 0] (Cub 1 256 256).size i2, u1⟩
      :: ⟨Rect.unit ![0, 0, 0] (Cub 1 nb 256).size i3, w0⟩ :: ⟨Rect.unit ![0, nb, 0] (Cub 1 256 256).size i4, u0⟩ :: L')
      (Rect.unit (s := Cub 2 4096 256) off (Cub 1 n 256).size inb).toLoadRect (ix3 0 k r) = score K Q h ⟨k, by omega⟩ ⟨nb + r, by omega⟩ := by
  let A : (Cub 2 4096 256).Idx → EReal := fun y => score K Q (y 0) (y 1) ⟨nb + (show Fin 256 from y 2).val, by have := (show Fin 256 from y 2).isLt; omega⟩
  have hi := idx3 (a := 2) (b := 4096) (c := 256) off inb 0 k r hoff (by have := h.isLt; show h.val + 0 < 2; omega) (by first | omega | (show 0 + 0 < 1; omega)) (by omega)
  refine (read_pieces (Val := Elt Ideal) v A [⟨Rect.unit ![1, 0, 0] (Cub 1 nb 256).size i1, w1⟩, ⟨Rect.unit ![1, nb, 0] (Cub 1 256 256).size i2, u1⟩,
    ⟨Rect.unit ![0, 0, 0] (Cub 1 nb 256).size i3, w0⟩, ⟨Rect.unit ![0, nb, 0] (Cub 1 256 256).size i4, u0⟩] L' _ ⟨?_, ?_, ?_, ?_, trivial⟩ _ ?_).trans ?_
  · refine piece3 _ i1 rfl (by omega) (by omega) (by omega) fun i k r => ?_
    obtain rfl : i = 0 := Subsingleton.elim _ _
    refine (hw1 k r).trans ?_
    congr 1 <;> exact Fin.ext (by simp)
  · refine piece3 _ i2 rfl (by omega) (by omega) (by omega) fun i k r => ?_
    obtain rfl : i = 0 := Subsingleton.elim _ _
    refine (hu1 k r).trans ?_
    congr 1; exact Fin.ext (by simp)
  · refine piece3 _ i3 rfl (by omega) (by omega) (by omega) fun i k r => ?_
    obtain rfl : i = 0 := Subsingleton.elim _ _
    refine (hw0 k r).trans ?_
    congr 1 <;> exact Fin.ext (by simp)
  · refine piece3 _ i4 rfl (by omega) (by omega) (by omega) fun i k r => ?_
    obtain rfl : i = 0 := Subsingleton.elim _ _
    refine (hu0 k r).trans ?_
    congr 1; exact Fin.ext (by simp)
  · rw [hi]
    have hh : h.val = 0 ∨ h.val = 1 := by omega
    rcases hh with hh | hh <;> by_cases hk : k.val < nb
    · exact ⟨_, .tail _ (.tail _ (.head _)), mem3 _ i3 _ _ _ rfl ⟨by simp, by simp [hh]⟩ ⟨by simp, by simp [hk]⟩ ⟨by simp, by simp⟩⟩
    · exact ⟨_, .tail _ (.tail _ (.tail _ (.head _))), mem3 _ i4 _ _ _ rfl ⟨by simp, by simp [hh]⟩ ⟨by simp; omega, by simp; omega⟩ ⟨by simp, by simp⟩⟩
    · exact ⟨_, .head _, mem3 _ i1 _ _ _ rfl ⟨by simp [hh], by simp [hh]⟩ ⟨by simp, by simp [hk]⟩ ⟨by simp, by simp⟩⟩
    · exact ⟨_, .tail _ (.head _), mem3 _ i2 _ _ _ rfl ⟨by simp [hh], by simp [hh]⟩ ⟨by simp; omega, by simp; omega⟩ ⟨by simp, by simp⟩⟩
  · rw [hi]
    show score K Q _ _ _ = _
    congr 1 <;> exact Fin.ext (by simp)

/-- The first tile's scores read back: the two heads' squares. -/
theorem read_scores_first (h : Fin 2) (v : View sig κ .vmem (Cub 2 4096 256) .f32)
    {L' : List (View.Piece (Elt Ideal) (Cub 2 4096 256) .f32)} {u1 u0 : (Cub 1 256 256).Idx → EReal}
    {off : Fin 3 → ℕ} (hoff : off = ![h.val, 0, 0]) (i2 i4 inb)
    (hu1 : ∀ k r, u1 (ix3 0 k r) = score K Q 1 ⟨k.val, by omega⟩ ⟨r.val, by omega⟩)
    (hu0 : ∀ k r, u0 (ix3 0 k r) = score K Q 0 ⟨k.val, by omega⟩ ⟨r.val, by omega⟩) (k r : Fin 256) :
    v.readCov (⟨Rect.unit ![1, 0, 0] (Cub 1 256 256).size i2, u1⟩ :: ⟨Rect.unit ![0, 0, 0] (Cub 1 256 256).size i4, u0⟩ :: L')
      (Rect.unit (s := Cub 2 4096 256) off (Cub 1 256 256).size inb).toLoadRect (ix3 0 k r) = score K Q h ⟨k, by omega⟩ ⟨r, by omega⟩ := by
  let A : (Cub 2 4096 256).Idx → EReal := fun y => score K Q (y 0) (y 1) ⟨(show Fin 256 from y 2).val, by have := (show Fin 256 from y 2).isLt; omega⟩
  have hi := idx3 (a := 2) (b := 4096) (c := 256) off inb 0 k r hoff (by have := h.isLt; show h.val + 0 < 2; omega) (by first | omega | (show 0 + 0 < 1; omega)) (by omega)
  refine (read_pieces (Val := Elt Ideal) v A [⟨Rect.unit ![1, 0, 0] (Cub 1 256 256).size i2, u1⟩,
    ⟨Rect.unit ![0, 0, 0] (Cub 1 256 256).size i4, u0⟩] L' _ ⟨?_, ?_, trivial⟩ _ ?_).trans ?_
  · refine piece3 _ i2 rfl (by omega) (by omega) (by omega) fun i k r => ?_
    obtain rfl : i = 0 := Subsingleton.elim _ _
    refine (hu1 k r).trans ?_
    congr 1 <;> exact Fin.ext (by simp)
  · refine piece3 _ i4 rfl (by omega) (by omega) (by omega) fun i k r => ?_
    obtain rfl : i = 0 := Subsingleton.elim _ _
    refine (hu0 k r).trans ?_
    congr 1 <;> exact Fin.ext (by simp)
  · rw [hi]
    have hh : h.val = 0 ∨ h.val = 1 := by omega
    rcases hh with hh | hh
    · exact ⟨_, .tail _ (.head _), mem3 _ i4 _ _ _ rfl ⟨by simp, by simp [hh]⟩ ⟨by simp, by simp⟩ ⟨by simp, by simp⟩⟩
    · exact ⟨_, .head _, mem3 _ i2 _ _ _ rfl ⟨by simp [hh], by simp [hh]⟩ ⟨by simp, by simp⟩ ⟨by simp, by simp⟩⟩
  · rw [hi]
    show score K Q _ _ _ = _
    congr 1 <;> exact Fin.ext (by simp)

/-- The maxima of one head read back. -/
theorem read_max {α : Fin 2 → Fin 256 → EReal} (h : Fin 2) (v : View sig κ .vmem (Cub 2 1 256) .f32)
    {L' : List (View.Piece (Elt Ideal) (Cub 2 1 256) .f32)} {u1 u0 : (Cub 1 1 256).Idx → EReal}
    {off : Fin 3 → ℕ} (hoff : off = ![h.val, 0, 0]) (i2 i4 inb)
    (hu1 : ∀ r, u1 (ix3 0 0 r) = α 1 r) (hu0 : ∀ r, u0 (ix3 0 0 r) = α 0 r) (r : Fin 256) :
    v.readCov (⟨Rect.unit ![1, 0, 0] (Cub 1 1 256).size i2, u1⟩ :: ⟨Rect.unit ![0, 0, 0] (Cub 1 1 256).size i4, u0⟩ :: L')
      (Rect.unit (s := Cub 2 1 256) off (Cub 1 1 256).size inb).toLoadRect (ix3 0 0 r) = α h r := by
  let A : (Cub 2 1 256).Idx → EReal := fun y => α (y 0) (y 2)
  have hi := idx3 (a := 2) (b := 1) (c := 256) off inb 0 0 r hoff (by have := h.isLt; show h.val + 0 < 2; omega) (by first | omega | (show 0 + 0 < 1; omega)) (by omega)
  refine (read_pieces (Val := Elt Ideal) v A [⟨Rect.unit ![1, 0, 0] (Cub 1 1 256).size i2, u1⟩,
    ⟨Rect.unit ![0, 0, 0] (Cub 1 1 256).size i4, u0⟩] L' _ ⟨?_, ?_, trivial⟩ _ ?_).trans ?_
  · refine piece3 _ i2 rfl (by omega) (by omega) (by omega) fun i k r => ?_
    obtain rfl : i = 0 := Subsingleton.elim _ _
    obtain rfl : k = 0 := Subsingleton.elim _ _
    refine (hu1 r).trans ?_
    show α _ _ = α _ _
    congr 1; exact Fin.ext (by simp)
  · refine piece3 _ i4 rfl (by omega) (by omega) (by omega) fun i k r => ?_
    obtain rfl : i = 0 := Subsingleton.elim _ _
    obtain rfl : k = 0 := Subsingleton.elim _ _
    refine (hu0 r).trans ?_
    show α _ _ = α _ _
    congr 1; exact Fin.ext (by simp)
  · rw [hi]
    have hh : h.val = 0 ∨ h.val = 1 := by omega
    rcases hh with hh | hh
    · exact ⟨_, .tail _ (.head _), mem3 _ i4 _ _ _ rfl ⟨by simp, by simp [hh]⟩ ⟨by simp, by simp⟩ ⟨by simp, by simp⟩⟩
    · exact ⟨_, .head _, mem3 _ i2 _ _ _ rfl ⟨by simp [hh], by simp [hh]⟩ ⟨by simp, by simp⟩ ⟨by simp, by simp⟩⟩
  · rw [hi]
    show α _ _ = _
    congr 1; exact Fin.ext (by simp)

/-- A stack read back through one block. -/
theorem read_block3 {α : EltTy} {a b c x y z : ℕ} (v : View sig κ .vmem (Cub a b c) α) (L : List (View.Piece (Elt Ideal) (Cub a b c) α)) {off : Fin 3 → ℕ} {p q r : ℕ}
    (hoff : off = ![p, q, r]) (inb : ∀ i, off i + (Cub x y z).size i ≤ (Cub a b c).size i) (i : Fin x) (j : Fin y) (k : Fin z)
    {i' : Fin a} {j' : Fin b} {k' : Fin c} (hi : i'.val = p + i.val) (hj : j'.val = q + j.val) (hk : k'.val = r + k.val) :
    v.readCov L (Rect.unit (s := Cub a b c) off (Cub x y z).size inb).toLoadRect (ix3 i j k) = View.canon L (ix3 i' j' k') := by
  rw [View.readCov_eq_canon']
  refine congrArg _ ((idx3 off inb i j k hoff (by omega) (by omega) (by omega)).trans ?_)
  congr 1 <;> exact Fin.ext (by simp [*])

theorem read_block2 {α : EltTy} {a b x y : ℕ} (v : View sig κ .vmem (Mat a b) α) (L : List (View.Piece (Elt Ideal) (Mat a b) α)) {off : Fin 2 → ℕ} {p q : ℕ}
    (hoff : off = ![p, q]) (inb : ∀ i, off i + (Mat x y).size i ≤ (Mat a b).size i) (i : Fin x) (j : Fin y)
    {i' : Fin a} {j' : Fin b} (hi : i'.val = p + i.val) (hj : j'.val = q + j.val) :
    v.readCov L (Rect.unit (s := Mat a b) off (Mat x y).size inb).toLoadRect (ix2 i j) = View.canon L (ix2 i' j') := by
  rw [View.readCov_eq_canon']
  refine congrArg _ ((idx2 off inb i j hoff (by omega) (by omega)).trans ?_)
  congr 1 <;> exact Fin.ext (by simp [*])

/-- A tile's rows from the stores of the keys, the values and the queries. -/
theorem tile_rows {n nb : ℕ} (hn : n = nb + 256) (hle : n ≤ 4096) {f : FVec Ideal (Mat 256 128) .bf16} {g : FVec Ideal (Mat 256 128) .bf16}
    {G : (Mat 4096 128).Idx → EReal} {vs : View sig κ .vmem (Cub 2 4096 256) .f32} {vm : View sig κ .vmem (Cub 2 1 256) .f32}
    {vk : View sig κ .vmem (Mat 4096 256) .bf16} {vv : View sig κ .vmem (Cub 2 80 4096) .bf16} {vq : View sig κ .vmem (Cub 2 256 4096) .bf16}
    {LK : List (View.Piece (Elt Ideal) (Mat 4096 256) .bf16)} {LV : List (View.Piece (Elt Ideal) (Cub 2 80 4096) .bf16)}
    {LQ : List (View.Piece (Elt Ideal) (Cub 2 256 4096) .bf16)} {Ls : List (View.Piece (Elt Ideal) (Cub 2 4096 256) .f32)}
    {Lm : List (View.Piece (Elt Ideal) (Cub 2 1 256) .f32)} {w1 w0 : FVec Ideal (Cub 1 nb 256) .f32} {u1 u0 : FVec Ideal (Cub 1 256 256) .f32}
    {x1 x0 : FVec Ideal (Cub 1 1 256) .f32} {off0 off1 : Fin 3 → ℕ} (h0 : off0 = ![0, 0, 0]) (h1 : off1 = ![1, 0, 0])
    {i1 i2 i3 i4 i5 i6 j0 j1 j2 j3 j4 j5 k0 k1 k2 k3 a1 a2 a3 a4 a5 b1 b2 b3 b4 b5 c1 c2 c3 d1 d2 d3 e1 e2 e3
      s1 s2 s3 s4 s5 s6 s7 s8 s9 s10 s11 s12 t1 t2 t3 t4 t5 t6 t7 t8 t9 t10}
    (e : f = emit (F := Ideal) (norm (F := Ideal) (pv (F := Ideal)
        (vs.readCov (⟨Rect.unit ![1, 0, 0] (Cub 1 nb 256).size i1, w1⟩ :: ⟨Rect.unit ![1, nb, 0] (Cub 1 256 256).size i2, u1⟩
          :: ⟨Rect.unit ![0, 0, 0] (Cub 1 nb 256).size i3, w0⟩ :: ⟨Rect.unit ![0, nb, 0] (Cub 1 256 256).size i4, u0⟩ :: Ls)
          (Rect.unit (s := Cub 2 4096 256) off0 (Cub 1 n 256).size i5).toLoadRect)
        (vm.readCov (⟨Rect.unit ![1, 0, 0] (Cub 1 1 256).size j0, x1⟩ :: ⟨Rect.unit ![0, 0, 0] (Cub 1 1 256).size j1, x0⟩ :: Lm)
          (Rect.unit (s := Cub 2 1 256) ![0, 0, 0] (Cub 1 1 256).size j2).toLoadRect)
        (vv.readCov LV (Rect.unit (s := Cub 2 80 4096) ![0, 0, 0] (Cub 1 80 n).size j3).toLoadRect) a1 a2 a3 a4 a5) c1 c2 c3)
      (norm (F := Ideal) (pv (F := Ideal)
        (vs.readCov (⟨Rect.unit ![1, 0, 0] (Cub 1 nb 256).size i1, w1⟩ :: ⟨Rect.unit ![1, nb, 0] (Cub 1 256 256).size i2, u1⟩
          :: ⟨Rect.unit ![0, 0, 0] (Cub 1 nb 256).size i3, w0⟩ :: ⟨Rect.unit ![0, nb, 0] (Cub 1 256 256).size i4, u0⟩ :: Ls)
          (Rect.unit (s := Cub 2 4096 256) off1 (Cub 1 n 256).size i6).toLoadRect)
        (vm.readCov (⟨Rect.unit ![1, 0, 0] (Cub 1 1 256).size j0, x1⟩ :: ⟨Rect.unit ![0, 0, 0] (Cub 1 1 256).size j1, x0⟩ :: Lm)
          (Rect.unit (s := Cub 2 1 256) ![1, 0, 0] (Cub 1 1 256).size j4).toLoadRect)
        (vv.readCov LV (Rect.unit (s := Cub 2 80 4096) ![1, 0, 0] (Cub 1 80 n).size j5).toLoadRect) b1 b2 b3 b4 b5) d1 d2 d3) g e1 e2 e3)
    (ew1 : w1 = shapeCast (Cub 1 nb 256) (full (F := Ideal) (vq.readCov LQ (Rect.unit (s := Cub 2 256 4096) ![1, 0, nb] (Cub 1 256 256).size k1).toLoadRect)
      (vk.readCov LK (Rect.unit (s := Mat 4096 256) ![0, 0] (Mat nb 256).size k2).toLoadRect) s1) s2)
    (ew0 : w0 = shapeCast (Cub 1 nb 256) (full (F := Ideal) (vq.readCov LQ (Rect.unit (s := Cub 2 256 4096) ![0, 0, nb] (Cub 1 256 256).size k0).toLoadRect)
      (vk.readCov LK (Rect.unit (s := Mat 4096 256) ![0, 0] (Mat nb 256).size k2).toLoadRect) s3) s4)
    (eu1 : u1 = shapeCast (Cub 1 256 256) (sq (F := Ideal) (vq.readCov LQ (Rect.unit (s := Cub 2 256 4096) ![1, 0, nb] (Cub 1 256 256).size k1).toLoadRect)
      (vk.readCov LK (Rect.unit (s := Mat 4096 256) ![nb, 0] (Mat 256 256).size k3).toLoadRect) s5 s6 s7) s8)
    (eu0 : u0 = shapeCast (Cub 1 256 256) (sq (F := Ideal) (vq.readCov LQ (Rect.unit (s := Cub 2 256 4096) ![0, 0, nb] (Cub 1 256 256).size k0).toLoadRect)
      (vk.readCov LK (Rect.unit (s := Mat 4096 256) ![nb, 0] (Mat 256 256).size k3).toLoadRect) s9 s10 s11) s12)
    (ex1 : x1 = shapeCast (Cub 1 1 256) (maximumf (F := Ideal)
      (colMax (F := Ideal) (sq (F := Ideal) (vq.readCov LQ (Rect.unit (s := Cub 2 256 4096) ![1, 0, nb] (Cub 1 256 256).size k1).toLoadRect)
        (vk.readCov LK (Rect.unit (s := Mat 4096 256) ![nb, 0] (Mat 256 256).size k3).toLoadRect) s5 s6 s7) t1 t2)
      (colMax (F := Ideal) (full (F := Ideal) (vq.readCov LQ (Rect.unit (s := Cub 2 256 4096) ![1, 0, nb] (Cub 1 256 256).size k1).toLoadRect)
        (vk.readCov LK (Rect.unit (s := Mat 4096 256) ![0, 0] (Mat nb 256).size k2).toLoadRect) s1) t3 t4)) t5)
    (ex0 : x0 = shapeCast (Cub 1 1 256) (maximumf (F := Ideal)
      (colMax (F := Ideal) (sq (F := Ideal) (vq.readCov LQ (Rect.unit (s := Cub 2 256 4096) ![0, 0, nb] (Cub 1 256 256).size k0).toLoadRect)
        (vk.readCov LK (Rect.unit (s := Mat 4096 256) ![nb, 0] (Mat 256 256).size k3).toLoadRect) s9 s10 s11) t6 t7)
      (colMax (F := Ideal) (full (F := Ideal) (vq.readCov LQ (Rect.unit (s := Cub 2 256 4096) ![0, 0, nb] (Cub 1 256 256).size k0).toLoadRect)
        (vk.readCov LK (Rect.unit (s := Mat 4096 256) ![0, 0] (Mat nb 256).size k2).toLoadRect) s3) t8 t9)) t10)
    (hg : ∀ r d, g (ix2 r d) = G (ix2 ⟨nb + r.val, by omega⟩ d)) (r : Fin 256) (d : Fin 128) :
    f (ix2 r d) = out (View.canon LK) (View.canon LV) (View.canon LQ) G ⟨nb + r, by omega⟩ d := by
  have hq1 : ∀ l r, vq.readCov LQ (Rect.unit (s := Cub 2 256 4096) ![1, 0, nb] (Cub 1 256 256).size k1).toLoadRect (ix3 0 l r)
      = View.canon LQ (ix3 1 l ⟨nb + r.val, by omega⟩) := fun l r => read_block3 vq LQ rfl k1 0 l r rfl (by simp) rfl
  have hq0 : ∀ l r, vq.readCov LQ (Rect.unit (s := Cub 2 256 4096) ![0, 0, nb] (Cub 1 256 256).size k0).toLoadRect (ix3 0 l r)
      = View.canon LQ (ix3 0 l ⟨nb + r.val, by omega⟩) := fun l r => read_block3 vq LQ rfl k0 0 l r rfl (by simp) rfl
  have hk0 : ∀ k l, vk.readCov LK (Rect.unit (s := Mat 4096 256) ![0, 0] (Mat nb 256).size k2).toLoadRect (ix2 k l)
      = View.canon LK (ix2 ⟨k.val, by omega⟩ l) := fun k l => read_block2 vk LK rfl k2 k l (by simp) (by simp)
  have hk1 : ∀ k l, vk.readCov LK (Rect.unit (s := Mat 4096 256) ![nb, 0] (Mat 256 256).size k3).toLoadRect (ix2 k l)
      = View.canon LK (ix2 ⟨nb + k.val, by omega⟩ l) := fun k l => read_block2 vk LK rfl k3 k l rfl (by simp)
  have f1 := is_full (K := View.canon LK) (Q := View.canon LQ) hn hle 1 rfl hq1 hk0 (h1 := s1)
  have f0 := is_full (K := View.canon LK) (Q := View.canon LQ) hn hle 0 rfl hq0 hk0 (h1 := s3)
  have g1 := is_sq (K := View.canon LK) (Q := View.canon LQ) hn hle 1 rfl hq1 hk1 (h1 := s5) (h2 := s6) (h3 := s7)
  have g0 := is_sq (K := View.canon LK) (Q := View.canon LQ) hn hle 0 rfl hq0 hk1 (h1 := s9) (h2 := s10) (h3 := s11)
  have hw1 := fun k r => store_score _ _ ew1 k r (f1 k r)
  have hw0 := fun k r => store_score _ _ ew0 k r (f0 k r)
  have hu1 := fun k r => store_score _ _ eu1 k r (g1 k r)
  have hu0 := fun k r => store_score _ _ eu0 k r (g0 k r)
  refine is_out hn hle e (fun k r => read_scores hn hle 0 vs h0 i1 i2 i3 i4 i5 hw1 hu1 hw0 hu0 k r)
    (fun k r => read_scores hn hle 1 vs h1 i1 i2 i3 i4 i6 hw1 hu1 hw0 hu0 k r)
    (fun r => read_max (α := fun h r => top (View.canon LK) (View.canon LQ) h ⟨nb + r.val, by omega⟩) 0 vm rfl j0 j1 j2 (is_top hn hle 1 ex1 g1 f1) (is_top hn hle 0 ex0 g0 f0) r)
    (fun r => read_max (α := fun h r => top (View.canon LK) (View.canon LQ) h ⟨nb + r.val, by omega⟩) 1 vm rfl j0 j1 j4 (is_top hn hle 1 ex1 g1 f1) (is_top hn hle 0 ex0 g0 f0) r)
    (fun i k => read_block3 vv LV rfl j3 0 i k rfl (by simp) (by simp)) (fun i k => read_block3 vv LV rfl j5 0 i k rfl (by simp) (by simp)) hg r d

/-- The first tile's rows. -/
theorem first_rows {f : FVec Ideal (Mat 256 128) .bf16} {g : FVec Ideal (Mat 256 128) .bf16}
    {G : (Mat 4096 128).Idx → EReal} {vs : View sig κ .vmem (Cub 2 4096 256) .f32} {vm : View sig κ .vmem (Cub 2 1 256) .f32}
    {vk : View sig κ .vmem (Mat 4096 256) .bf16} {vv : View sig κ .vmem (Cub 2 80 4096) .bf16} {vq : View sig κ .vmem (Cub 2 256 4096) .bf16}
    {LK : List (View.Piece (Elt Ideal) (Mat 4096 256) .bf16)} {LV : List (View.Piece (Elt Ideal) (Cub 2 80 4096) .bf16)}
    {LQ : List (View.Piece (Elt Ideal) (Cub 2 256 4096) .bf16)} {Ls : List (View.Piece (Elt Ideal) (Cub 2 4096 256) .f32)}
    {Lm : List (View.Piece (Elt Ideal) (Cub 2 1 256) .f32)} {u1 u0 : FVec Ideal (Cub 1 256 256) .f32}
    {x1 x0 : FVec Ideal (Cub 1 1 256) .f32} {off0 off1 : Fin 3 → ℕ} (h0 : off0 = ![0, 0, 0]) (h1 : off1 = ![1, 0, 0])
    {i2 i4 i5 i6 j0 j1 j2 j3 j4 j5 k0 k1 k3 a1 a2 a3 a4 a5 b1 b2 b3 b4 b5 c1 c2 c3 d1 d2 d3 e1 e2 e3
      s5 s6 s7 s8 s9 s10 s11 s12 t1 t2 t5 t6 t7 t10}
    (e : f = emit (F := Ideal) (norm (F := Ideal) (pv (F := Ideal)
        (vs.readCov (⟨Rect.unit ![1, 0, 0] (Cub 1 256 256).size i2, u1⟩ :: ⟨Rect.unit ![0, 0, 0] (Cub 1 256 256).size i4, u0⟩ :: Ls)
          (Rect.unit (s := Cub 2 4096 256) off0 (Cub 1 256 256).size i5).toLoadRect)
        (vm.readCov (⟨Rect.unit ![1, 0, 0] (Cub 1 1 256).size j0, x1⟩ :: ⟨Rect.unit ![0, 0, 0] (Cub 1 1 256).size j1, x0⟩ :: Lm)
          (Rect.unit (s := Cub 2 1 256) ![0, 0, 0] (Cub 1 1 256).size j2).toLoadRect)
        (vv.readCov LV (Rect.unit (s := Cub 2 80 4096) ![0, 0, 0] (Cub 1 80 256).size j3).toLoadRect) a1 a2 a3 a4 a5) c1 c2 c3)
      (norm (F := Ideal) (pv (F := Ideal)
        (vs.readCov (⟨Rect.unit ![1, 0, 0] (Cub 1 256 256).size i2, u1⟩ :: ⟨Rect.unit ![0, 0, 0] (Cub 1 256 256).size i4, u0⟩ :: Ls)
          (Rect.unit (s := Cub 2 4096 256) off1 (Cub 1 256 256).size i6).toLoadRect)
        (vm.readCov (⟨Rect.unit ![1, 0, 0] (Cub 1 1 256).size j0, x1⟩ :: ⟨Rect.unit ![0, 0, 0] (Cub 1 1 256).size j1, x0⟩ :: Lm)
          (Rect.unit (s := Cub 2 1 256) ![1, 0, 0] (Cub 1 1 256).size j4).toLoadRect)
        (vv.readCov LV (Rect.unit (s := Cub 2 80 4096) ![1, 0, 0] (Cub 1 80 256).size j5).toLoadRect) b1 b2 b3 b4 b5) d1 d2 d3) g e1 e2 e3)
    (eu1 : u1 = shapeCast (Cub 1 256 256) (sq (F := Ideal) (vq.readCov LQ (Rect.unit (s := Cub 2 256 4096) ![1, 0, 0] (Cub 1 256 256).size k1).toLoadRect)
      (vk.readCov LK (Rect.unit (s := Mat 4096 256) ![0, 0] (Mat 256 256).size k3).toLoadRect) s5 s6 s7) s8)
    (eu0 : u0 = shapeCast (Cub 1 256 256) (sq (F := Ideal) (vq.readCov LQ (Rect.unit (s := Cub 2 256 4096) ![0, 0, 0] (Cub 1 256 256).size k0).toLoadRect)
      (vk.readCov LK (Rect.unit (s := Mat 4096 256) ![0, 0] (Mat 256 256).size k3).toLoadRect) s9 s10 s11) s12)
    (ex1 : x1 = shapeCast (Cub 1 1 256) (colMax (F := Ideal)
      (sq (F := Ideal) (vq.readCov LQ (Rect.unit (s := Cub 2 256 4096) ![1, 0, 0] (Cub 1 256 256).size k1).toLoadRect)
        (vk.readCov LK (Rect.unit (s := Mat 4096 256) ![0, 0] (Mat 256 256).size k3).toLoadRect) s5 s6 s7) t1 t2) t5)
    (ex0 : x0 = shapeCast (Cub 1 1 256) (colMax (F := Ideal)
      (sq (F := Ideal) (vq.readCov LQ (Rect.unit (s := Cub 2 256 4096) ![0, 0, 0] (Cub 1 256 256).size k0).toLoadRect)
        (vk.readCov LK (Rect.unit (s := Mat 4096 256) ![0, 0] (Mat 256 256).size k3).toLoadRect) s9 s10 s11) t6 t7) t10)
    (hg : ∀ r d, g (ix2 r d) = G (ix2 ⟨0 + r.val, by omega⟩ d)) (r : Fin 256) (d : Fin 128) :
    f (ix2 r d) = out (View.canon LK) (View.canon LV) (View.canon LQ) G ⟨0 + r, by omega⟩ d := by
  have hq1 : ∀ l r, vq.readCov LQ (Rect.unit (s := Cub 2 256 4096) ![1, 0, 0] (Cub 1 256 256).size k1).toLoadRect (ix3 0 l r)
      = View.canon LQ (ix3 1 l ⟨0 + r.val, by omega⟩) := fun l r => read_block3 vq LQ rfl k1 0 l r rfl (by simp) rfl
  have hq0 : ∀ l r, vq.readCov LQ (Rect.unit (s := Cub 2 256 4096) ![0, 0, 0] (Cub 1 256 256).size k0).toLoadRect (ix3 0 l r)
      = View.canon LQ (ix3 0 l ⟨0 + r.val, by omega⟩) := fun l r => read_block3 vq LQ rfl k0 0 l r rfl (by simp) rfl
  have hk1 : ∀ k l, vk.readCov LK (Rect.unit (s := Mat 4096 256) ![0, 0] (Mat 256 256).size k3).toLoadRect (ix2 k l)
      = View.canon LK (ix2 ⟨0 + k.val, by omega⟩ l) := fun k l => read_block2 vk LK rfl k3 k l rfl (by simp)
  have g1 := is_sq (K := View.canon LK) (Q := View.canon LQ) (n := 256) (nb := 0) rfl (by omega) 1 rfl hq1 hk1 (h1 := s5) (h2 := s6) (h3 := s7)
  have g0 := is_sq (K := View.canon LK) (Q := View.canon LQ) (n := 256) (nb := 0) rfl (by omega) 0 rfl hq0 hk1 (h1 := s9) (h2 := s10) (h3 := s11)
  simp only [Nat.zero_add] at g1 g0
  have hu1 := fun k r => store_score _ _ eu1 k r (g1 k r)
  have hu0 := fun k r => store_score _ _ eu0 k r (g0 k r)
  have r0 := fun k r => read_scores_first 0 vs (L' := Ls) h0 i2 i4 i5 hu1 hu0 k r
  have r1 := fun k r => read_scores_first 1 vs (L' := Ls) h1 i2 i4 i6 hu1 hu0 k r
  have m0 := fun r => read_max (α := fun h r => top (View.canon LK) (View.canon LQ) h ⟨r.val, by omega⟩) (L' := Lm) (off := ![0, 0, 0]) 0 vm rfl j0 j1 j2 (is_top_first 1 ex1 g1) (is_top_first 0 ex0 g0) r
  have m1 := fun r => read_max (α := fun h r => top (View.canon LK) (View.canon LQ) h ⟨r.val, by omega⟩) (L' := Lm) (off := ![1, 0, 0]) 1 vm rfl j0 j1 j4 (is_top_first 1 ex1 g1) (is_top_first 0 ex0 g0) r
  refine is_out (n := 256) (nb := 0) rfl (by omega) e ?_ ?_ ?_ ?_
    (fun i k => read_block3 vv LV rfl j3 0 i k rfl (by simp) (by simp)) (fun i k => read_block3 vv LV rfl j5 0 i k rfl (by simp) (by simp)) hg r d
  · simpa only [Nat.zero_add] using r0
  · simpa only [Nat.zero_add] using r1
  · simpa only [Nat.zero_add] using m0
  · simpa only [Nat.zero_add] using m1

end Ideal
end Cert.Tile
end
-- ==== Proof.Fill.lean ====
/- The three buffers an attention point fills before it reads them: keys beside their bias factors, values above ones, queries above their own bias factors. -/
module

public import proofs.«01_k».proof.Proof.Tile

@[expose] public section

set_option maxRecDepth 16384

noncomputable section

namespace Cert.Tile

open Idealize.ShloMosaic Idealize.ShloMosaic.TcCoe Idealize.SL.Sem
open Idealize.ShloMosaic.Pointwise

/-- A key's row: its 128 lanes, then its 128 bias factors. -/
def keysAt (k a : (Mat 4096 128).Idx → EReal) (i : Fin 4096) (l : Fin 256) : EReal :=
  if h : l.val < 128 then k (ix2 i ⟨l, h⟩) else a (ix2 i ⟨l - 128, by omega⟩)

/-- A head's values, lane by lane, and ones from lane 64 on. -/
def valsAt (v : (Mat 4096 128).Idx → EReal) (h : Fin 2) (r : Fin 80) (i : Fin 4096) : EReal :=
  if hr : r.val < 64 then v (ix2 i ⟨64 * h + r, by omega⟩) else 1

/-- A head's queries: its own 64 lanes, then its own six bias factors, and zero elsewhere. -/
def queriesAt (p : ℕ) (q : (Mat 4096 128).Idx → EReal) (a : (Mat 128 4096).Idx → EReal) (h : Fin 2) (l : Fin 256) (i : Fin 4096) : EReal :=
  if hl : l.val < 128 then if l.val / 64 = h.val then q (ix2 i ⟨l, hl⟩) else 0
  else if 6 * (2 * p + h.val) ≤ l.val - 128 ∧ l.val - 128 < 6 * (2 * p + h.val) + 6 then a (ix2 ⟨l - 128, by omega⟩ i) else 0

def keys (k a : (Mat 4096 128).Idx → EReal) (y : (Mat 4096 256).Idx) : EReal := keysAt k a (y 0) (y 1)
def vals (v : (Mat 4096 128).Idx → EReal) (y : (Cub 2 80 4096).Idx) : EReal := valsAt v (y 0) (y 1) (y 2)
def queries (p : ℕ) (q : (Mat 4096 128).Idx → EReal) (a : (Mat 128 4096).Idx → EReal) (y : (Cub 2 256 4096).Idx) : EReal := queriesAt p q a (y 0) (y 1) (y 2)

/-- A block of rows of the keys' buffer. -/
theorem key_piece {k a : (Mat 4096 128).Idx → EReal} {s : ℕ} {off : Fin 2 → ℕ} (inb : ∀ i, off i + (Mat 4096 128).size i ≤ (Mat 4096 256).size i)
    (hoff : off = ![0, s]) {w : (Mat 4096 128).Idx → EReal} (hs : s + 128 ≤ 256)
    (h : ∀ i (l : Fin 128), w (ix2 i l) = keysAt k a i ⟨s + l.val, by omega⟩)
    (j : (Rect.unit (s := Mat 4096 256) off (Mat 4096 128).size inb).shape.Idx) : w j = keys k a ((Rect.unit (s := Mat 4096 256) off (Mat 4096 128).size inb).emb j) := by
  have e := eq_ix2 (n0 := 4096) (n1 := 128) j
  refine (congrArg w e).trans ((h _ _).trans ?_)
  have := emb2 (a := 4096) (b := 256) off inb (show Fin 4096 from j 0) (show Fin 128 from j 1) hoff (by have := (show Fin 4096 from j 0).isLt; omega) (by have := (show Fin 128 from j 1).isLt; omega)
  rw [← e] at this
  rw [this]
  show _ = keysAt _ _ _ _
  congr 1; exact Fin.ext (by simp)

/-- One head's values in one chunk of keys. -/
theorem vals_piece {h : Fin 2} {c : ℕ} {v : (Mat 4096 128).Idx → EReal} {x : FVec Ideal (Mat 1024 128) .bf16} {w : FVec Ideal (Cub 1 80 1024) .bf16}
    {off : Fin 3 → ℕ} (inb : ∀ i, off i + (Cub 1 80 1024).size i ≤ (Cub 2 80 4096).size i) {o : Fin 2 → ℕ} {h1 h2 h3 h4}
    (hoff : off = ![h.val, 0, c]) (hc : c + 1024 ≤ 4096) (ho : o = ![64 * h.val, 0])
    (e : w = shapeCast (Cub 1 80 1024) (concatenate (Mat 80 1024) 0 [⟨Mat 64 1024, extractStridedSlice (Mat 64 1024) o (transpose (Mat 128 1024) [1, 0] x h1) h2⟩,
      ⟨Mat 16 1024, broadcast (Mat 16 1024) (Scalar.ofBits (F := Ideal) .bf16 0x3F80#16)⟩] h3) h4)
    (hx : ∀ (i : Fin 1024) (l : Fin 128), x (ix2 i l) = v (ix2 ⟨c + i.val, by omega⟩ l))
    (j : (Rect.unit (s := Cub 2 80 4096) off (Cub 1 80 1024).size inb).shape.Idx) : w j = vals v ((Rect.unit (s := Cub 2 80 4096) off (Cub 1 80 1024).size inb).emb j) := by
  refine piece3 _ inb hoff (by omega) (by omega) (by omega) (fun i r k => ?_) j
  obtain rfl : i = 0 := Subsingleton.elim _ _
  subst e ho
  rw [shapeCast_add]
  show _ = valsAt _ _ _ _
  pointwise
  unfold valsAt
  split
  · exact hx _ _
  · rfl

/-- Head `h`'s own six lanes of the bias factors, as the kernel tests for them. -/
theorem own_lanes {p l : ℕ} {h : ℕ} (hp : p < 8) (hh : h < 2) (hl : l < 128) :
    IntOp.andi (IntOp.cmpi .sge (BitVec.ofNat 32 l) (IntOp.muli 6#32 (IntOp.addi (IntOp.muli 2#32 (BitVec.ofNat 32 p)) (BitVec.ofNat 32 h))))
      (IntOp.cmpi .slt (BitVec.ofNat 32 l) (IntOp.addi (IntOp.muli 6#32 (IntOp.addi (IntOp.muli 2#32 (BitVec.ofNat 32 p)) (BitVec.ofNat 32 h))) 6#32))
      = BitVec.ofBool (decide (6 * (2 * p + h) ≤ l ∧ l < 6 * (2 * p + h) + 6)) := by
  have e1 : IntOp.muli 6#32 (IntOp.addi (IntOp.muli 2#32 (BitVec.ofNat 32 p)) (BitVec.ofNat 32 h)) = BitVec.ofNat 32 (6 * (2 * p + h)) := by
    simp only [IntOp.muli, IntOp.addi, BitVec.ofNat_add, BitVec.ofNat_mul]
  have e2 : IntOp.addi (BitVec.ofNat 32 (6 * (2 * p + h))) 6#32 = BitVec.ofNat 32 (6 * (2 * p + h) + 6) := by
    simp only [IntOp.addi, BitVec.ofNat_add]
  rw [e1, e2, WordCmp.cmpi_sge_eq, WordCmp.cmpi_slt_eq, WordCmp.toInt_ofNat_of_lt (by omega), WordCmp.toInt_ofNat_of_lt (by omega),
    WordCmp.toInt_ofNat_of_lt (by omega), WordCmp.andi_ofBool]
  congr 1
  simp only [Int.ofNat_le, Int.ofNat_lt, Bool.decide_and]

/-- The first head's queries in one tile. -/
theorem queries_piece0 {p c : ℕ} {q : (Mat 4096 128).Idx → EReal} {a : (Mat 128 4096).Idx → EReal} {x : FVec Ideal (Mat 256 128) .bf16} {xa : FVec Ideal (Mat 128 256) .bf16}
    {w : FVec Ideal (Cub 1 256 256) .bf16} {off : Fin 3 → ℕ} (inb : ∀ i, off i + (Cub 1 256 256).size i ≤ (Cub 2 256 4096).size i)
    {h1 h2 h3 h4 h5 h6 h7} (hoff : off = ![0, 0, c]) (hc : c + 256 ≤ 4096) (hp : p < 8)
    (e : w = shapeCast (Cub 1 256 256) (concatenate (Mat 256 256) 0 [⟨Mat 64 256, extractStridedSlice (Mat 64 256) ![0, 0] (transpose (Mat 128 256) [1, 0] x h1) h2⟩,
      ⟨Mat 64 256, broadcast (Mat 64 256) (Scalar.ofBits (F := Ideal) .bf16 0x0000#16)⟩,
      ⟨Mat 128 256, truncf (F := Ideal) .bf16 (select (andi
          (cmpi .sge (iota .tc (Mat 128 256) 32 [0] h3) (broadcast (Mat 128 256) (Scalar.muli 6#32 (Scalar.addi (Scalar.muli 2#32 (BitVec.ofNat 32 p)) 0#32))))
          (cmpi .slt (iota .tc (Mat 128 256) 32 [0] h3) (broadcast (Mat 128 256) (Scalar.addi (Scalar.muli 6#32 (Scalar.addi (Scalar.muli 2#32 (BitVec.ofNat 32 p)) 0#32)) 6#32))))
        (extf .f32 xa h4) (broadcast (Mat 128 256) (Scalar.ofBits (F := Ideal) .f32 0x00000000#32))) h5⟩] h6) h7)
    (hx : ∀ (i : Fin 256) (l : Fin 128), x (ix2 i l) = q (ix2 ⟨c + i.val, by omega⟩ l))
    (ha : ∀ (l : Fin 128) (i : Fin 256), xa (ix2 l i) = a (ix2 l ⟨c + i.val, by omega⟩))
    (j : (Rect.unit (s := Cub 2 256 4096) off (Cub 1 256 256).size inb).shape.Idx) : w j = queries p q a ((Rect.unit (s := Cub 2 256 4096) off (Cub 1 256 256).size inb).emb j) := by
  refine piece3 _ inb hoff (by omega) (by omega) (by omega) (fun i r k => ?_) j
  obtain rfl : i = 0 := Subsingleton.elim _ _
  subst e
  rw [shapeCast_add]
  show _ = queriesAt _ _ _ _ _ _
  pointwise
  unfold queriesAt
  by_cases h64 : r.val < 64
  · rw [dif_pos h64, dif_pos (by omega)]
    exact (hx _ _).trans (if_pos (by simp; omega)).symm
  · rw [dif_neg h64]
    by_cases h128 : r.val - 64 < 64
    · rw [dif_pos h128, dif_pos (by omega)]
      exact (if_neg (by simp; omega)).symm
    · rw [dif_neg h128, dif_neg (by omega)]
      have e : r.val - 64 - 64 = r.val - 128 := by omega
      refine (congrArg (fun b => Scalar.select b _ _) (own_lanes (p := p) (h := 0) (l := r.val - 64 - 64) hp (by omega) (by omega))).trans ?_
      refine (Scalar.select_decide _ _ _).trans ?_
      simp only [ha, e]
      rfl

/-- The second head's queries in one tile. -/
theorem queries_piece1 {p c : ℕ} {q : (Mat 4096 128).Idx → EReal} {a : (Mat 128 4096).Idx → EReal} {x : FVec Ideal (Mat 256 128) .bf16} {xa : FVec Ideal (Mat 128 256) .bf16}
    {w : FVec Ideal (Cub 1 256 256) .bf16} {off : Fin 3 → ℕ} (inb : ∀ i, off i + (Cub 1 256 256).size i ≤ (Cub 2 256 4096).size i)
    {h1 h2 h3 h4 h5 h6 h7} (hoff : off = ![1, 0, c]) (hc : c + 256 ≤ 4096) (hp : p < 8)
    (e : w = shapeCast (Cub 1 256 256) (concatenate (Mat 256 256) 0 [⟨Mat 64 256, broadcast (Mat 64 256) (Scalar.ofBits (F := Ideal) .bf16 0x0000#16)⟩,
      ⟨Mat 64 256, extractStridedSlice (Mat 64 256) ![64, 0] (transpose (Mat 128 256) [1, 0] x h1) h2⟩,
      ⟨Mat 128 256, truncf (F := Ideal) .bf16 (select (andi
          (cmpi .sge (iota .tc (Mat 128 256) 32 [0] h3) (broadcast (Mat 128 256) (Scalar.muli 6#32 (Scalar.addi (Scalar.muli 2#32 (BitVec.ofNat 32 p)) 1#32))))
          (cmpi .slt (iota .tc (Mat 128 256) 32 [0] h3) (broadcast (Mat 128 256) (Scalar.addi (Scalar.muli 6#32 (Scalar.addi (Scalar.muli 2#32 (BitVec.ofNat 32 p)) 1#32)) 6#32))))
        (extf .f32 xa h4) (broadcast (Mat 128 256) (Scalar.ofBits (F := Ideal) .f32 0x00000000#32))) h5⟩] h6) h7)
    (hx : ∀ (i : Fin 256) (l : Fin 128), x (ix2 i l) = q (ix2 ⟨c + i.val, by omega⟩ l))
    (ha : ∀ (l : Fin 128) (i : Fin 256), xa (ix2 l i) = a (ix2 l ⟨c + i.val, by omega⟩))
    (j : (Rect.unit (s := Cub 2 256 4096) off (Cub 1 256 256).size inb).shape.Idx) : w j = queries p q a ((Rect.unit (s := Cub 2 256 4096) off (Cub 1 256 256).size inb).emb j) := by
  refine piece3 _ inb hoff (by omega) (by omega) (by omega) (fun i r k => ?_) j
  obtain rfl : i = 0 := Subsingleton.elim _ _
  subst e
  rw [shapeCast_add]
  show _ = queriesAt _ _ _ _ _ _
  pointwise
  unfold queriesAt
  by_cases h64 : r.val < 64
  · rw [dif_pos h64, dif_pos (by omega)]
    exact (if_neg (by simp; omega)).symm
  · rw [dif_neg h64]
    by_cases h128 : r.val - 64 < 64
    · rw [dif_pos h128, dif_pos (by omega)]
      refine ((hx _ _).trans ?_).trans (if_pos (by simp; omega)).symm
      congr 2; exact Fin.ext (by simp; omega)
    · rw [dif_neg h128, dif_neg (by omega)]
      have e : r.val - 64 - 64 = r.val - 128 := by omega
      refine (congrArg (fun b => Scalar.select b _ _) (own_lanes (p := p) (h := 1) (l := r.val - 64 - 64) hp (by omega) (by omega))).trans ?_
      refine (Scalar.select_decide _ _ _).trans ?_
      simp only [ha, e]
      rfl

end Cert.Tile

end
-- ==== Proof.AttnBody.lean ====
/- What one grid point of the attention leaves in its output block: the 16 column tiles as one formula in the point's input blocks. -/
module

public import proofs.«01_k».proof.Proof.Gen.KernelIdeal.Value
public import proofs.«01_k».proof.Proof.Fill
public import Idealize.ShloMosaic.Lib.WholeRead

@[expose] public section

set_option maxRecDepth 16384

noncomputable section

namespace Cert.KernelIdeal.Body

open Cert.KernelIdeal Cert.KernelIdeal.Gen Idealize.ShloMosaic Idealize.ShloMosaic.TcCoe Idealize.SL.Sem Idealize.ShloMosaic.Pointwise Cert.Tile

/-- The rows left by the stores of the keys, the values and the queries. -/
def rows (LK : List (View.Piece (Elt Ideal) S4096x256 .bf16)) (LV : List (View.Piece (Elt Ideal) S2x80x4096 .bf16)) (LQ : List (View.Piece (Elt Ideal) S2x256x4096 .bf16))
    (G : S4096x128.Idx → EReal) (y : S4096x128.Idx) : EReal := out (View.canon LK) (View.canon LV) (View.canon LQ) G (y 0) (y 1)

/-- A column tile's rows are rows of that formula when they are so at every coordinate. -/
theorem piece {off : Fin 2 → ℕ} {LK : List (View.Piece (Elt Ideal) S4096x256 .bf16)} {LV : List (View.Piece (Elt Ideal) S2x80x4096 .bf16)} {LQ : List (View.Piece (Elt Ideal) S2x256x4096 .bf16)}
    {G : S4096x128.Idx → EReal} {nb : ℕ} (inb : ∀ i, off i + S256x128.size i ≤ S4096x128.size i) (hoff : off = ![nb, 0]) (hnb : nb + 256 ≤ 4096) {w : S256x128.Idx → EReal}
    (h : ∀ (r : Fin 256) (d : Fin 128), w (ix2 r d) = out (View.canon LK) (View.canon LV) (View.canon LQ) G ⟨nb + r, by omega⟩ d)
    (j : (Rect.unit (s := S4096x128) off S256x128.size inb).shape.Idx) : w j = rows LK LV LQ G ((Rect.unit (s := S4096x128) off S256x128.size inb).emb j) := by
  have e := eq_ix2 (n0 := 256) (n1 := 128) j
  refine (congrArg w e).trans ((h _ _).trans ?_)
  have := emb2 (a := 4096) (b := 128) off inb (show Fin 256 from j 0) (show Fin 128 from j 1) hoff (by have := (show Fin 256 from j 0).isLt; omega) (by have := (show Fin 128 from j 1).isLt; omega)
  rw [← e] at this
  rw [this]
  show _ = out _ _ _ _ _ _
  congr 1; exact Fin.ext (by simp)

/-- Stores that all hold the formula's rows, and cover the block, leave the formula. -/
theorem rows_of {L : List (View.Piece (Elt Ideal) S4096x128 .bf16)} {LK : List (View.Piece (Elt Ideal) S4096x256 .bf16)} {LV : List (View.Piece (Elt Ideal) S2x80x4096 .bf16)} {LQ : List (View.Piece (Elt Ideal) S2x256x4096 .bf16)}
    {G : S4096x128.Idx → EReal} (h : View.PiecesOf (Val := Elt Ideal) (e := .bf16) (rows LK LV LQ G) L) (hc : ∀ y, ∃ p ∈ L, y ∈ p.1.set) :
    View.canon L = rows LK LV LQ G := funext fun y => View.canon_apply_of_pieces (Val := Elt Ideal) (e := .bf16) _ L h.mem y (hc y)

theorem pieces_cons {s : Shape} {α : EltTy} {G : s.Idx → Elt Ideal α} {r : Rect s} {w : r.shape.Idx → Elt Ideal α} {L : List (View.Piece (Elt Ideal) s α)}
    (h : ∀ x : r.shape.Idx, w x = G (r.emb x)) (hL : View.PiecesOf (Val := Elt Ideal) (e := α) G L) : View.PiecesOf (Val := Elt Ideal) (e := α) G (⟨r, w⟩ :: L) := ⟨h, hL⟩

/-- Stores that all hold an array's entries, and cover it, leave the array. -/
theorem canon_of {s : Shape} {α : EltTy} {G : s.Idx → Elt Ideal α} {L : List (View.Piece (Elt Ideal) s α)}
    (h : View.PiecesOf (Val := Elt Ideal) (e := α) G L) (hc : ∀ y, ∃ p ∈ L, y ∈ p.1.set) : View.canon L = G :=
  funext fun y => View.canon_apply_of_pieces (Val := Elt Ideal) (e := α) _ L h.mem y (hc y)

/-- A load of a block from an input that holds an array reads the array there. -/
theorem read2 {κ : Kind} {a b x y : ℕ} {α : EltTy} {m : Memref sig κ .vmem (Mat a b) α} (h : m.IsWhole) (X : (Mat a b).Idx → Elt Ideal α) {off : Fin 2 → ℕ} (inb : ∀ i, off i + (Mat x y).size i ≤ (Mat a b).size i)
    (i : Fin x) (j : Fin y) {p q : ℕ} (hoff : off = ![p, q]) {i' : Fin a} {j' : Fin b} (hi : i'.val = p + i.val) (hj : j'.val = q + j.val) :
    View.readAt (Elt Ideal) m.view (Rect.unit (s := Mat a b) off (Mat x y).size inb).toLoadRect (h.unread X) (ix2 i j) = X (ix2 i' j') := by
  refine (Memref.IsWhole.readAt_unread h _ _ _).trans (congrArg X ?_)
  refine (idx2 off inb i j hoff (by omega) (by omega)).trans ?_
  congr 1 <;> exact Fin.ext (by simp [*])

variable (m : (ℓ : Loc nD τ sig) → Buf (Elt Ideal) ℓ)

/-- A point's output block, from its six input blocks. -/
theorem block (c : Dev nD) (t : Fin cfg0.N) :
    outsAt0 m c t = fun y => out (keys (iblk m c 1 t) (iblk m c 5 t)) (vals (iblk m c 2 t)) (queries (grid0.coords t 1).val (iblk m c 0 t) (iblk m c 4 t)) (iblk m c 3 t) (y 0) (y 1) := by
  unfold outsAt0
  frame_open
  rw [View.read_writes_junk_eq_canon]
  generalize hQ : ((⟨Rect.unit ![1, 0, 0] S1x256x256.size inb_S2x256x4096_S1x256x256_1_0_0, _⟩ : View.Piece (Elt Ideal) S2x256x4096 .bf16) :: _) = LQ
  generalize hV : ((⟨Rect.unit ![1, 0, 3072] S1x80x1024.size inb_S2x80x4096_S1x80x1024_1_0_3072, _⟩ : View.Piece (Elt Ideal) S2x80x4096 .bf16) :: _) = LV
  generalize hK : ((⟨Rect.unit ![0, 128] S4096x128.size inb_S4096x256_S4096x128_0_128, _⟩ : View.Piece (Elt Ideal) S4096x256 .bf16) :: _) = LK
  have eK : View.canon LK = keys (iblk m c 1 t) (iblk m c 5 t) := by
    rw [← hK]
    refine canon_of ?_ (View.cover_of_tiledL _ S4096x128.size (by sl_kernel_rfl))
    apply pieces_cons
    · refine key_piece _ (s := 128) (by exact rfl) (by decide) fun i l => ?_
      pointwise [k0_pay3]
      refine (read2 (hs0_5 t) _ _ _ _ (i' := i) (j' := l) (by exact rfl) (by simp) (by simp)).trans ?_
      rw [keysAt, dif_neg (by simp)]
      congr 2; exact Fin.ext (by simp)
    apply pieces_cons
    · refine key_piece _ (s := 0) (by exact rfl) (by decide) fun i l => ?_
      pointwise [k0_pay2]
      refine (read2 (hs0_1 t) _ _ _ _ (i' := i) (j' := l) (by exact rfl) (by simp) (by simp)).trans ?_
      rw [keysAt, dif_pos (by simp)]
    exact trivial
  have eV : View.canon LV = vals (iblk m c 2 t) := by
    rw [← hV]
    refine canon_of ?_ (View.cover_of_tiledL _ S1x80x1024.size (by sl_kernel_rfl))
    iterate 4
      apply pieces_cons
      · refine vals_piece (h3 := concatenates_S64x1024_S16x1024_S80x1024_d0) (h := 1) _ (by exact rfl) (by decide) (by exact rfl) (by exact rfl) (fun i l => ?_)
        exact read2 _ _ _ _ _ (by exact rfl) (by exact rfl) (by simp)
      apply pieces_cons
      · refine vals_piece (h3 := concatenates_S64x1024_S16x1024_S80x1024_d0) (h := 0) _ (by exact rfl) (by decide) (by exact rfl) (by exact rfl) (fun i l => ?_)
        exact read2 _ _ _ _ _ (by exact rfl) (by exact rfl) (by simp)
    exact trivial
  have eQ : View.canon LQ = queries (grid0.coords t 1).val (iblk m c 0 t) (iblk m c 4 t) := by
    rw [← hQ]
    refine canon_of ?_ (View.cover_of_tiledL _ S1x256x256.size (by sl_kernel_rfl))
    iterate 16
      apply pieces_cons
      · refine queries_piece1 (h6 := concatenates_S64x256_S64x256_S128x256_S256x256_d0) _ (by exact rfl) (by decide) (grid0.coords t 1).isLt (by exact rfl) (fun i l => ?_) (fun i l => ?_)
        · exact read2 _ _ _ _ _ (by exact rfl) (by exact rfl) (by simp)
        · exact read2 _ _ _ _ _ (by exact rfl) (by simp) (by exact rfl)
      apply pieces_cons
      · refine queries_piece0 (h6 := concatenates_S64x256_S64x256_S128x256_S256x256_d0) _ (by exact rfl) (by decide) (grid0.coords t 1).isLt (by first | exact rfl | (unfold k0_pay91 k0_pay90 k0_pay89 k0_pay88 k0_pay87 k0_pay86; exact rfl)) (fun i l => ?_) (fun i l => ?_)
        · exact read2 _ _ _ _ _ (by exact rfl) (by exact rfl) (by simp)
        · exact read2 _ _ _ _ _ (by exact rfl) (by simp) (by exact rfl)
    exact trivial
  rw [← eK, ← eV, ← eQ]
  show _ = rows LK LV LQ (iblk m c 3 t)
  clear eK eV eQ
  apply rows_of
  · apply pieces_cons
    · refine piece (by decide) (by exact rfl) (by decide) fun r d => ?_
      exact first_rows (a4 := by decide) ClosedOff.eq ClosedOff.eq (by exact rfl) (by exact rfl) (by exact rfl) (by exact rfl) (by exact rfl)
        (by intro r d; exact read2 _ _ _ _ _ (by exact rfl) (by exact rfl) (by simp)) r d
    iterate 15
      apply pieces_cons
      · refine piece (by decide) (by exact rfl) (by decide) fun r d => ?_
        exact tile_rows (by exact rfl) (by decide) ClosedOff.eq ClosedOff.eq (by exact rfl) (by exact rfl) (by exact rfl) (by exact rfl) (by exact rfl) (by exact rfl) (by exact rfl)
          (by intro r d; exact read2 _ _ _ _ _ (by exact rfl) (by exact rfl) (by simp)) r d
    exact trivial
  · exact View.cover_of_tiledL _ S256x128.size (by sl_kernel_rfl)

end Cert.KernelIdeal.Body

end
-- ==== Proof.AttnArray.lean ====
/- The attention's output array as one formula in its three argument arrays. -/
module

public import proofs.«01_k».proof.Proof.AttnBody

@[expose] public section

set_option maxRecDepth 16384

noncomputable section

namespace Cert.KernelIdeal.Body

open Cert.KernelIdeal Cert.KernelIdeal.Gen Idealize.ShloMosaic Idealize.ShloMosaic.TcCoe Idealize.SL.Sem Idealize.ShloMosaic.Pointwise Cert.Tile

/-- A batch's rows of one pair of heads in column group `g` of the projected array. -/
def zCols (z : S16384x7168.Idx → EReal) (g : ℕ) (hg : g < 7) (b : Fin 4) (p : Fin 8) (y : (Mat 4096 128).Idx) : EReal :=
  z (ix2 ⟨4096 * b + (show Fin 4096 from y 0).val, by have := (show Fin 4096 from y 0).isLt; omega⟩
    ⟨128 * (8 * g + p) + (show Fin 128 from y 1).val, by have := (show Fin 128 from y 1).isLt; omega⟩)

/-- A batch's bias factors of its queries. -/
def qaCols (a : S128x16384.Idx → EReal) (b : Fin 4) (y : (Mat 128 4096).Idx) : EReal :=
  a (ix2 (show Fin 128 from y 0) ⟨4096 * b + (show Fin 4096 from y 1).val, by have := (show Fin 4096 from y 1).isLt; omega⟩)

/-- A batch's bias factors of its keys. -/
def kaRows (a : S16384x128.Idx → EReal) (b : Fin 4) (y : (Mat 4096 128).Idx) : EReal :=
  a (ix2 ⟨4096 * b + (show Fin 4096 from y 0).val, by have := (show Fin 4096 from y 0).isLt; omega⟩ (show Fin 128 from y 1))

/-- The gated attention of batch `b` and pair of heads `p`. -/
def pairOut (z : S16384x7168.Idx → EReal) (qa : S128x16384.Idx → EReal) (ka : S16384x128.Idx → EReal) (b : Fin 4) (p : Fin 8) (q : Fin 4096) (d : Fin 128) : EReal :=
  out (keys (zCols z 4 (by decide) b p) (kaRows ka b)) (vals (zCols z 5 (by decide) b p)) (queries p.val (zCols z 3 (by decide) b p) (qaCols qa b))
    (zCols z 6 (by decide) b p) q d

/-- The output array. -/
def attn (z : S16384x7168.Idx → EReal) (qa : S128x16384.Idx → EReal) (ka : S16384x128.Idx → EReal) (y : S16384x1024.Idx) : EReal :=
  have h0 := (show Fin 16384 from y 0).isLt
  have h1 := (show Fin 1024 from y 1).isLt
  pairOut z qa ka ⟨(show Fin 16384 from y 0).val / 4096, by omega⟩ ⟨(show Fin 1024 from y 1).val / 128, by omega⟩
    ⟨(show Fin 16384 from y 0).val % 4096, by omega⟩ ⟨(show Fin 1024 from y 1).val % 128, by omega⟩

theorem attn_at (z : S16384x7168.Idx → EReal) (qa : S128x16384.Idx → EReal) (ka : S16384x128.Idx → EReal) (y : S16384x1024.Idx) (b : Fin 4) (p : Fin 8)
    (q : Fin 4096) (d : Fin 128) (h0 : (y 0).val = 4096 * b.val + q.val) (h1 : (y 1).val = 128 * p.val + d.val) : attn z qa ka y = pairOut z qa ka b p q d := by
  unfold attn
  show pairOut z qa ka _ _ _ _ = _
  congr 1 <;> apply Fin.ext <;> simp only [h0, h1] <;> omega

variable (m : (ℓ : Loc nD τ sig) → Buf (Elt Ideal) ℓ)

theorem places : ∀ t : Fin cfg0.N, win0_0.index t = ![(grid0.coords t 0).val, 24 + (grid0.coords t 1).val]
    ∧ win0_1.index t = ![(grid0.coords t 0).val, 32 + (grid0.coords t 1).val] ∧ win0_2.index t = ![(grid0.coords t 0).val, 40 + (grid0.coords t 1).val]
    ∧ win0_3.index t = ![(grid0.coords t 0).val, 48 + (grid0.coords t 1).val] ∧ win0_4.index t = ![0, (grid0.coords t 0).val]
    ∧ win0_5.index t = ![(grid0.coords t 0).val, 0] ∧ win0_6.index t = ![(grid0.coords t 0).val, (grid0.coords t 1).val] :=
  (by decide +kernel : ∀ t : Fin grid0.N, _)

theorem in_q (c : Dev nD) (t : Fin cfg0.N) : iblk m c 0 t = zCols (m ((c : Thread nD τ).loc main_arg0)) 3 (by decide) (grid0.coords t 0) (grid0.coords t 1) := by
  funext y; unfold zCols; blk_ext [iblk, V, places t]

theorem in_k (c : Dev nD) (t : Fin cfg0.N) : iblk m c 1 t = zCols (m ((c : Thread nD τ).loc main_arg0)) 4 (by decide) (grid0.coords t 0) (grid0.coords t 1) := by
  funext y; unfold zCols; blk_ext [iblk, V, places t]

theorem in_v (c : Dev nD) (t : Fin cfg0.N) : iblk m c 2 t = zCols (m ((c : Thread nD τ).loc main_arg0)) 5 (by decide) (grid0.coords t 0) (grid0.coords t 1) := by
  funext y; unfold zCols; blk_ext [iblk, V, places t]

theorem in_g (c : Dev nD) (t : Fin cfg0.N) : iblk m c 3 t = zCols (m ((c : Thread nD τ).loc main_arg0)) 6 (by decide) (grid0.coords t 0) (grid0.coords t 1) := by
  funext y; unfold zCols; blk_ext [iblk, V, places t]

theorem in_qa (c : Dev nD) (t : Fin cfg0.N) : iblk m c 4 t = qaCols (m ((c : Thread nD τ).loc main_arg1)) (grid0.coords t 0) := by
  funext y; unfold qaCols; blk_ext [iblk, V, places t]

theorem in_ka (c : Dev nD) (t : Fin cfg0.N) : iblk m c 5 t = kaRows (m ((c : Thread nD τ).loc main_arg2)) (grid0.coords t 0) := by
  funext y; unfold kaRows; blk_ext [iblk, V, places t]

/-- The output array after the run. -/
theorem arr (c : Dev nD) : (dats m 0 c).arrAt 6 cfg0.N
    = attn (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6, block, in_q, in_k, in_v, in_g, in_qa, in_ka]
  refine (attn_at _ _ _ _ (grid0.coords t 0) (grid0.coords t 1) (y 0) (y 1) ?_ ?_).symm
  · blk_simp [places t]; omega
  · blk_simp [places t]; omega

end Cert.KernelIdeal.Body

end
-- ==== Proof.Softmax.lean ====
/- A softmax in base e over scaled scores, then the weighted sum, is the base-2 one normalised after its sum. -/
module

public import Idealize.ShloMosaic.PureOps.Ideal.Laws
public import Idealize.ShloMosaic.Lib.IdealHost

@[expose] public section

noncomputable section

namespace Cert.Softmax

open Idealize.ShloMosaic

/-- Scaling by a positive real goes through a difference. -/
theorem sub_mul_coe (a b : EReal) {c : ℝ} (hc : 0 < c) : a * c - b * c = (a - b) * c := by
  have hc' : (0 : EReal) < (c : EReal) := by exact_mod_cast hc
  induction a with
  | bot => simp [EReal.bot_mul_of_pos hc']
  | top => induction b with
    | top => simp [EReal.top_mul_of_pos hc', EReal.bot_mul_of_pos hc', sub_eq_add_neg]
    | bot => simp [EReal.top_mul_of_pos hc', EReal.bot_mul_of_pos hc', sub_eq_add_neg]
    | coe b => rw [EReal.top_mul_of_pos hc', ← EReal.coe_mul, EReal.top_sub_coe, EReal.top_sub_coe, EReal.top_mul_of_pos hc']
  | coe a => induction b with
    | top => simp [EReal.top_mul_of_pos hc', EReal.bot_mul_of_pos hc', sub_eq_add_neg]
    | bot => rw [EReal.bot_mul_of_pos hc', ← EReal.coe_mul, EReal.coe_sub_bot, EReal.coe_sub_bot, EReal.top_mul_of_pos hc']
    | coe b => norm_cast; ring

/-- The base-e exponential of a score scaled by the logarithm of 2 is the base-2 one. -/
theorem exp_log (x : EReal) : Ideal.exp (x * (Real.log 2 : ℝ)) = Ideal.exp2 x := by
  have hc : (0 : EReal) < ((Real.log 2 : ℝ) : EReal) := by exact_mod_cast Real.log_pos one_lt_two
  induction x with
  | bot => rw [EReal.bot_mul_of_pos hc]; rfl
  | top => rw [EReal.top_mul_of_pos hc]; rfl
  | coe r =>
    rw [← EReal.coe_mul, Ideal.exp_coe, Ideal.exp2_coe]
    congr 1
    rw [mul_comm]
    exact (Real.rpow_def_of_pos two_pos r).symm

variable {n : ℕ}

/-- The largest of the scaled scores is the largest score, scaled. -/
theorem fold_mul (s : Fin n → EReal) {c : ℝ} (hc : 0 < c) :
    Finset.univ.fold max ⊥ (fun k => s k * (c : EReal)) = Finset.univ.fold max ⊥ s * (c : EReal) := by
  have hc' : (0 : EReal) < (c : EReal) := by exact_mod_cast hc
  have hm : Monotone fun x : EReal => x * (c : EReal) := fun x y h => mul_le_mul_of_nonneg_right h hc'.le
  rw [← Finset.fold_hom (op := max) (op' := max) (m := fun x : EReal => x * (c : EReal)) (b := ⊥) (f := s) (fun x y => hm.map_max)]
  simp [EReal.bot_mul_of_pos hc']

/-- The largest of scores below the top, one of them real, is real. -/
theorem fold_real (s : Fin n → EReal) (ht : ∀ k, s k ≠ ⊤) (k₀ : Fin n) (hb : s k₀ ≠ ⊥) : ∃ r : ℝ, Finset.univ.fold max ⊥ s = r := by
  have h1 : Finset.univ.fold max ⊥ s < ⊤ := (Finset.fold_max_lt _).mpr ⟨bot_lt_top, fun k _ => lt_top_iff_ne_top.mpr (ht k)⟩
  have h2 : s k₀ ≤ Finset.univ.fold max ⊥ s := (Finset.le_fold_max _).mpr (Or.inr ⟨k₀, Finset.mem_univ _, le_rfl⟩)
  have h3 : Finset.univ.fold max ⊥ s ≠ ⊥ := fun h => hb (le_bot_iff.mp (h ▸ h2))
  exact ⟨_, (EReal.coe_toReal h1.ne h3).symm⟩

/-- A weight relative to a real largest score is a real, not negative, and positive where the score is real. -/
theorem weight_real (x : EReal) (hx : x ≠ ⊤) (r : ℝ) : ∃ w : ℝ, Ideal.exp2 (x - r) = w ∧ 0 ≤ w ∧ (x ≠ ⊥ → 0 < w) := by
  induction x with
  | bot => exact ⟨0, by rw [EReal.bot_sub]; rfl, le_rfl, fun h => (h rfl).elim⟩
  | top => exact (hx rfl).elim
  | coe a => exact ⟨Real.rpow 2 (a - r), by rw [← EReal.coe_sub]; rfl, (Real.rpow_pos_of_pos two_pos _).le, fun _ => Real.rpow_pos_of_pos two_pos _⟩

/-- Weights normalised before the weighted sum, or after it. -/
theorem normalise (s v : Fin n → EReal) (ht : ∀ k, s k ≠ ⊤) (k₀ : Fin n) (hb : s k₀ ≠ ⊥) (hv : ∀ k, ∃ r : ℝ, v k = r) {top : EReal}
    (htop : top = Finset.univ.fold max ⊥ s) :
    ∑ k, Ideal.div (Ideal.exp2 (s k - top)) (∑ j, Ideal.exp2 (s j - top)) * v k
      = Ideal.div (∑ k, v k * Ideal.exp2 (s k - top)) (∑ j, 1 * Ideal.exp2 (s j - top)) := by
  obtain ⟨r, hr⟩ := fold_real s ht k₀ hb
  rw [htop, hr]
  choose w hw hw0 hw1 using fun k => weight_real (s k) (ht k) r
  choose u hu using hv
  have hS : ∑ j, w j ≠ 0 := (Finset.sum_pos' (fun j _ => hw0 j) ⟨k₀, Finset.mem_univ _, hw1 k₀ hb⟩).ne'
  simp only [hw, hu, one_mul]
  have e1 : ∑ j, ((w j : ℝ) : EReal) = ((∑ j, w j : ℝ) : EReal) := (map_sum (⟨⟨Real.toEReal, rfl⟩, EReal.coe_add⟩ : ℝ →+ EReal) w _).symm
  have e2 : ∑ k, ((u k : ℝ) : EReal) * (w k : EReal) = ((∑ k, u k * w k : ℝ) : EReal) :=
    (Finset.sum_congr rfl fun k _ => (EReal.coe_mul _ _).symm).trans (map_sum (⟨⟨Real.toEReal, rfl⟩, EReal.coe_add⟩ : ℝ →+ EReal) (fun k => u k * w k) _).symm
  rw [e1, e2]
  simp only [Ideal.div_coe hS, ← EReal.coe_mul]
  refine (map_sum (⟨⟨Real.toEReal, rfl⟩, EReal.coe_add⟩ : ℝ →+ EReal) (fun k => w k * (1 / ∑ j, w j) * u k) _).symm.trans ?_
  show ((_ : ℝ) : EReal) = _
  congr 1
  rw [Finset.sum_mul]
  exact Finset.sum_congr rfl fun k _ => by ring

/-- A sum of terms that are zero off a window is the sum over the window. -/
theorem sum_window {N w : ℕ} (f : Fin N → EReal) (a : ℕ) (h : a + w ≤ N) (h0 : ∀ l : Fin N, ¬(a ≤ l.val ∧ l.val < a + w) → f l = 0) :
    ∑ l, f l = ∑ j : Fin w, f ⟨a + j.val, by omega⟩ := by
  refine (Fintype.sum_of_injective (fun j : Fin w => (⟨a + j.val, by omega⟩ : Fin N)) (fun i j e => Fin.ext (by have := congrArg Fin.val e; simp at this; omega)) _ _ (fun l hl => h0 l fun hh => hl ⟨⟨l.val - a, by omega⟩, Fin.ext (by simp; omega)⟩) fun j => rfl).symm

/-- A finite sum of reals is real. -/
theorem sum_real {ι : Type*} (t : Finset ι) (f : ι → EReal) (h : ∀ i, ∃ r : ℝ, f i = r) : ∃ r : ℝ, ∑ i ∈ t, f i = r := by
  choose g hg using h
  exact ⟨∑ i ∈ t, g i, (Finset.sum_congr rfl fun i _ => hg i).trans (map_sum (⟨⟨Real.toEReal, rfl⟩, EReal.coe_add⟩ : ℝ →+ EReal) g t).symm⟩

theorem mul_real {a b : EReal} (ha : ∃ r : ℝ, a = r) (hb : ∃ r : ℝ, b = r) : ∃ r : ℝ, a * b = r := by
  obtain ⟨x, rfl⟩ := ha; obtain ⟨y, rfl⟩ := hb; exact ⟨x * y, rfl⟩

theorem add_real {a b : EReal} (ha : ∃ r : ℝ, a = r) (hb : ∃ r : ℝ, b = r) : ∃ r : ℝ, a + b = r := by
  obtain ⟨x, rfl⟩ := ha; obtain ⟨y, rfl⟩ := hb; exact ⟨x + y, rfl⟩

/-- A value whose size compares below the top is real. -/
theorem real_of_abs {x : EReal} (h : Ideal.cmp .olt (max x (-x)) ⊤ = 1#1) : ∃ r : ℝ, x = r := by
  induction x with
  | bot => simp [Ideal.cmp] at h
  | top => simp [Ideal.cmp] at h
  | coe r => exact ⟨r, rfl⟩

theorem posInf : Ideal.ofBits .f32 0x7F800000#32 = ⊤ := by
  simp [Ideal.ofBits, Ideal.ieee]

theorem two : Ideal.ofBits .f32 0x40000000#32 = ((2 : ℝ) : EReal) := by
  simp [Ideal.ofBits, Ideal.ieee]
  rw [← EReal.coe_mul]
  congr 1
  norm_num

end Cert.Softmax

end
-- ==== Proof.AttnEq.lean ====
/- The reference's attention is the kernel's: its logits are the kernel's scores, its softmax the kernel's weights over their sum. -/
module

public import proofs.«01_k».proof.Proof.AttnArray
public import proofs.«01_k».proof.Proof.Softmax
public import proofs.«01_k».proof.Proof.Gen.ReferenceIdeal.Read
public import Idealize.ShloMosaic.Lib.WordCmp

@[expose] public section

set_option maxRecDepth 16384

noncomputable section

namespace Cert.AttnEq

open Idealize.ShloMosaic Idealize.ShloMosaic.TcCoe Idealize.SL.Sem Cert.Tile Cert.Softmax
open Cert.KernelIdeal.Body (zCols qaCols kaRows pairOut attn attn_at)
open Cert.ReferenceIdeal Cert.ReferenceIdeal.Gen Cert.ReferenceIdeal.Read

variable (z : S16384x7168.Idx → EReal) (qa : S128x16384.Idx → EReal) (ka : S16384x128.Idx → EReal)

/-- The head of pair `p`, first or second. -/
abbrev hd (p : Fin 8) (h : Fin 2) : Fin 16 := ⟨2 * p + h, by omega⟩

section Read

variable (b : Fin 4) (p : Fin 8) (h : Fin 2)

theorem q_at (i : Fin 4096) (d : Fin 64) : val_main_v3 (F := Ideal) z (ix4 b (hd p h) i d) = zCols z 3 (by decide) b p (ix2 i ⟨64 * h + d, by omega⟩) := by
  rw [val_main_v3_apply, val_main_v2_apply, val_main_v1_apply, val_main_v0_apply]
  refine congrArg z (funext fun a => Fin.ext ?_)
  match a with
  | ⟨0, _⟩ => show (((b.val * 4096 + i.val) * 16 + (2 * p.val + h.val)) * 64 + d.val) / 1024 = 4096 * b.val + i.val; omega
  | ⟨1, _⟩ => show 3072 + (((b.val * 4096 + i.val) * 16 + (2 * p.val + h.val)) * 64 + d.val) % 1024 = 128 * (8 * 3 + p.val) + (64 * h.val + d.val); omega

theorem k_at (i : Fin 4096) (d : Fin 64) : val_main_v7 (F := Ideal) z (ix4 b (hd p h) i d) = zCols z 4 (by decide) b p (ix2 i ⟨64 * h + d, by omega⟩) := by
  rw [val_main_v7_apply, val_main_v6_apply, val_main_v5_apply, val_main_v4_apply]
  refine congrArg z (funext fun a => Fin.ext ?_)
  match a with
  | ⟨0, _⟩ => show (((b.val * 4096 + i.val) * 16 + (2 * p.val + h.val)) * 64 + d.val) / 1024 = 4096 * b.val + i.val; omega
  | ⟨1, _⟩ => show 4096 + (((b.val * 4096 + i.val) * 16 + (2 * p.val + h.val)) * 64 + d.val) % 1024 = 128 * (8 * 4 + p.val) + (64 * h.val + d.val); omega

theorem v_at (i : Fin 4096) (d : Fin 64) : val_main_v11 (F := Ideal) z (ix4 b (hd p h) i d) = zCols z 5 (by decide) b p (ix2 i ⟨64 * h + d, by omega⟩) := by
  rw [val_main_v11_apply, val_main_v10_apply, val_main_v9_apply, val_main_v8_apply]
  refine congrArg z (funext fun a => Fin.ext ?_)
  match a with
  | ⟨0, _⟩ => show (((b.val * 4096 + i.val) * 16 + (2 * p.val + h.val)) * 64 + d.val) / 1024 = 4096 * b.val + i.val; omega
  | ⟨1, _⟩ => show 5120 + (((b.val * 4096 + i.val) * 16 + (2 * p.val + h.val)) * 64 + d.val) % 1024 = 128 * (8 * 5 + p.val) + (64 * h.val + d.val); omega

theorem qa_at (i : Fin 4096) (r : Fin 6) : val_main_v17 (F := Ideal) qa (ix4 b (hd p h) i r) = qaCols qa b (ix2 ⟨6 * (2 * p + h) + r, by omega⟩ i) := by
  rw [val_main_v17_apply, val_main_v16_apply, val_main_v15_apply, val_main_v14_apply, val_main_v13_apply]
  refine congrArg qa (funext fun a => Fin.ext ?_)
  match a with
  | ⟨0, _⟩ => show (((b.val * 4096 + i.val) * 16 + (2 * p.val + h.val)) * 6 + r.val) % 96 = 6 * (2 * p.val + h.val) + r.val; omega
  | ⟨1, _⟩ => show (((b.val * 4096 + i.val) * 16 + (2 * p.val + h.val)) * 6 + r.val) / 96 = 4096 * b.val + i.val; omega

theorem ka_at (i : Fin 4096) (r : Fin 6) : val_main_v21 (F := Ideal) ka (ix4 b (hd p h) i r) = kaRows ka b (ix2 i ⟨6 * (2 * p + h) + r, by omega⟩) := by
  rw [val_main_v21_apply, val_main_v20_apply, val_main_v19_apply, val_main_v18_apply]
  refine congrArg ka (funext fun a => Fin.ext ?_)
  match a with
  | ⟨0, _⟩ => show (((b.val * 4096 + i.val) * 16 + (2 * p.val + h.val)) * 6 + r.val) / 96 = 4096 * b.val + i.val; omega
  | ⟨1, _⟩ => show (((b.val * 4096 + i.val) * 16 + (2 * p.val + h.val)) * 6 + r.val) % 96 = 6 * (2 * p.val + h.val) + r.val; omega

/-- The pair's keys, queries and values as the kernel lays them out. -/
abbrev K := keys (zCols z 4 (by decide) b p) (kaRows ka b)
abbrev Q := queries p.val (zCols z 3 (by decide) b p) (qaCols qa b)
abbrev V := vals (zCols z 5 (by decide) b p)

/-- The 256 lanes of a key against a query: the head's own 64 lanes and its own six bias factors. -/
theorem lanes (k q : Fin 4096) : ∑ l : Fin 256, K z ka b p (ix2 k l) * Q z qa b p (ix3 h l q)
    = ∑ d : Fin 64, val_main_v3 (F := Ideal) z (ix4 b (hd p h) q d) * val_main_v7 (F := Ideal) z (ix4 b (hd p h) k d)
      + ∑ r : Fin 6, val_main_v17 (F := Ideal) qa (ix4 b (hd p h) q r) * val_main_v21 (F := Ideal) ka (ix4 b (hd p h) k r) := by
  refine (Fin.sum_univ_add (a := 128) (b := 128) _).trans (congrArg₂ (· + ·) ?_ ?_)
  · refine (sum_window _ (64 * h.val) (w := 64) (by omega) fun l hl => ?_).trans (Finset.sum_congr rfl fun d _ => ?_)
    · show keysAt (zCols z 4 (by decide) b p) (kaRows ka b) k (Fin.castAdd 128 l) * queriesAt p.val (zCols z 3 (by decide) b p) (qaCols qa b) h (Fin.castAdd 128 l) q = 0
      unfold queriesAt
      rw [dif_pos (show (Fin.castAdd 128 l).val < 128 from l.isLt), if_neg (by show ¬(l.val / 64 = h.val); omega), mul_zero]
    · have hd' : 64 * h.val + d.val < 128 := by omega
      show keysAt (zCols z 4 (by decide) b p) (kaRows ka b) k (Fin.castAdd 128 ⟨64 * h.val + d.val, hd'⟩) * queriesAt p.val (zCols z 3 (by decide) b p) (qaCols qa b) h (Fin.castAdd 128 ⟨64 * h.val + d.val, hd'⟩) q = _
      unfold queriesAt keysAt
      rw [dif_pos (show (Fin.castAdd 128 (⟨64 * h.val + d.val, hd'⟩ : Fin 128)).val < 128 from hd'), dif_pos (show (Fin.castAdd 128 (⟨64 * h.val + d.val, hd'⟩ : Fin 128)).val < 128 from hd'),
        if_pos (by show (64 * h.val + d.val) / 64 = h.val; omega), q_at, k_at, mul_comm]
      rfl
  · refine (sum_window _ (6 * (2 * p.val + h.val)) (w := 6) (by omega) fun l hl => ?_).trans (Finset.sum_congr rfl fun r _ => ?_)
    · show keysAt (zCols z 4 (by decide) b p) (kaRows ka b) k (Fin.natAdd 128 l) * queriesAt p.val (zCols z 3 (by decide) b p) (qaCols qa b) h (Fin.natAdd 128 l) q = 0
      unfold queriesAt
      rw [dif_neg (by show ¬(128 + l.val < 128); omega), if_neg (by show ¬(_ ≤ 128 + l.val - 128 ∧ 128 + l.val - 128 < _); rw [Nat.add_sub_cancel_left]; exact hl), mul_zero]
    · have hr : 6 * (2 * p.val + h.val) + r.val < 128 := by omega
      have e : ∀ (hh : (128 + (6 * (2 * p.val + h.val) + r.val)) - 128 < 128), (⟨(128 + (6 * (2 * p.val + h.val) + r.val)) - 128, hh⟩ : Fin 128) = ⟨6 * (2 * p.val + h.val) + r.val, hr⟩ :=
        fun _ => Fin.ext (Nat.add_sub_cancel_left ..)
      show keysAt (zCols z 4 (by decide) b p) (kaRows ka b) k (Fin.natAdd 128 ⟨6 * (2 * p.val + h.val) + r.val, hr⟩) * queriesAt p.val (zCols z 3 (by decide) b p) (qaCols qa b) h (Fin.natAdd 128 ⟨6 * (2 * p.val + h.val) + r.val, hr⟩) q = _
      unfold queriesAt keysAt
      rw [dif_neg (by show ¬(128 + (6 * (2 * p.val + h.val) + r.val) < 128); omega), dif_neg (by show ¬(128 + (6 * (2 * p.val + h.val) + r.val) < 128); omega),
        if_pos (by show _ ≤ 128 + (6 * (2 * p.val + h.val) + r.val) - 128 ∧ 128 + (6 * (2 * p.val + h.val) + r.val) - 128 < _; omega), qa_at, ka_at, mul_comm]
      exact congrArg₂ (· * ·) (congrArg (fun l => qaCols qa b (ix2 l q)) (e _)) (congrArg (fun l => kaRows ka b (ix2 k l)) (e _))

/-- A head's values in the kernel's layout. -/
theorem V_at (k : Fin 4096) (d : Fin 64) : V z b p (ix3 h ⟨d, by omega⟩ k) = zCols z 5 (by decide) b p (ix2 k ⟨64 * h + d, by omega⟩) := by
  show valsAt (zCols z 5 (by decide) b p) h ⟨d, by omega⟩ k = _
  unfold valsAt
  exact dif_pos (show d.val < 64 from d.isLt)

/-- Below them, ones. -/
theorem V_one (k : Fin 4096) : V z b p (ix3 h 64 k) = 1 := by
  show valsAt (zCols z 5 (by decide) b p) h 64 k = _
  unfold valsAt
  exact dif_neg (by decide)

/-- A masked logit of the reference is the kernel's score, scaled by the logarithm of 2. -/
theorem logit (q k : Fin 4096) : val_main_v33 (F := Ideal) z qa ka (ix4 b (hd p h) q k)
    = score (K z ka b p) (Q z qa b p) h k q * ((Real.log 2 : ℝ) : EReal) := by
  have hl : (0 : EReal) < ((Real.log 2 : ℝ) : EReal) := by exact_mod_cast Real.log_pos one_lt_two
  have e2 : val_main_v25 (F := Ideal) (ix4 b (hd p h) q k) = ((Real.log 2 : ℝ) : EReal) := by
    rw [val_main_v25_apply, val_main_v24_apply, val_main_cst_apply, Ideal.hostUnary_log_def, Ideal.ofBits_def, two, Ideal.log_coe, if_neg (by norm_num)]
  rw [val_main_v33_apply, val_main_call0_v1_apply, val_main_v32_apply, val_main_v30_apply, val_main_v31_apply, val_main_v28_apply, val_main_v29_apply,
    val_main_v27_apply, val_main_v27_apply, val_main_call0_v2_apply, val_main_call0_v0_apply, val_main_cst_0_apply, val_main_v26_apply, val_main_v23_apply,
    val_main_v12_apply, val_main_v22_apply, e2]
  show Scalar.select (IntOp.cmpi .sge (BitVec.ofNat 32 q.val) (BitVec.ofNat 32 k.val)) _ (Ideal.ofBits .f32 0xFF800000#32) = _
  rw [WordCmp.cmpi_sge_ofNat (by omega) (by omega), Scalar.select_decide, negInf]
  unfold score
  by_cases hk : k.val ≤ q.val
  · rw [if_pos hk, if_pos hk, lanes]
    rfl
  · rw [if_neg hk, if_neg hk, EReal.bot_mul_of_pos hl]

/-- The largest logit of a query is the largest score, scaled. -/
theorem peak (q : Fin 4096) : val_main_v34 (F := Ideal) z qa ka (ix3 b (hd p h) q)
    = top (K z ka b p) (Q z qa b p) h q * ((Real.log 2 : ℝ) : EReal) := by
  unfold val_main_v34
  rw [Host.reduce_eq_fold_single (FloatOps.maximumf (F := Ideal) (φ := .f32)) _ _ _ (by decide)]
  unfold top
  rw [← fold_mul _ (Real.log_pos one_lt_two)]
  show Finset.univ.fold max (Ideal.ofBits .f32 0xFF800000#32) _ = _
  rw [negInf]
  refine congrArg (Finset.univ.fold max ⊥) (funext fun k => ?_)
  refine Eq.trans (congrArg (val_main_v33 (F := Ideal) z qa ka) (funext fun a => Fin.ext ?_)) (logit z qa ka b p h q k)
  match a with
  | ⟨0, _⟩ => rfl
  | ⟨1, _⟩ => rfl
  | ⟨2, _⟩ => rfl
  | ⟨3, _⟩ => rfl

/-- The reference's weight of a key before the normalisation. -/
theorem weight (q k : Fin 4096) : val_main_v40 (F := Ideal) z qa ka (ix4 b (hd p h) q k)
    = Ideal.exp2 (score (K z ka b p) (Q z qa b p) h k q - top (K z ka b p) (Q z qa b p) h q) := by
  have e : val_main_v38 (F := Ideal) z qa ka (ix4 b (hd p h) q k) = top (K z ka b p) (Q z qa b p) h q * ((Real.log 2 : ℝ) : EReal) := by
    rw [val_main_v38_apply, val_main_v37_apply, val_main_v36_apply, val_main_v35_apply, val_main_cst_2_apply, Ideal.ofBits_def, negInf]
    refine (max_eq_right bot_le).trans ((congrArg (val_main_v34 (F := Ideal) z qa ka) (funext fun a => Fin.ext ?_)).trans (peak z qa ka b p h q))
    match a with
    | ⟨0, _⟩ => rfl
    | ⟨1, _⟩ => rfl
    | ⟨2, _⟩ => rfl
  rw [val_main_v40_apply, Ideal.hostUnary_exp_def, val_main_v39_apply, e, logit, ← exp_log, ← sub_mul_coe _ _ (Real.log_pos one_lt_two)]
  rfl

/-- The reference's normalised weight. -/
theorem share (q k : Fin 4096) : val_main_v44 (F := Ideal) z qa ka (ix4 b (hd p h) q k)
    = Ideal.div (Ideal.exp2 (score (K z ka b p) (Q z qa b p) h k q - top (K z ka b p) (Q z qa b p) h q))
        (∑ j : Fin 4096, Ideal.exp2 (score (K z ka b p) (Q z qa b p) h j q - top (K z ka b p) (Q z qa b p) h q)) := by
  rw [val_main_v44_apply, val_main_v43_apply, val_main_v42_apply, val_main_v41_apply, weight, Ideal.hostDivf_def]
  refine congrArg (Ideal.div _) ?_
  rw [val_main_cst_3_apply, Ideal.ofBits_def, Ideal.ofBits_zero_f32, zero_add]
  refine Finset.sum_congr rfl fun j _ => ?_
  refine (congrArg (val_main_v40 (F := Ideal) z qa ka) (funext fun a => Fin.ext ?_)).trans (weight z qa ka b p h q j)
  match a with
  | ⟨0, _⟩ => rfl
  | ⟨1, _⟩ => rfl
  | ⟨2, _⟩ => rfl
  | ⟨3, _⟩ => rfl

variable (hz : ∀ i, ∃ r : ℝ, z i = r) (hq : ∀ i, ∃ r : ℝ, qa i = r) (hk : ∀ i, ∃ r : ℝ, ka i = r)
include hz hq hk

/-- A key's score is real where it is not masked. -/
theorem score_real (q k : Fin 4096) (h' : k.val ≤ q.val) : ∃ r : ℝ, score (K z ka b p) (Q z qa b p) h k q = r := by
  unfold score
  rw [if_pos h', lanes]
  refine add_real (sum_real _ _ fun d => mul_real ?_ ?_) (sum_real _ _ fun r => mul_real ?_ ?_)
  · rw [q_at]; exact hz _
  · rw [k_at]; exact hz _
  · rw [qa_at]; exact hq _
  · rw [ka_at]; exact hk _

/-- A head's attention. -/
theorem head_eq (q : Fin 4096) (d : Fin 64) : val_main_v45 (F := Ideal) z qa ka (ix4 b (hd p h) q d)
    = head (K z ka b p) (V z b p) (Q z qa b p) h d q := by
  rw [val_main_v45_apply]
  have e : ∀ k : Fin 4096, val_main_v44 (F := Ideal) z qa ka (lidx_main_v45 (ix4 b (hd p h) q d) k) * val_main_v11 (F := Ideal) z (ridx_main_v45 (ix4 b (hd p h) q d) k)
      = Ideal.div (Ideal.exp2 (score (K z ka b p) (Q z qa b p) h k q - top (K z ka b p) (Q z qa b p) h q))
        (∑ j : Fin 4096, Ideal.exp2 (score (K z ka b p) (Q z qa b p) h j q - top (K z ka b p) (Q z qa b p) h q)) * V z b p (ix3 h ⟨d, by omega⟩ k) := fun k => by
    refine congrArg₂ (· * ·) ((congrArg (val_main_v44 (F := Ideal) z qa ka) (funext fun a => Fin.ext ?_)).trans (share z qa ka b p h q k))
      ((congrArg (val_main_v11 (F := Ideal) z) (funext fun a => Fin.ext ?_)).trans ((v_at z b p h k d).trans (V_at z b p h k d).symm))
    · match a with
      | ⟨0, _⟩ => rfl
      | ⟨1, _⟩ => rfl
      | ⟨2, _⟩ => rfl
      | ⟨3, _⟩ => rfl
    · match a with
      | ⟨0, _⟩ => rfl
      | ⟨1, _⟩ => rfl
      | ⟨2, _⟩ => rfl
      | ⟨3, _⟩ => rfl
  rw [Finset.sum_congr rfl fun k _ => e k]
  have hs : ∀ k : Fin 4096, score (K z ka b p) (Q z qa b p) h k q ≠ ⊤ := fun k => by
    by_cases h' : k.val ≤ q.val
    · obtain ⟨r, hr⟩ := score_real z qa ka b p h hz hq hk q k h'
      rw [hr]; exact EReal.coe_ne_top r
    · unfold score; rw [if_neg h']; exact bot_ne_top
  have h0 : score (K z ka b p) (Q z qa b p) h q q ≠ ⊥ := by
    obtain ⟨r, hr⟩ := score_real z qa ka b p h hz hq hk q q le_rfl
    rw [hr]; exact EReal.coe_ne_bot r
  refine (normalise _ (fun k => V z b p (ix3 h ⟨d, by omega⟩ k)) hs q h0 (fun k => ?_) rfl).trans ?_
  · obtain ⟨r, hr⟩ := hz _
    exact ⟨r, (V_at z b p h k d).trans hr⟩
  · refine congrArg (Ideal.div _) (Finset.sum_congr rfl fun k _ => ?_)
    exact congrArg (· * _) (V_one z b p h k).symm

end Read

variable (hz : ∀ i, ∃ r : ℝ, z i = r) (hq : ∀ i, ∃ r : ℝ, qa i = r) (hk : ∀ i, ∃ r : ℝ, ka i = r)
include hz hq hk

/-- The reference's result is the kernel's. -/
theorem result : val_main_v51 (F := Ideal) z qa ka = attn z qa ka := by
  funext y
  have h0 : (y 0).val < 16384 := (y 0).isLt
  have h1 : (y 1).val < 1024 := (y 1).isLt
  obtain ⟨b, hb⟩ : ∃ b : Fin 4, b.val = (y 0).val / 4096 := ⟨⟨_, by omega⟩, rfl⟩
  obtain ⟨q, hq'⟩ : ∃ q : Fin 4096, q.val = (y 0).val % 4096 := ⟨⟨_, by omega⟩, rfl⟩
  obtain ⟨p, hp⟩ : ∃ p : Fin 8, p.val = (y 1).val / 128 := ⟨⟨_, by omega⟩, rfl⟩
  obtain ⟨h, hh⟩ : ∃ h : Fin 2, h.val = (y 1).val / 64 % 2 := ⟨⟨_, by omega⟩, rfl⟩
  obtain ⟨d, hd'⟩ : ∃ d : Fin 64, d.val = (y 1).val % 64 := ⟨⟨_, by omega⟩, rfl⟩
  rw [attn_at z qa ka y b p q ⟨64 * h.val + d.val, by omega⟩ (by omega) (by show _ = 128 * p.val + (64 * h.val + d.val); omega)]
  rw [val_main_v51_apply, val_main_v50_apply, val_main_v47_apply, val_main_v46_apply, val_main_v49_apply, val_main_v48_apply]
  refine congrArg₂ (· * ·) ?_ (congrArg z (funext fun a => Fin.ext ?_))
  · refine ((congrArg (val_main_v45 (F := Ideal) z qa ka) (funext fun a => Fin.ext ?_)).trans (head_eq z qa ka b p h hz hq hk q d)).trans ?_
    · match a with
      | ⟨0, _⟩ => show ((y 0).val * 1024 + (y 1).val) / 4194304 = b.val; omega
      | ⟨1, _⟩ => show ((y 0).val * 1024 + (y 1).val) / 64 % 16 = 2 * p.val + h.val; omega
      | ⟨2, _⟩ => show ((y 0).val * 1024 + (y 1).val) / 1024 % 4096 = q.val; omega
      | ⟨3, _⟩ => show ((y 0).val * 1024 + (y 1).val) % 64 = d.val; omega
    · match h with
      | ⟨0, _⟩ =>
        refine Eq.trans ?_ (dif_pos (show 64 * 0 + d.val < 64 by omega)).symm
        exact congrArg (fun i => head (K z ka b p) (V z b p) (Q z qa b p) 0 i q) (Fin.ext (by show d.val = 64 * 0 + d.val; omega))
      | ⟨1, _⟩ =>
        refine Eq.trans ?_ (dif_neg (show ¬(64 * 1 + d.val < 64) by omega)).symm
        exact congrArg (fun i => head (K z ka b p) (V z b p) (Q z qa b p) 1 i q) (Fin.ext (by show d.val = 64 * 1 + d.val - 64; omega))
  · match a with
    | ⟨0, _⟩ => show (y 0).val = 4096 * b.val + q.val; omega
    | ⟨1, _⟩ => show 6144 + (y 1).val = 128 * (8 * 6 + p.val) + (64 * h.val + d.val); omega

end Cert.AttnEq

end
-- ==== Proof.AttnClaims.lean ====
/- The attention's claims, from its frames, its output array and the reference's result. -/
module

public import proofs.«01_k».proof.Defs
public import proofs.«01_k».proof.Proof.AttnEq
public import proofs.«01_k».proof.Proof.Gen.Pre_finite
public import proofs.«01_k».proof.Proof.Gen.Kernel.Frame
public import proofs.«01_k».proof.Proof.Gen.KernelIdeal.Frame

@[expose] public section

noncomputable section

namespace Cert.AttnClaims

open Idealize.ShloMosaic Idealize.SL.Sem Cert.Softmax

theorem frame_p : Cert.quiescent_Kernel := fun m ρ _ => Cert.Kernel.Gen.frame m ρ
theorem frame_pi : Cert.quiescent_KernelIdeal := fun m ρ _ => Cert.KernelIdeal.Gen.frame m ρ

/-- The reference declares no semaphore, so none is left raised. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Under the precondition every element of the three arrays is real. -/
theorem reals {z : Pre_finite.S16384x7168.Idx → EReal} {qa : Pre_finite.S128x16384.Idx → EReal} {ka : Pre_finite.S16384x128.Idx → EReal}
    (h : (Pre_finite.fn (F := Ideal) z qa ka).1 = (fun _ => 1#1) ∧ (Pre_finite.fn (F := Ideal) z qa ka).2.1 = (fun _ => 1#1)
      ∧ (Pre_finite.fn (F := Ideal) z qa ka).2.2 = (fun _ => 1#1)) :
    (∀ i, ∃ r : ℝ, z i = r) ∧ (∀ i, ∃ r : ℝ, qa i = r) ∧ (∀ i, ∃ r : ℝ, ka i = r) := by
  have e : ∀ {x : EReal} {i : BitVec 1}, i = 1#1 → Ideal.cmp .olt (max x (-x)) (Ideal.ofBits .f32 0x7F800000#32) = i → ∃ r : ℝ, x = r :=
    fun hi hc => real_of_abs ((congrArg (Ideal.cmp .olt _) posInf).symm.trans (hc.trans hi))
  exact ⟨fun i => e (congrFun h.1 i) rfl, fun i => e (congrFun h.2.1 i) rfl, fun i => e (congrFun h.2.2 i) rfl⟩

theorem algebraic : Cert.algebraic_KernelIdeal_ReferenceIdeal_pre_finite := by
  intro m ρ m' ρ' hpre hagree
  refine ⟨fun c => KernelIdeal.Body.attn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)), ?_, ?_⟩
  · exact (θ_run Cert.KernelIdeal.defs _ _).mono (fun _ h c => ⟨(h c).1.trans (KernelIdeal.Body.arr m c), (h c).2⟩)
      (Cert.KernelIdeal.Value.run_blocks (F := Ideal) m ρ)
  · refine (θ_run Cert.ReferenceIdeal.defs _ _).mono (fun _ h c => ⟨(h c).1.trans ?_, (h c).2⟩) (Cert.ReferenceIdeal.Value.run (F := Ideal) m' ρ')
    obtain ⟨h0, h1, h2⟩ := reals (hpre c)
    rw [ReferenceIdeal.Read.val_main_v51_eq, (hagree c).1, (hagree c).2.1, (hagree c).2.2]
    exact AttnEq.result _ _ _ h0 h1 h2

end Cert.AttnClaims

end
-- ==== Proof.Stores.lean ====
/- Arrays held in pieces: loads of a block from a whole buffer, and stores that cover a buffer, for matrices of any extents. -/
module

public import proofs.«01_k».proof.Proof.Tile
public import Idealize.ShloMosaic.Lib.WholeRead

@[expose] public section

set_option maxRecDepth 16384

noncomputable section

namespace Cert.Stores

open Idealize.ShloMosaic Idealize.ShloMosaic.TcCoe Idealize.SL.Sem Idealize.ShloMosaic.Pointwise Cert.Tile

theorem pieces_cons {s : Shape} {α : EltTy} {G : s.Idx → Elt Ideal α} {r : Rect s} {w : r.shape.Idx → Elt Ideal α} {L : List (View.Piece (Elt Ideal) s α)}
    (h : ∀ x : r.shape.Idx, w x = G (r.emb x)) (hL : View.PiecesOf (Val := Elt Ideal) (e := α) G L) : View.PiecesOf (Val := Elt Ideal) (e := α) G (⟨r, w⟩ :: L) := ⟨h, hL⟩

/-- Stores that all hold an array's entries, and cover it, leave the array. -/
theorem canon_of {s : Shape} {α : EltTy} {G : s.Idx → Elt Ideal α} {L : List (View.Piece (Elt Ideal) s α)}
    (h : View.PiecesOf (Val := Elt Ideal) (e := α) G L) (hc : ∀ y, ∃ p ∈ L, y ∈ p.1.set) : View.canon L = G :=
  funext fun y => View.canon_apply_of_pieces (Val := Elt Ideal) (e := α) _ L h.mem y (hc y)

/-- A stored block holds an array's entries when it does so at every coordinate. -/
theorem piece2 {α : Type} {a b x y : ℕ} {A : (Mat a b).Idx → α} (off : Fin 2 → ℕ) (inb : ∀ i, off i + (Mat x y).size i ≤ (Mat a b).size i)
    {p q : ℕ} (hoff : off = ![p, q]) (hp : p + x ≤ a) (hq : q + y ≤ b) {w : (Mat x y).Idx → α}
    (h : ∀ i j, w (ix2 i j) = A (ix2 ⟨p + i.val, by omega⟩ ⟨q + j.val, by omega⟩))
    (j : (Rect.unit (s := Mat a b) off (Mat x y).size inb).shape.Idx) :
    w j = A ((Rect.unit (s := Mat a b) off (Mat x y).size inb).emb j) := by
  have e := eq_ix2 (n0 := x) (n1 := y) j
  refine (congrArg w e).trans ((h _ _).trans (congrArg A ?_))
  exact (emb2 off inb _ _ hoff (by have := (show Fin x from j 0).isLt; omega) (by have := (show Fin y from j 1).isLt; omega)).symm.trans (congrArg _ e.symm)

variable {sig : RefSig}

/-- A load of a block from a whole buffer that holds a matrix reads the matrix there. -/
theorem read2 {κ : Kind} {a b x y : ℕ} {α : EltTy} {m : Memref sig κ .vmem (Mat a b) α} (h : m.IsWhole) (X : (Mat a b).Idx → Elt Ideal α) {off : Fin 2 → ℕ} (inb : ∀ i, off i + (Mat x y).size i ≤ (Mat a b).size i)
    (i : Fin x) (j : Fin y) {p q : ℕ} (hoff : off = ![p, q]) {i' : Fin a} {j' : Fin b} (hi : i'.val = p + i.val) (hj : j'.val = q + j.val) :
    View.readAt (Elt Ideal) m.view (Rect.unit (s := Mat a b) off (Mat x y).size inb).toLoadRect (h.unread X) (ix2 i j) = X (ix2 i' j') := by
  refine (Memref.IsWhole.readAt_unread h _ _ _).trans (congrArg X ?_)
  refine (idx2 off inb i j hoff (by omega) (by omega)).trans ?_
  congr 1 <;> exact Fin.ext (by simp [*])

/-- The same of a stack of matrices. -/
theorem read3 {κ : Kind} {a b c x y z : ℕ} {α : EltTy} {m : Memref sig κ .vmem (Cub a b c) α} (h : m.IsWhole) (X : (Cub a b c).Idx → Elt Ideal α) {off : Fin 3 → ℕ} (inb : ∀ i, off i + (Cub x y z).size i ≤ (Cub a b c).size i)
    (i : Fin x) (j : Fin y) (k : Fin z) {p q r : ℕ} (hoff : off = ![p, q, r]) {i' : Fin a} {j' : Fin b} {k' : Fin c} (hi : i'.val = p + i.val) (hj : j'.val = q + j.val) (hk : k'.val = r + k.val) :
    View.readAt (Elt Ideal) m.view (Rect.unit (s := Cub a b c) off (Cub x y z).size inb).toLoadRect (h.unread X) (ix3 i j k) = X (ix3 i' j' k') := by
  refine (Memref.IsWhole.readAt_unread h _ _ _).trans (congrArg X ?_)
  refine (idx3 off inb i j k hoff (by omega) (by omega) (by omega)).trans ?_
  congr 1 <;> exact Fin.ext (by simp [*])

end Cert.Stores

end
-- ==== Proof.Gate.lean ====
/- The spatial gating and the out-projection of one block of 512 rows, as formulas over the block's inputs. -/
module

public import proofs.«01_k».proof.Proof.Stores
public import Idealize.ShloMosaic.Lib.WordCmp

@[expose] public section

set_option maxRecDepth 16384

noncomputable section

namespace Cert.Gate

open Idealize.ShloMosaic Idealize.ShloMosaic.TcCoe Idealize.SL.Sem Idealize.ShloMosaic.Pointwise Cert.Tile

/-! ## The formulas -/

/-- 1e-6 as the programs round it. -/
def eps : EReal := Ideal.ofBits .f32 0x358637BD#32
/-- A mean of `n` entries, `n` given as its rounded constant. -/
def mean {n : ℕ} (w : BitVec 32) (v : Fin n → EReal) : EReal := Ideal.div (∑ k, v k) (Ideal.ofBits .f32 w)

/-- A row's layer norm at column `l`. -/
def layerNorm (v g b : Fin 1024 → EReal) (l : Fin 1024) : EReal :=
  (v l - mean 0x44800000#32 v) * Ideal.rsqrt (mean 0x44800000#32 (fun k => (v k - mean 0x44800000#32 v) * (v k - mean 0x44800000#32 v)) + eps) * g l + b l

/-- A row's RMS norm at column `l`. -/
def rmsNorm (x g : Fin 2048 → EReal) (l : Fin 2048) : EReal := x l * Ideal.rsqrt (mean 0x45000000#32 (fun k => x k * x k) + eps) * g l

/-- A block's gated rows: row `i` of the gating mixes the rows of its chunk of 128 positions up to itself, column `l` with the weights of group `l / 128`. -/
def gated (U V A : (Mat 512 1024).Idx → EReal) (g b : (Mat 1 1024).Idx → EReal) (ws : (Cub 8 128 128).Idx → EReal) (bs : (Mat 128 8).Idx → EReal) (i : Fin 512) (l : Fin 1024) : EReal :=
  U (ix2 i l) * (∑ s : Fin 128, (if s.val ≤ i.val % 128 then ws (ix3 ⟨l / 128, by omega⟩ ⟨i % 128, by omega⟩ s) else 0)
      * layerNorm (fun k => V (ix2 ⟨128 * (i / 128) + s, by omega⟩ k)) (fun k => g (ix2 0 k)) (fun k => b (ix2 0 k)) l
    + bs (ix2 ⟨i % 128, by omega⟩ ⟨l / 128, by omega⟩)) * A (ix2 i l)

/-- A block's output rows. -/
def outRows (X : (Mat 512 2048).Idx → EReal) (G : (Cub 1 1 2048).Idx → EReal) (ya : Fin 512 → Fin 1024 → EReal) (yb : (Mat 512 1024).Idx → EReal) (wa wb : (Cub 1 1024 2048).Idx → EReal)
    (fg : (Mat 1 2048).Idx → EReal) (i : Fin 512) (j : Fin 2048) : EReal :=
  rmsNorm (fun k => (X (ix2 i k) + G (ix3 0 0 k) * ∑ l : Fin 1024, yb (ix2 i l) * wb (ix3 0 l k)) + G (ix3 0 0 k) * ∑ l : Fin 1024, ya i l * wa (ix3 0 l k)) (fun k => fg (ix2 0 k)) j

/-! ## The kernel's operations -/

section Defs
variable {F : FTy → Type} [FloatOps F]

/-- The norm of a block's rows. -/
def normRows (v : FVec F (Mat 512 1024) .bf16) (g b : FVec F (Mat 1 1024) .f32) (h1 : FTy.bf16.bits < FTy.f32.bits) (h2 : (Mat 512 1024).Reduces [1] ⟨1, ![512]⟩)
    (h3 : Shape.ShapeCasts ⟨1, ![512]⟩ (Mat 512 1)) (h4 : (Mat 512 1).Broadcasts (Mat 512 1024)) (h5 : (Mat 1 1024).ShapeCasts (Mat 1 1024)) (h6 : (Mat 1 1024).Broadcasts (Mat 512 1024)) : FVec F (Mat 512 1024) .bf16 :=
  have d : FVec F (Mat 512 1024) .f32 := subf (extf .f32 v h1) (broadcastTo (Mat 512 1024) (divf (shapeCast (Mat 512 1) (multiReduction .add [1] ⟨1, ![512]⟩ (extf .f32 v h1) 0x00000000#32 h2 (.inl rfl) rfl) h3)
    (broadcast (Mat 512 1) (Scalar.ofBits .f32 0x44800000#32))) h4)
  truncf .bf16 (addf (mulf (mulf d (broadcastTo (Mat 512 1024) (rsqrt (addf (divf (shapeCast (Mat 512 1) (multiReduction .add [1] ⟨1, ![512]⟩ (mulf d d) 0x00000000#32 h2 (.inl rfl) rfl) h3)
    (broadcast (Mat 512 1) (Scalar.ofBits .f32 0x44800000#32))) (broadcast (Mat 512 1) (Scalar.ofBits .f32 0x358637BD#32)))) h4))
    (broadcastTo (Mat 512 1024) (shapeCast (Mat 1 1024) g h5) h6)) (broadcastTo (Mat 512 1024) (shapeCast (Mat 1 1024) b h5) h6)) h1

/-- One channel group's gating of one chunk of positions. -/
def gateTile (vn : FVec F (Mat 512 1024) .bf16) (ws : FVec F (Cub 1 128 128) .f32) (b : FVec F (Mat 128 1) .f32) (u g : FVec F (Mat 128 128) .bf16) (off : Fin 2 → ℕ)
    (h1 : (Mat 128 128).Iotas .tc 32 [0]) (h2 : (Mat 128 128).Iotas .tc 32 [1]) (h3 : (Cub 1 128 128).ShapeCasts (Mat 128 128)) (h4 : (Mat 512 1024).Slices off (Mat 128 128))
    (h5 : FTy.bf16.bits < FTy.f32.bits) (h6 : (Mat 128 1).ShapeCasts (Mat 128 1)) (h7 : (Mat 128 1).Broadcasts (Mat 128 128)) (h8 : (Mat 128 128).ShapeCasts (Mat 128 128)) : FVec F (Mat 128 128) .bf16 :=
  shapeCast (Mat 128 128) (truncf .bf16 (mulf (mulf (extf .f32 u h5) (addf (matmul (DotDims.plain 128 128 128) none
    (truncf .bf16 (select (cmpi .sge (iota .tc (Mat 128 128) 32 [0] h1) (iota .tc (Mat 128 128) 32 [1] h2)) (shapeCast (Mat 128 128) ws h3) (broadcast (Mat 128 128) (Scalar.ofBits .f32 0x00000000#32))) h5)
    (extractStridedSlice (Mat 128 128) off vn h4) (constant (Mat 128 128) .f32 0x00000000#32)) (broadcastTo (Mat 128 128) (shapeCast (Mat 128 1) b h6) h7))) (extf .f32 g h5)) h5) h8

/-- A gated product added to a block. -/
def addProd (x : FVec F (Mat 512 2048) .f32) (g : FVec F (Cub 1 1 2048) .f32) (y : FVec F (Mat 512 1024) .bf16) (w : FVec F (Cub 1 1024 2048) .bf16)
    (h1 : (Cub 1 1 2048).ShapeCasts (Mat 1 2048)) (h2 : (Cub 1 1024 2048).ShapeCasts (Mat 1024 2048)) (h3 : (Mat 1 2048).Broadcasts (Mat 512 2048)) : FVec F (Mat 512 2048) .f32 :=
  addf x (mulf (broadcastTo (Mat 512 2048) (shapeCast (Mat 1 2048) g h1) h3)
    (matmul (DotDims.plain 512 1024 2048) none y (shapeCast (Mat 1024 2048) w h2) (constant (Mat 512 2048) .f32 0x00000000#32)))

/-- The last norm of a block's rows. -/
def lastNorm (x : FVec F (Mat 512 2048) .f32) (g : FVec F (Mat 1 2048) .f32) (h2 : (Mat 512 2048).Reduces [1] ⟨1, ![512]⟩)
    (h3 : Shape.ShapeCasts ⟨1, ![512]⟩ (Mat 512 1)) (h4 : (Mat 512 1).Broadcasts (Mat 512 2048)) (h5 : (Mat 1 2048).ShapeCasts (Mat 1 2048)) (h6 : (Mat 1 2048).Broadcasts (Mat 512 2048)) : FVec F (Mat 512 2048) .f32 :=
  mulf (mulf x (broadcastTo (Mat 512 2048) (rsqrt (addf (divf (shapeCast (Mat 512 1) (multiReduction .add [1] ⟨1, ![512]⟩ (mulf x x) 0x00000000#32 h2 (.inl rfl) rfl) h3)
    (broadcast (Mat 512 1) (Scalar.ofBits .f32 0x45000000#32))) (broadcast (Mat 512 1) (Scalar.ofBits .f32 0x358637BD#32)))) h4))
    (broadcastTo (Mat 512 2048) (shapeCast (Mat 1 2048) g h5) h6)

end Defs

theorem normRows_apply (v : FVec Ideal (Mat 512 1024) .bf16) (g b : FVec Ideal (Mat 1 1024) .f32) (h1 h2 h3 h4 h5 h6) (i : Fin 512) (l : Fin 1024) :
    normRows (F := Ideal) v g b h1 h2 h3 h4 h5 h6 (ix2 i l) = layerNorm (fun k => v (ix2 i k)) (fun k => g (ix2 0 k)) (fun k => b (ix2 0 k)) l := by
  pointwise [normRows, layerNorm, mean, eps]

theorem gateTile_apply (vn : FVec Ideal (Mat 512 1024) .bf16) (ws : FVec Ideal (Cub 1 128 128) .f32) (b : FVec Ideal (Mat 128 1) .f32) (u g : FVec Ideal (Mat 128 128) .bf16) {off : Fin 2 → ℕ}
    {p q : ℕ} (ho : off = ![p, q]) (hp : p + 128 ≤ 512) (hq : q + 128 ≤ 1024) (h1 h2 h3 h4 h5 h6 h7 h8) (t d : Fin 128) :
    gateTile (F := Ideal) vn ws b u g off h1 h2 h3 h4 h5 h6 h7 h8 (ix2 t d)
      = u (ix2 t d) * (∑ s : Fin 128, (if s.val ≤ t.val then ws (ix3 0 t s) else 0) * vn (ix2 ⟨p + s, by omega⟩ ⟨q + d, by omega⟩) + b (ix2 t 0)) * g (ix2 t d) := by
  subst ho
  pointwise [gateTile]
  refine congrArg (fun x => u (ix2 t d) * (x + b (ix2 t 0)) * g (ix2 t d)) (Finset.sum_congr rfl fun s _ => ?_)
  rw [WordCmp.cmpi_sge_ofNat (by omega) (by omega), Scalar.select_decide]
  split <;> simp

/-- A stored tile holds the gated rows. -/
theorem gated_piece {U V A : (Mat 512 1024).Idx → EReal} {g b : (Mat 1 1024).Idx → EReal} {ws : (Cub 8 128 128).Idx → EReal} {bs : (Mat 128 8).Idx → EReal}
    {vn : FVec Ideal (Mat 512 1024) .bf16} {w' : FVec Ideal (Cub 1 128 128) .f32} {b' : FVec Ideal (Mat 128 1) .f32} {u a : FVec Ideal (Mat 128 128) .bf16} {w : (Mat 128 128).Idx → EReal}
    (off : Fin 2 → ℕ) (inb : ∀ i, off i + (Mat 128 128).size i ≤ (Mat 512 1024).size i) {p q : ℕ} (ho : off = ![p, q]) (hp : p + 128 ≤ 512 ∧ 128 * (p / 128) = p) (hq : q + 128 ≤ 1024 ∧ 128 * (q / 128) = q)
    {h1 h2 h3 h4 h5 h6 h7 h8} (hw : w = gateTile vn w' b' u a off h1 h2 h3 h4 h5 h6 h7 h8)
    (hv : ∀ i l, vn (ix2 i l) = layerNorm (fun k => V (ix2 i k)) (fun k => g (ix2 0 k)) (fun k => b (ix2 0 k)) l)
    (hws : ∀ t s, w' (ix3 0 t s) = ws (ix3 ⟨q / 128, by omega⟩ t s)) (hb : ∀ t, b' (ix2 t 0) = bs (ix2 t ⟨q / 128, by omega⟩))
    (hu : ∀ t d : Fin 128, u (ix2 t d) = U (ix2 ⟨p + t, by omega⟩ ⟨q + d, by omega⟩)) (ha : ∀ t d : Fin 128, a (ix2 t d) = A (ix2 ⟨p + t, by omega⟩ ⟨q + d, by omega⟩))
    (j : (Rect.unit (s := Mat 512 1024) off (Mat 128 128).size inb).shape.Idx) :
    w j = (fun y : (Mat 512 1024).Idx => gated U V A g b ws bs (y 0) (y 1)) ((Rect.unit (s := Mat 512 1024) off (Mat 128 128).size inb).emb j) := by
  refine Stores.piece2 (A := fun y : (Mat 512 1024).Idx => gated U V A g b ws bs (y 0) (y 1)) off inb ho hp.1 hq.1 (fun t d => ?_) j
  rw [hw, gateTile_apply _ _ _ _ _ ho hp.1 hq.1, hu, ha, hb]
  show _ = gated U V A g b ws bs ⟨p + t, _⟩ ⟨q + d, _⟩
  have e1 : (p + t.val) % 128 = t.val := by omega
  have e2 : (q + d.val) / 128 = q / 128 := by omega
  have e3 : 128 * ((p + t.val) / 128) = p := by omega
  unfold gated
  simp only [hws, hv, e1, e2, e3]

theorem addProd_apply (x : FVec Ideal (Mat 512 2048) .f32) (g : FVec Ideal (Cub 1 1 2048) .f32) (y : FVec Ideal (Mat 512 1024) .bf16) (w : FVec Ideal (Cub 1 1024 2048) .bf16) (h1 h2 h3) (i : Fin 512) (j : Fin 2048) :
    addProd (F := Ideal) x g y w h1 h2 h3 (ix2 i j) = x (ix2 i j) + g (ix3 0 0 j) * ∑ k : Fin 1024, y (ix2 i k) * w (ix3 0 k j) := by
  pointwise [addProd]

theorem lastNorm_apply (x : FVec Ideal (Mat 512 2048) .f32) (g : FVec Ideal (Mat 1 2048) .f32) (h2 h3 h4 h5 h6) (i : Fin 512) (l : Fin 2048) :
    lastNorm (F := Ideal) x g h2 h3 h4 h5 h6 (ix2 i l) = rmsNorm (fun k => x (ix2 i k)) (fun k => g (ix2 0 k)) l := by
  pointwise [lastNorm, rmsNorm, mean, eps]

/-- The output rows from the kernel's operations. -/
theorem outRows_apply (X : FVec Ideal (Mat 512 2048) .f32) (G : FVec Ideal (Cub 1 1 2048) .f32) (ya yb : FVec Ideal (Mat 512 1024) .bf16) (wa wb : FVec Ideal (Cub 1 1024 2048) .bf16)
    (fg : FVec Ideal (Mat 1 2048) .f32) (h1 h2 h3 k1 k2 k3 k4 k5) (i : Fin 512) (j : Fin 2048) :
    lastNorm (F := Ideal) (addProd (addProd X G yb wb h1 h2 h3) G ya wa h1 h2 h3) fg k1 k2 k3 k4 k5 (ix2 i j) = outRows X G (fun i l => ya (ix2 i l)) yb wa wb fg i j := by
  rw [lastNorm_apply]
  simp only [addProd_apply]
  rfl

end Cert.Gate

end
-- ==== Proof.OutBody.lean ====
/- The out-projection's body: what one grid point stores in its output block, from its thirteen input blocks. -/
module

public import proofs.«01_k».proof.Proof.Gen.Kernel2Ideal.Value
public import proofs.«01_k».proof.Proof.Gate

@[expose] public section

set_option maxRecDepth 16384

noncomputable section

namespace Cert.Kernel2Ideal.Body

open Cert.Kernel2Ideal Cert.Kernel2Ideal.Gen Idealize.ShloMosaic Idealize.ShloMosaic.TcCoe Idealize.SL.Sem Idealize.ShloMosaic.Pointwise Cert.Tile Cert.Stores Cert.Gate

/-- A load of a whole buffer reads all of it. -/
theorem whole {κ : Kind} {s : Shape} {α : EltTy} {m : Memref sig κ .vmem s α} (h : m.IsWhole) (X : s.Idx → Elt Ideal α) {off : Fin s.rank → ℕ} (inb : ∀ i, off i + s.size i ≤ s.size i) (h0 : ∀ i, off i = 0) :
    View.readAt (Elt Ideal) m.view (Rect.unit (s := s) off s.size inb).toLoadRect (h.unread X) = X := by
  funext y
  refine (Memref.IsWhole.readAt_unread h _ _ _).trans (congrArg X ?_)
  funext i; apply Fin.ext
  refine (Rect.idx_unit_val _ _ _ _ i).trans ?_
  rw [h0]; omega

variable (m : (ℓ : Loc nD τ sig) → Buf (Elt Ideal) ℓ)

/-- A point's output block, from its thirteen input blocks. -/
theorem block (c : Dev nD) (t : Fin cfg0.N) :
    outsAt0 m c t = fun y => outRows (iblk m c 8 t) (iblk m c 9 t) (gated (iblk m c 0 t) (iblk m c 1 t) (iblk m c 2 t) (iblk m c 3 t) (iblk m c 4 t) (iblk m c 5 t) (iblk m c 6 t))
      (iblk m c 7 t) (iblk m c 10 t) (iblk m c 11 t) (iblk m c 12 t) (y 0) (y 1) := by
  unfold outsAt0
  frame_open
  rw [View.read_writes_junk_eq_canon]
  generalize hY : ((⟨Rect.unit ![384, 896] S128x128.size inb_S512x1024_S128x128_384_896, _⟩ : View.Piece (Elt Ideal) S512x1024 .bf16) :: _) = LY
  have eY : View.canon LY = fun y : (Mat 512 1024).Idx => gated (iblk m c 0 t) (iblk m c 1 t) (iblk m c 2 t) (iblk m c 3 t) (iblk m c 4 t) (iblk m c 5 t) (iblk m c 6 t) (y 0) (y 1) := by
    rw [← hY]
    refine canon_of ?_ (View.cover_of_tiledL _ S128x128.size (by sl_kernel_rfl))
    iterate 32
      apply pieces_cons
      · refine gated_piece (h1 := iota_S128x128_d0_w32) (h2 := iota_S128x128_d1_w32) (h3 := shapeCasts_S1x128x128_S128x128) (h5 := bitsLt_bf16_f32) (h6 := shapeCasts_S128x1_S128x1) (h7 := broadcasts_S128x1_S128x128) (h8 := shapeCasts_S128x128_S128x128)
          _ _ (by exact rfl) (by decide) (by decide) (by exact rfl) (fun i l => ?_) (fun i l => ?_) (fun i => ?_) (fun i l => ?_) (fun i l => ?_)
        · refine (normRows_apply _ _ _ _ _ _ _ _ _ i l).trans ?_
          rw [whole, whole, whole] <;> decide
        · exact read3 _ _ _ _ _ _ (by exact rfl) (by exact rfl) (by simp) (by simp)
        · exact read2 _ _ _ _ _ (by exact rfl) (by simp) (by exact rfl)
        · exact read2 _ _ _ _ _ (by exact rfl) (by exact rfl) (by exact rfl)
        · exact read2 _ _ _ _ _ (by exact rfl) (by exact rfl) (by exact rfl)
    exact trivial
  clear hY
  refine canon_of (pieces_cons (piece2 (A := fun y : (Mat 512 2048).Idx => outRows (iblk m c 8 t) (iblk m c 9 t) (gated (iblk m c 0 t) (iblk m c 1 t) (iblk m c 2 t) (iblk m c 3 t) (iblk m c 4 t) (iblk m c 5 t) (iblk m c 6 t))
      (iblk m c 7 t) (iblk m c 10 t) (iblk m c 11 t) (iblk m c 12 t) (y 0) (y 1)) _ _ (by exact rfl) (by decide) (by decide) fun i j => ?_) trivial) (View.cover_of_tiledL _ S512x2048.size (by sl_kernel_rfl))
  refine (outRows_apply _ _ _ _ _ _ _ shapeCasts_S1x1x2048_S1x2048 shapeCasts_S1x1024x2048_S1024x2048 broadcasts_S1x2048_S512x2048 reduces_S512x2048_S512 shapeCasts_S512_S512x1 broadcasts_S512x1_S512x2048 shapeCasts_S1x2048_S1x2048 broadcasts_S1x2048_S512x2048 i j).trans ?_
  rw [whole (hs0_8 t) _ _ (by decide), whole (hs0_9 t) _ _ (by decide), whole (hs0_7 t) _ _ (by decide), whole (hs0_10 t) _ _ (by decide), whole (hs0_11 t) _ _ (by decide), whole (s := S1x2048) (hs0_12 t) _ _ (by decide)]
  have e : (fun i l => scM0_0.view.readCov LY (Rect.unit ![0, 0] S512x1024.size inb_S512x1024_S512x1024_0_0).toLoadRect (ix2 i l))
      = gated (iblk m c 0 t) (iblk m c 1 t) (iblk m c 2 t) (iblk m c 3 t) (iblk m c 4 t) (iblk m c 5 t) (iblk m c 6 t) := by
    funext i l
    refine (read_block2 _ _ (by exact rfl) _ i l (i' := i) (j' := l) (by simp) (by simp)).trans ?_
    rw [eY]; rfl
  rw [e]
  show _ = outRows _ _ _ _ _ _ _ _ _
  congr 1 <;> exact Fin.ext (by simp)

end Cert.Kernel2Ideal.Body

end
-- ==== Proof.OutArray.lean ====
/- The out-projection's output array as one formula in its argument arrays. -/
module

public import proofs.«01_k».proof.Proof.OutBody
public import Idealize.ShloMosaic.Lib.StableHlo.ReadAt

@[expose] public section

set_option maxRecDepth 16384

noncomputable section

namespace Cert.Kernel2Ideal.Body

open Cert.Kernel2Ideal Cert.Kernel2Ideal.Gen Idealize.ShloMosaic Idealize.ShloMosaic.TcCoe Idealize.SL.Sem Idealize.ShloMosaic.Pointwise Cert.Tile Cert.Stores Cert.Gate

/-- The gated channels of row `r`: the second layer's parameters, the channels and their gate from the projected array. -/
def gatedRow (z : S16384x7168.Idx → EReal) (lg lb : S2x1024.Idx → EReal) (ws : S2x8x128x128.Idx → EReal) (bs : S2x8x128.Idx → EReal) (r : Fin 16384) (l : Fin 1024) : EReal :=
  z (ix2 r ⟨l, by omega⟩) * (∑ s : Fin 128, (if s.val ≤ r.val % 128 then ws (ix4 1 ⟨l / 128, by omega⟩ ⟨r % 128, by omega⟩ s) else 0)
      * layerNorm (fun k => z (ix2 ⟨128 * (r / 128) + s, by omega⟩ ⟨1024 + k, by omega⟩)) (fun k => lg (ix2 1 k)) (fun k => lb (ix2 1 k)) l
    + bs (ix3 1 ⟨l / 128, by omega⟩ ⟨r % 128, by omega⟩)) * z (ix2 r ⟨2048 + l, by omega⟩)

/-- A row of the two projections' sum, added to the residual row through the gate. -/
def sumRow (z : S16384x7168.Idx → EReal) (lg lb : S2x1024.Idx → EReal) (ws : S2x8x128x128.Idx → EReal) (bs : S2x8x128.Idx → EReal) (yb : S16384x1024.Idx → EReal) (x2 : S16384x2048.Idx → EReal)
    (gate : S4x1x2048.Idx → EReal) (w : S2x2048x2048.Idx → EReal) (r : Fin 16384) (j : Fin 2048) : EReal :=
  (x2 (ix2 r j) + gate (ix3 ⟨r / 4096, by omega⟩ 0 j) * ∑ l : Fin 1024, yb (ix2 r l) * w (ix3 1 ⟨1024 + l, by omega⟩ j))
    + gate (ix3 ⟨r / 4096, by omega⟩ 0 j) * ∑ l : Fin 1024, gatedRow z lg lb ws bs r l * w (ix3 1 ⟨l, by omega⟩ j)

/-- The output array. -/
def outArr (z : S16384x7168.Idx → EReal) (lg lb : S2x1024.Idx → EReal) (ws : S2x8x128x128.Idx → EReal) (bs : S2x8x128.Idx → EReal) (yb : S16384x1024.Idx → EReal) (x2 : S16384x2048.Idx → EReal)
    (gate : S4x1x2048.Idx → EReal) (w : S2x2048x2048.Idx → EReal) (fg : S2048.Idx → EReal) (y : S16384x2048.Idx) : EReal :=
  rmsNorm (sumRow z lg lb ws bs yb x2 gate w (y 0)) (fun k => fg (ix1 k)) (y 1)

variable (m : (ℓ : Loc nD τ sig) → Buf (Elt Ideal) ℓ)

theorem places : ∀ t : Fin cfg0.N, win0_0.index t = ![t.val, 0] ∧ win0_1.index t = ![t.val, 1] ∧ win0_2.index t = ![t.val, 2]
    ∧ win0_3.index t = ![0, 0] ∧ win0_4.index t = ![0, 0] ∧ win0_5.index t = ![0, 0, 0] ∧ win0_6.index t = ![0, 0]
    ∧ win0_7.index t = ![t.val, 0] ∧ win0_8.index t = ![t.val, 0] ∧ win0_9.index t = ![t.val / 8, 0, 0] ∧ win0_10.index t = ![1, 0, 0] ∧ win0_11.index t = ![1, 1, 0]
    ∧ win0_12.index t = ![0, 0] ∧ win0_13.index t = ![t.val, 0] :=
  (by decide +kernel : ∀ t : Fin grid0.N, _)

/-- Block `t` of 512 rows of column group `g` of the projected array. -/
def zBlock (z : S16384x7168.Idx → EReal) (g : ℕ) (hg : g < 7) (t : Fin 32) (y : (Mat 512 1024).Idx) : EReal :=
  z (ix2 ⟨512 * t + (show Fin 512 from y 0).val, by have := (show Fin 512 from y 0).isLt; omega⟩ ⟨1024 * g + (show Fin 1024 from y 1).val, by have := (show Fin 1024 from y 1).isLt; omega⟩)

/-- Block `t` of 512 rows of an array. -/
def rowBlock {b : ℕ} (z : (Mat 16384 b).Idx → EReal) (t : Fin 32) (y : (Mat 512 b).Idx) : EReal :=
  z (ix2 ⟨512 * t + (show Fin 512 from y 0).val, by have := (show Fin 512 from y 0).isLt; omega⟩ (y 1))

/-- Half `h` of the second layer's projection. -/
def wHalf (w : S2x2048x2048.Idx → EReal) (h : ℕ) (hh : h < 2) (y : (Cub 1 1024 2048).Idx) : EReal :=
  w (ix3 1 ⟨1024 * h + (show Fin 1024 from y 1).val, by have := (show Fin 1024 from y 1).isLt; omega⟩ (y 2))

/-! ## The arrays the host prepares -/

theorem host_v0 (c : Dev nD) : V m c main_v0 = fun y : S2x2048x2048.Idx => m ((c : Thread nD τ).loc main_arg8) y := by
  funext y; unfold V; after_reads_at

theorem host_v3 (c : Dev nD) : V m c main_v3 = fun y : (Mat 1 1024).Idx => m ((c : Thread nD τ).loc main_arg1) (ix2 1 (y 1)) := by
  funext y; unfold V; after_reads_at

theorem host_v6 (c : Dev nD) : V m c main_v6 = fun y : (Mat 1 1024).Idx => m ((c : Thread nD τ).loc main_arg2) (ix2 1 (y 1)) := by
  funext y; unfold V; after_reads_at

theorem host_v8 (c : Dev nD) : V m c main_v8 = fun y : (Cub 8 128 128).Idx => m ((c : Thread nD τ).loc main_arg3) (ix4 1 (y 0) (y 1) (y 2)) := by
  funext y; unfold V; after_reads_at

theorem host_v11 (c : Dev nD) : V m c main_v11 = fun y : (Mat 128 8).Idx => m ((c : Thread nD τ).loc main_arg4) (ix3 1 (y 1) (y 0)) := by
  funext y; unfold V; after_reads_at

theorem host_v12 (c : Dev nD) : V m c main_v12 = fun y : (Mat 1 2048).Idx => m ((c : Thread nD τ).loc main_arg9) (ix1 (y 1)) := by
  funext y; unfold V; after_reads_at

/-! ## The input blocks -/

section Blocks
variable (c : Dev nD) (t : Fin cfg0.N)

theorem in_0 : iblk m c 0 t = zBlock (m ((c : Thread nD τ).loc main_arg0)) 0 (by decide) t := by funext y; unfold zBlock; blk_ext [iblk, V, places t]
theorem in_1 : iblk m c 1 t = zBlock (m ((c : Thread nD τ).loc main_arg0)) 1 (by decide) t := by funext y; unfold zBlock; blk_ext [iblk, V, places t]
theorem in_2 : iblk m c 2 t = zBlock (m ((c : Thread nD τ).loc main_arg0)) 2 (by decide) t := by funext y; unfold zBlock; blk_ext [iblk, V, places t]
theorem in_3 : iblk m c 3 t = fun y : (Mat 1 1024).Idx => m ((c : Thread nD τ).loc main_arg1) (ix2 1 (y 1)) := by rw [← host_v3]; funext y; blk_ext [iblk, places t]
theorem in_4 : iblk m c 4 t = fun y : (Mat 1 1024).Idx => m ((c : Thread nD τ).loc main_arg2) (ix2 1 (y 1)) := by rw [← host_v6]; funext y; blk_ext [iblk, places t]
theorem in_5 : iblk m c 5 t = fun y : (Cub 8 128 128).Idx => m ((c : Thread nD τ).loc main_arg3) (ix4 1 (y 0) (y 1) (y 2)) := by rw [← host_v8]; funext y; blk_ext [iblk, places t]
theorem in_6 : iblk m c 6 t = fun y : (Mat 128 8).Idx => m ((c : Thread nD τ).loc main_arg4) (ix3 1 (y 1) (y 0)) := by rw [← host_v11]; funext y; blk_ext [iblk, places t]
theorem in_7 : iblk m c 7 t = rowBlock (m ((c : Thread nD τ).loc main_arg5)) t := by funext y; unfold rowBlock; blk_ext [iblk, V, places t]
theorem in_8 : iblk m c 8 t = rowBlock (m ((c : Thread nD τ).loc main_arg6)) t := by funext y; unfold rowBlock; blk_ext [iblk, V, places t]
theorem in_9 : iblk m c 9 t = fun y : (Cub 1 1 2048).Idx => m ((c : Thread nD τ).loc main_arg7) (ix3 ⟨t / 8, by have : t.val < 32 := t.isLt; omega⟩ 0 (y 2)) := by funext y; blk_ext [iblk, V, places t]
theorem in_10 : iblk m c 10 t = wHalf (m ((c : Thread nD τ).loc main_arg8)) 0 (by decide) := by
  refine Eq.trans ?_ (congrArg (fun w => wHalf w 0 (by decide)) (host_v0 m c))
  funext y; unfold wHalf; blk_ext [iblk, places t]
theorem in_11 : iblk m c 11 t = wHalf (m ((c : Thread nD τ).loc main_arg8)) 1 (by decide) := by
  refine Eq.trans ?_ (congrArg (fun w => wHalf w 1 (by decide)) (host_v0 m c))
  funext y; unfold wHalf; blk_ext [iblk, places t]
theorem in_12 : iblk m c 12 t = fun y : (Mat 1 2048).Idx => m ((c : Thread nD τ).loc main_arg9) (ix1 (y 1)) := by rw [← host_v12]; funext y; blk_ext [iblk, places t]

end Blocks

/-- A block's rows are the output array's. -/
theorem outRows_block (z : S16384x7168.Idx → EReal) (lg lb : S2x1024.Idx → EReal) (ws : S2x8x128x128.Idx → EReal) (bs : S2x8x128.Idx → EReal) (yb : S16384x1024.Idx → EReal) (x2 : S16384x2048.Idx → EReal)
    (gate : S4x1x2048.Idx → EReal) (w : S2x2048x2048.Idx → EReal) (fg : S2048.Idx → EReal) (t : Fin 32) (y : S16384x2048.Idx) (i : Fin 512) (j : Fin 2048) (h0 : (y 0).val = 512 * t.val + i.val) (h1 : (y 1).val = j.val) :
    outRows (rowBlock x2 t) (fun y : (Cub 1 1 2048).Idx => gate (ix3 ⟨t / 8, by omega⟩ 0 (y 2)))
      (gated (zBlock z 0 (by decide) t) (zBlock z 1 (by decide) t) (zBlock z 2 (by decide) t) (fun y : (Mat 1 1024).Idx => lg (ix2 1 (y 1))) (fun y : (Mat 1 1024).Idx => lb (ix2 1 (y 1)))
        (fun y : (Cub 8 128 128).Idx => ws (ix4 1 (y 0) (y 1) (y 2))) (fun y : (Mat 128 8).Idx => bs (ix3 1 (y 1) (y 0))))
      (rowBlock yb t) (wHalf w 0 (by decide)) (wHalf w 1 (by decide)) (fun y : (Mat 1 2048).Idx => fg (ix1 (y 1))) i j = outArr z lg lb ws bs yb x2 gate w fg y := by
  obtain ⟨r, hr⟩ : ∃ r : Fin 16384, r.val = 512 * t.val + i.val := ⟨⟨_, by omega⟩, rfl⟩
  obtain rfl : y = ix2 r j := by
    rw [eq_ix2 (n0 := 16384) (n1 := 2048) y]
    congr 1 <;> exact Fin.ext (by first | exact h0.trans hr.symm | exact h1)
  have er : ∀ h, (⟨512 * t.val + i.val, h⟩ : Fin 16384) = r := fun h => Fin.ext hr.symm
  have eg : ∀ l, gated (zBlock z 0 (by decide) t) (zBlock z 1 (by decide) t) (zBlock z 2 (by decide) t) (fun y : (Mat 1 1024).Idx => lg (ix2 1 (y 1))) (fun y : (Mat 1 1024).Idx => lb (ix2 1 (y 1)))
        (fun y : (Cub 8 128 128).Idx => ws (ix4 1 (y 0) (y 1) (y 2))) (fun y : (Mat 128 8).Idx => bs (ix3 1 (y 1) (y 0))) i l = gatedRow z lg lb ws bs r l := by
    intro l
    have e1 : i.val % 128 = r.val % 128 := by omega
    have e2 : ∀ s : Fin 128, 512 * t.val + (128 * (i.val / 128) + s.val) = 128 * (r.val / 128) + s.val := fun s => by omega
    unfold gated gatedRow
    refine congrArg₂ (· * ·) (congrArg₂ (· * ·) (congrArg z (congrArg₂ ix2 (er _) (Fin.ext (by simp)))) (congrArg₂ (· + ·) (Finset.sum_congr rfl fun s _ => ?_) ?_)) (congrArg z (congrArg₂ ix2 (er _) rfl))
    · refine congrArg₂ (· * ·) ?_ (congrArg (fun f => layerNorm f _ _ l) (funext fun k => congrArg z (congrArg₂ ix2 (Fin.ext (e2 s)) rfl)))
      simp only [e1]
      rfl
    · simp only [e1]
      rfl
  have e3 : ∀ h, (⟨t.val / 8, h⟩ : Fin 4) = ⟨r.val / 4096, by omega⟩ := fun h => Fin.ext (by show t.val / 8 = r.val / 4096; omega)
  unfold outRows outArr
  refine congrArg (fun f => rmsNorm f _ _) (funext fun k => ?_)
  unfold sumRow
  refine congrArg₂ (· + ·) (congrArg₂ (· + ·) (congrArg x2 (congrArg₂ ix2 (er _) rfl)) (congrArg₂ (· * ·) (congrArg (fun b => gate (ix3 b 0 k)) (e3 _)) (Finset.sum_congr rfl fun l _ => ?_)))
    (congrArg₂ (· * ·) (congrArg (fun b => gate (ix3 b 0 k)) (e3 _)) (Finset.sum_congr rfl fun l _ => ?_))
  · exact congrArg₂ (· * ·) (congrArg yb (congrArg₂ ix2 (er _) rfl)) rfl
  · exact congrArg₂ (· * ·) (eg l) (congrArg w (congrArg (fun b => ix3 1 b k) (Fin.ext (by simp))))

/-- The output array after the run. -/
theorem arr (c : Dev nD) : (dats m 0 c).arrAt 13 cfg0.N
    = outArr (m ((c : Thread nD τ).loc main_arg0)) (m ((c : Thread nD τ).loc main_arg1)) (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 13 _ (by decide +kernel) fun t hf y => ?_
  blk_simp
  rw [after0_13, block, in_0, in_1, in_2, in_3, in_4, in_5, in_6, in_7, in_8, in_9, in_10, in_11, in_12]
  refine outRows_block _ _ _ _ _ _ _ _ _ _ t _ (y 0) (y 1) ?_ ?_
  · blk_simp [places t]; omega
  · blk_simp [places t]

end Cert.Kernel2Ideal.Body

end
-- ==== Proof.Infinite.lean ====
/- A row with an infinite entry has the RMS norm zero, so rows that differ only where both are infinite have one norm. -/
module

public import proofs.«01_k».proof.Proof.Gate

@[expose] public section

noncomputable section

namespace Cert.Gate

open Idealize.ShloMosaic

/-- One of the two infinities. -/
def Inf (x : EReal) : Prop := x = ⊤ ∨ x = ⊥

theorem inf_or_real (x : EReal) : Inf x ∨ ∃ r : ℝ, x = r := by
  induction x with
  | bot => exact .inl (.inr rfl)
  | coe r => exact .inr ⟨r, rfl⟩
  | top => exact .inl (.inl rfl)

theorem Inf.add_left {a : EReal} (b : EReal) (h : Inf a) : Inf (a + b) := by
  rcases h with rfl | rfl
  · induction b with
    | bot => exact .inr (EReal.add_bot _)
    | coe b => exact .inl (EReal.top_add_coe b)
    | top => exact .inl rfl
  · exact .inr (EReal.bot_add b)

theorem Inf.add_right {a : EReal} (b : EReal) (h : Inf a) : Inf (b + a) := by
  rw [add_comm]; exact h.add_left b

theorem Inf.mul {g : ℝ} (hg : g ≠ 0) {a : EReal} (h : Inf a) : Inf ((g : EReal) * a) := by
  rcases lt_or_gt_of_ne hg with hn | hp <;> rcases h with rfl | rfl
  · exact .inr (EReal.coe_mul_top_of_neg hn)
  · exact .inl (EReal.coe_mul_bot_of_neg hn)
  · exact .inl (EReal.coe_mul_top_of_pos hp)
  · exact .inr (EReal.coe_mul_bot_of_pos hp)

/-- The same, or both infinite. -/
def Near (p q : EReal) : Prop := p = q ∨ (Inf p ∧ Inf q)

/-- A real factor on a sum, or on the summands one after the other. -/
theorem near_add {g : EReal} (hg : ∃ r : ℝ, g = r) (x s a : EReal) : Near (x + g * (a + s)) (x + g * s + g * a) := by
  obtain ⟨g, rfl⟩ := hg
  by_cases h0 : g = 0
  · subst h0
    exact .inl (by simp)
  · rcases inf_or_real a with ha | ⟨a, rfl⟩
    · exact .inr ⟨((ha.add_left s).mul h0).add_right x, (ha.mul h0).add_right _⟩
    · rcases inf_or_real s with hs | ⟨s, rfl⟩
      · exact .inr ⟨((hs.add_right _).mul h0).add_right x, ((hs.mul h0).add_right x).add_left _⟩
      · refine .inl ?_
        rw [add_assoc]
        congr 1
        norm_cast
        ring

theorem sq_nonneg' (x : EReal) : 0 ≤ x * x := by
  induction x with
  | bot => exact le_top
  | coe r => exact_mod_cast mul_self_nonneg r
  | top => exact le_top

/-- An infinite entry makes the row's norm zero. -/
theorem rmsNorm_inf (x g : Fin 2048 → EReal) {k : Fin 2048} (hk : Inf (x k)) (l : Fin 2048) : rmsNorm x g l = 0 := by
  have hs : ∑ j, x j * x j = ⊤ := top_le_iff.mp (le_trans (by rcases hk with h | h <;> rw [h] <;> exact le_rfl)
    (Finset.single_le_sum (f := fun j => x j * x j) (fun j _ => sq_nonneg' (x j)) (Finset.mem_univ k)))
  have hn : Ideal.ofBits .f32 0x45000000#32 = ((2048 : ℝ) : EReal) := by
    simp [Ideal.ofBits, Ideal.ieee, -EReal.coe_mul]; norm_num
  have he : ∃ r : ℝ, eps = r := by
    unfold eps Ideal.ofBits Ideal.ieee
    dsimp only
    rw [if_neg (by decide), if_neg (by decide)]
    exact ⟨_, rfl⟩
  obtain ⟨e, he⟩ := he
  have hd : Ideal.div ⊤ ((2048 : ℝ) : EReal) = ⊤ := by
    rw [Ideal.div_coe (by norm_num)]
    exact EReal.top_mul_coe_of_pos (by norm_num)
  unfold rmsNorm mean
  rw [hs, hn, he, hd, EReal.top_add_coe, Ideal.rsqrt_top, mul_zero, zero_mul]

theorem rmsNorm_near (p q g : Fin 2048 → EReal) (h : ∀ k, Near (p k) (q k)) (l : Fin 2048) : rmsNorm p g l = rmsNorm q g l := by
  by_cases hk : ∃ k, p k ≠ q k
  · obtain ⟨k, hk⟩ := hk
    obtain ⟨hp, hq⟩ := (h k).resolve_left hk
    rw [rmsNorm_inf p g hp, rmsNorm_inf q g hq]
  · rw [show p = q from funext fun k => not_not.mp fun hc => hk ⟨k, hc⟩]

end Cert.Gate

end
-- ==== Proof.OutEq.lean ====
/- The reference's gating, projection and last norm are the kernel's: the sum over the 2048 channels of both halves splits into the kernel's two sums, up to rows whose norm is zero. -/
module

public import proofs.«01_k».proof.Proof.OutArray
public import proofs.«01_k».proof.Proof.Infinite
public import proofs.«01_k».proof.Proof.Softmax
public import proofs.«01_k».proof.Proof.Gen.Reference2Ideal.Read

@[expose] public section

set_option maxRecDepth 16384

noncomputable section

namespace Cert.OutEq

open Idealize.ShloMosaic Idealize.ShloMosaic.TcCoe Idealize.SL.Sem Cert.Tile Cert.Softmax Cert.Gate
open Cert.Kernel2Ideal.Body (gatedRow sumRow outArr)
open Cert.Reference2Ideal Cert.Reference2Ideal.Gen Cert.Reference2Ideal.Read

variable (z : S16384x7168.Idx → EReal) (lg lb : S2x1024.Idx → EReal) (ws : S2x8x128x128.Idx → EReal) (bs : S2x8x128.Idx → EReal) (yb : S16384x1024.Idx → EReal) (x2 : S16384x2048.Idx → EReal)
    (gate : S4x1x2048.Idx → EReal) (w : S2x2048x2048.Idx → EReal) (fg : S2048.Idx → EReal)

/-- An index from its coordinates. -/
theorem is2 {a b : ℕ} {i : (Mat a b).Idx} {x : Fin a} {y : Fin b} (h0 : (i 0).val = x.val) (h1 : (i 1).val = y.val) : i = ix2 x y :=
  (eq_ix2 (n0 := a) (n1 := b) i).trans (congrArg₂ ix2 (Fin.ext h0) (Fin.ext h1))

theorem is3 {a b c : ℕ} {i : (Cub a b c).Idx} {x : Fin a} {y : Fin b} {z : Fin c} (h0 : (i 0).val = x.val) (h1 : (i 1).val = y.val) (h2 : (i 2).val = z.val) : i = ix3 x y z := by
  rw [eq_ix3 (n0 := a) (n1 := b) (n2 := c) i]
  congr 1 <;> exact Fin.ext (by assumption)

/-- Position `q` of batch `b` among all rows. -/
abbrev row (b : Fin 4) (q : Fin 4096) : Fin 16384 := ⟨4096 * b + q, by omega⟩

section Read

variable (b : Fin 4) (q : Fin 4096)

theorem u_at (l : Fin 1024) : val_main_v2 (F := Ideal) z (ix3 b q l) = z (ix2 (row b q) ⟨l, by omega⟩) := by
  rw [val_main_v2_apply, val_main_v1_apply, val_main_v0_apply]
  refine congrArg z (is2 ?_ ?_)
  · show ((b.val * 4096 + q.val) * 1024 + l.val) / 1024 = 4096 * b.val + q.val; omega
  · show ((b.val * 4096 + q.val) * 1024 + l.val) % 1024 = l.val; omega

theorem v_at (l : Fin 1024) : val_main_v5 (F := Ideal) z (ix3 b q l) = z (ix2 (row b q) ⟨1024 + l, by omega⟩) := by
  rw [val_main_v5_apply, val_main_v4_apply, val_main_v3_apply]
  refine congrArg z (is2 ?_ ?_)
  · show ((b.val * 4096 + q.val) * 1024 + l.val) / 1024 = 4096 * b.val + q.val; omega
  · show 1024 + ((b.val * 4096 + q.val) * 1024 + l.val) % 1024 = 1024 + l.val; omega

theorem a_at (l : Fin 1024) : val_main_v8 (F := Ideal) z (ix3 b q l) = z (ix2 (row b q) ⟨2048 + l, by omega⟩) := by
  rw [val_main_v8_apply, val_main_v7_apply, val_main_v6_apply]
  refine congrArg z (is2 ?_ ?_)
  · show ((b.val * 4096 + q.val) * 1024 + l.val) / 1024 = 4096 * b.val + q.val; omega
  · show 2048 + ((b.val * 4096 + q.val) * 1024 + l.val) % 1024 = 2048 + l.val; omega

/-- A row of the gated half, before its norm. -/
abbrev vRow (k : Fin 1024) : EReal := z (ix2 (row b q) ⟨1024 + k, by omega⟩)

theorem centred (l : Fin 1024) : val_main_v22 (F := Ideal) z (ix3 b q l) = vRow z b q l - mean 0x44800000#32 (vRow z b q) := by
  rw [val_main_v22_apply, v_at, val_main_v21_apply, val_main_v20_apply, val_main_v18_apply, val_main_v17_apply, val_main_v19_apply, val_main_cst_0_apply, val_main_cst_apply]
  rw [Finset.sum_congr rfl fun k _ => (congrArg (val_main_v5 (F := Ideal) z) (is3 (x := b) (y := q) (z := k) rfl rfl rfl)).trans (v_at z b q k)]
  simp [mean]

theorem norm_at (l : Fin 1024) : val_main_v38 (F := Ideal) z lg lb (ix3 b q l) = layerNorm (vRow z b q) (fun k => lg (ix2 1 k)) (fun k => lb (ix2 1 k)) l := by
  have hc : ∀ l, val_main_v31 (F := Ideal) z (ix3 b q l) = Ideal.rsqrt (mean 0x44800000#32 (fun k => (vRow z b q k - mean 0x44800000#32 (vRow z b q)) * (vRow z b q k - mean 0x44800000#32 (vRow z b q))) + eps) := by
    intro l
    rw [val_main_v31_apply, val_main_v30_apply, val_main_v29_apply, val_main_v27_apply, val_main_v25_apply, val_main_v24_apply, val_main_v26_apply, val_main_cst_2_apply, val_main_v28_apply, val_main_cst_3_apply, val_main_cst_1_apply]
    rw [Finset.sum_congr rfl fun k _ => (congrArg (val_main_v23 (F := Ideal) z) (is3 (x := b) (y := q) (z := k) rfl rfl rfl))]
    simp only [val_main_v23_apply, centred]
    simp [mean, eps]
  rw [val_main_v38_apply, val_main_v35_apply, val_main_v32_apply, centred, hc, val_main_v37_apply, val_main_v36_apply, val_main_v12_apply, val_main_v11_apply,
    val_main_v34_apply, val_main_v33_apply, val_main_v10_apply, val_main_v9_apply]
  refine congrArg₂ (· + ·) (congrArg₂ (· * ·) rfl (congrArg lg (is2 ?_ ?_))) (congrArg lb (is2 ?_ ?_))
  all_goals first | rfl | (show l.val % 1024 = l.val; omega)

/-- The causal weights of a group. -/
theorem tri_at (h : Fin 8) (t s : Fin 128) : val_main_v44 (F := Ideal) ws (ix3 h t s) = if s.val ≤ t.val then ws (ix4 1 h t s) else 0 := by
  rw [val_main_v44_apply, val_main_call1_v0_apply, val_main_v42_apply, val_main_v41_apply, val_main_call0_v4_apply, val_main_call0_v2_apply, val_main_call0_v0_apply, val_main_call0_v1_apply, val_main_call0_c_apply,
    val_main_call0_v3_apply, val_main_v40_apply, val_main_c_apply, val_main_call0_v5_apply, val_main_call0_c_0_apply, val_main_v43_apply, val_main_cst_4_apply, val_main_v14_apply, val_main_v13_apply]
  have e : IntOp.addi (BitVec.ofNat 32 t.val) 0#32 = BitVec.ofNat 32 t.val := BitVec.add_zero _
  have ew : idx_main_v13 (idx_main_v14 (ix3 h t s)) = ix4 1 h t s := funext fun a => Fin.ext (by
    match a with
    | ⟨0, _⟩ => rfl
    | ⟨1, _⟩ => show ((h.val * 128 + t.val) * 128 + s.val) / 16384 % 8 = h.val; omega
    | ⟨2, _⟩ => show ((h.val * 128 + t.val) * 128 + s.val) / 128 % 128 = t.val; omega
    | ⟨3, _⟩ => show ((h.val * 128 + t.val) * 128 + s.val) % 128 = s.val; omega)
  rw [ew]
  show Scalar.select (Scalar.select (IntOp.cmpi .sge (IntOp.addi (BitVec.ofNat 32 t.val) 0#32) (BitVec.ofNat 32 s.val)) 1#1 0#1) _ _ = _
  rw [e, WordCmp.cmpi_sge_ofNat (by omega) (by omega), Scalar.select_decide]
  split <;> simp [Scalar.select]

/-- A group's mix of the rows of a chunk. -/
theorem mix_at (l : Fin 1024) : val_main_v51 (F := Ideal) z lg lb ws bs (ix3 b q l)
    = ∑ s : Fin 128, (if s.val ≤ (row b q).val % 128 then ws (ix4 1 ⟨l / 128, by omega⟩ ⟨(row b q).val % 128, by omega⟩ s) else 0)
      * layerNorm (fun k => z (ix2 ⟨128 * ((row b q).val / 128) + s, by omega⟩ ⟨1024 + k, by omega⟩)) (fun k => lg (ix2 1 k)) (fun k => lb (ix2 1 k)) l
    + bs (ix3 1 ⟨l / 128, by omega⟩ ⟨(row b q).val % 128, by omega⟩) := by
  rw [val_main_v51_apply, val_main_v50_apply, val_main_v46_apply, val_main_v45_apply, val_main_v49_apply, val_main_v48_apply, val_main_v47_apply, val_main_v16_apply, val_main_v15_apply]
  have hb : ((b.val * 4096 + q.val) * 1024 + l.val) / 4194304 = b.val := by omega
  have hc : ((b.val * 4096 + q.val) * 1024 + l.val) / 131072 % 32 = q.val / 128 := by omega
  have hg : ((b.val * 4096 + q.val) * 1024 + l.val) / 128 % 8 = l.val / 128 := by omega
  have ht : ((b.val * 4096 + q.val) * 1024 + l.val) / 1024 % 128 = (4096 * b.val + q.val) % 128 := by omega
  refine congrArg₂ (· + ·) (Finset.sum_congr rfl fun s _ => ?_) (congrArg bs (is3 ?_ ?_ ?_))
  · rw [mul_comm, val_main_v39_apply]
    refine congrArg₂ (· * ·) ((congrArg (val_main_v44 (F := Ideal) ws) (is3 (x := ⟨l / 128, by omega⟩) (y := ⟨(row b q).val % 128, by omega⟩) (z := s) ?_ ?_ rfl)).trans (tri_at ws _ _ _)) ?_
    · exact hg
    · exact ht
    · refine ((congrArg (val_main_v38 (F := Ideal) z lg lb) (is3 (x := b) (y := ⟨128 * (q / 128) + s, by omega⟩) (z := l) ?_ ?_ ?_)).trans (norm_at z lg lb _ _ _)).trans ?_
      · show ((((((b.val * 4096 + q.val) * 1024 + l.val) / 4194304 * 32 + ((b.val * 4096 + q.val) * 1024 + l.val) / 131072 % 32) * 128 + s.val) * 8 + ((b.val * 4096 + q.val) * 1024 + l.val) / 128 % 8) * 128 + ((b.val * 4096 + q.val) * 1024 + l.val) % 128) / 4194304 = b.val
        rw [hb, hc, hg]; omega
      · show ((((((b.val * 4096 + q.val) * 1024 + l.val) / 4194304 * 32 + ((b.val * 4096 + q.val) * 1024 + l.val) / 131072 % 32) * 128 + s.val) * 8 + ((b.val * 4096 + q.val) * 1024 + l.val) / 128 % 8) * 128 + ((b.val * 4096 + q.val) * 1024 + l.val) % 128) / 1024 % 4096 = 128 * (q.val / 128) + s.val
        rw [hb, hc, hg]; omega
      · show ((((((b.val * 4096 + q.val) * 1024 + l.val) / 4194304 * 32 + ((b.val * 4096 + q.val) * 1024 + l.val) / 131072 % 32) * 128 + s.val) * 8 + ((b.val * 4096 + q.val) * 1024 + l.val) / 128 % 8) * 128 + ((b.val * 4096 + q.val) * 1024 + l.val) % 128) % 1024 = l.val
        rw [hb, hc, hg]; omega
      · refine congrArg (fun f => layerNorm f _ _ l) (funext fun k => congrArg z (congrArg (fun r => ix2 r _) (Fin.ext ?_)))
        show 4096 * b.val + (128 * (q.val / 128) + s.val) = 128 * ((4096 * b.val + q.val) / 128) + s.val
        omega
  · rfl
  · show (((b.val * 4096 + q.val) * 1024 + l.val) / 128 % 8 * 128 + ((b.val * 4096 + q.val) * 1024 + l.val) / 1024 % 128) / 128 % 8 = l.val / 128
    rw [hg, ht]
    have h : (4096 * b.val + q.val) % 128 < 128 := Nat.mod_lt _ (by decide)
    have hl : l.val / 128 < 8 := by omega
    generalize (4096 * b.val + q.val) % 128 = t at h ⊢
    generalize l.val / 128 = g at hl ⊢
    omega
  · show (((b.val * 4096 + q.val) * 1024 + l.val) / 128 % 8 * 128 + ((b.val * 4096 + q.val) * 1024 + l.val) / 1024 % 128) % 128 = (4096 * b.val + q.val) % 128
    rw [ht]; omega

theorem gated_at (l : Fin 1024) : val_main_v53 (F := Ideal) z lg lb ws bs (ix3 b q l) = gatedRow z lg lb ws bs (row b q) l := by
  rw [val_main_v53_apply, val_main_v52_apply, u_at, mix_at, a_at]
  rfl

/-- The two halves of the channels. -/
theorem cat_at (k : Fin 2048) : val_main_v56 (F := Ideal) z lg lb ws bs yb (ix3 b q k)
    = if h : k.val < 1024 then gatedRow z lg lb ws bs (row b q) ⟨k, h⟩ else yb (ix2 (row b q) ⟨k - 1024, by omega⟩) := by
  unfold val_main_v56
  have h1 := gated_at z lg lb ws bs b q
  have h2 : ∀ l, val_main_v55 (F := Ideal) yb (ix3 b q l) = yb (ix2 (row b q) l) := by
    intro l
    rw [val_main_v55_apply, val_main_v54_apply]
    refine congrArg yb (is2 ?_ ?_)
    · show ((b.val * 4096 + q.val) * 1024 + l.val) / 1024 = 4096 * b.val + q.val; omega
    · show ((b.val * 4096 + q.val) * 1024 + l.val) % 1024 = l.val; omega
  generalize val_main_v53 (F := Ideal) z lg lb ws bs = A at *
  generalize val_main_v55 (F := Ideal) yb = B at *
  pointwise
  simp only [h1, h2]

end Read

variable (hg : ∀ i, ∃ r : ℝ, gate i = r)

section Sum

variable (b : Fin 4) (q : Fin 4096)
include hg

/-- The projection of both halves of the channels. -/
theorem sum_at (j : Fin 2048) : Near (val_main_v63 (F := Ideal) z lg lb ws bs yb x2 gate w (ix3 b q j)) (sumRow z lg lb ws bs yb x2 gate w (row b q) j) := by
  have eb : ∀ h, (⟨(row b q).val / 4096, h⟩ : Fin 4) = b := fun h => Fin.ext (by show (4096 * b.val + q.val) / 4096 = b.val; omega)
  have e0 : ∀ k : Fin 2048, val_main_v58 (F := Ideal) w (ix2 k j) = w (ix3 1 k j) := by
    intro k
    rw [val_main_v58_apply, val_main_v57_apply]
    refine congrArg w (is3 rfl ?_ ?_)
    · show (k.val * 2048 + j.val) / 2048 % 2048 = k.val; omega
    · show (k.val * 2048 + j.val) % 2048 = j.val; omega
  have e1 : val_main_v59 (F := Ideal) z lg lb ws bs yb w (ix3 b q j)
      = (∑ l : Fin 1024, gatedRow z lg lb ws bs (row b q) l * w (ix3 1 ⟨l, by omega⟩ j)) + ∑ l : Fin 1024, yb (ix2 (row b q) l) * w (ix3 1 ⟨1024 + l, by omega⟩ j) := by
    rw [val_main_v59_apply, Finset.sum_congr rfl fun k _ => congrArg₂ (· * ·)
      ((congrArg (val_main_v56 (F := Ideal) z lg lb ws bs yb) (is3 (x := b) (y := q) (z := k) rfl rfl rfl)).trans (cat_at z lg lb ws bs yb b q k))
      ((congrArg (val_main_v58 (F := Ideal) w) (is2 (x := k) (y := j) rfl rfl)).trans (e0 k))]
    refine (Fin.sum_univ_add (a := 1024) (b := 1024) _).trans (congrArg₂ (· + ·) (Finset.sum_congr rfl fun l _ => ?_) (Finset.sum_congr rfl fun l _ => ?_))
    · exact congrArg (· * _) (dif_pos (show (Fin.castAdd 1024 l).val < 1024 from l.isLt))
    · refine congrArg (· * _) ((dif_neg (show ¬ (Fin.natAdd 1024 l).val < 1024 by simp)).trans (congrArg yb (congrArg (ix2 _) (Fin.ext ?_))))
      show 1024 + l.val - 1024 = l.val
      omega
  have e2 : val_main_v61 (F := Ideal) gate (ix3 b q j) = gate (ix3 b 0 j) := by
    rw [val_main_v61_apply]
    exact congrArg gate (is3 rfl rfl rfl)
  have e3 : val_main_v60 (F := Ideal) x2 (ix3 b q j) = x2 (ix2 (row b q) j) := by
    rw [val_main_v60_apply]
    refine congrArg x2 (is2 ?_ ?_)
    · show ((b.val * 4096 + q.val) * 2048 + j.val) / 2048 = 4096 * b.val + q.val; omega
    · show ((b.val * 4096 + q.val) * 2048 + j.val) % 2048 = j.val; omega
  rw [val_main_v63_apply, val_main_v62_apply, e1, e2, e3]
  unfold sumRow
  rw [eb]
  exact near_add (hg _) _ _ _

theorem final_at (j : Fin 2048) : val_main_v76 (F := Ideal) z lg lb ws bs yb x2 gate w fg (ix3 b q j) = rmsNorm (sumRow z lg lb ws bs yb x2 gate w (row b q)) (fun k => fg (ix1 k)) j := by
  refine Eq.trans ?_ (rmsNorm_near (fun k => val_main_v63 (F := Ideal) z lg lb ws bs yb x2 gate w (ix3 b q k)) _ _ (sum_at z lg lb ws bs yb x2 gate w hg b q) j)
  rw [val_main_v76_apply, val_main_v73_apply, val_main_v72_apply, val_main_v71_apply, val_main_v70_apply, val_main_v68_apply, val_main_v66_apply, val_main_v65_apply, val_main_v67_apply, val_main_cst_6_apply,
    val_main_v69_apply, val_main_cst_7_apply, val_main_cst_5_apply, val_main_v75_apply, val_main_v74_apply]
  rw [Finset.sum_congr rfl fun k _ => (congrArg (val_main_v64 (F := Ideal) z lg lb ws bs yb x2 gate w) (is3 (x := b) (y := q) (z := k) rfl rfl rfl))]
  simp only [val_main_v64_apply]
  have e : idx_main_v74 (idx_main_v75 (ix3 b q j)) = ix1 j := funext fun a => Fin.ext (by match a with | ⟨0, _⟩ => rfl)
  simp [rmsNorm, mean, eps, e]

end Sum

include hg

/-- The reference's result is the kernel's. -/
theorem result : val_main_v77 (F := Ideal) z lg lb ws bs yb x2 gate w fg = outArr z lg lb ws bs yb x2 gate w fg := by
  funext y
  have h0 : (y 0).val < 16384 := (y 0).isLt
  have h1 : (y 1).val < 2048 := (y 1).isLt
  rw [val_main_v77_apply]
  refine (congrArg (val_main_v76 (F := Ideal) z lg lb ws bs yb x2 gate w fg) (is3 (x := ⟨(y 0).val / 4096, by omega⟩) (y := ⟨(y 0).val % 4096, by omega⟩) (z := ⟨(y 1).val, h1⟩) ?_ ?_ ?_)).trans
    ((final_at z lg lb ws bs yb x2 gate w fg hg _ _ _).trans ?_)
  · show ((y 0).val * 2048 + (y 1).val) / 8388608 = (y 0).val / 4096; omega
  · show ((y 0).val * 2048 + (y 1).val) / 2048 % 4096 = (y 0).val % 4096; omega
  · show ((y 0).val * 2048 + (y 1).val) % 2048 = (y 1).val; omega
  · exact congrArg (fun r => rmsNorm (sumRow z lg lb ws bs yb x2 gate w r) (fun k => fg (ix1 k)) (y 1)) (Fin.ext (by show 4096 * ((y 0).val / 4096) + (y 0).val % 4096 = (y 0).val; omega))

end Cert.OutEq

end
-- ==== Proof.OutClaims.lean ====
/- The out-projection's claims, from its frames, its output array and the reference's result. -/
module

public import proofs.«01_k».proof.Defs
public import proofs.«01_k».proof.Proof.OutEq
public import proofs.«01_k».proof.Proof.Gen.Pre_finite2
public import proofs.«01_k».proof.Proof.Gen.Kernel2.Frame
public import proofs.«01_k».proof.Proof.Gen.Kernel2Ideal.Frame

@[expose] public section

noncomputable section

namespace Cert.OutClaims

open Idealize.ShloMosaic Idealize.SL.Sem Cert.Softmax

theorem frame_p : Cert.quiescent_Kernel2 := fun m ρ _ => Cert.Kernel2.Gen.frame m ρ
theorem frame_pi : Cert.quiescent_Kernel2Ideal := fun m ρ _ => Cert.Kernel2Ideal.Gen.frame m ρ

/-- The reference declares no semaphore, so none is left raised. -/
theorem frame_ri : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- Under the precondition every element of the gate is real. -/
theorem reals {z : Pre_finite2.S16384x7168.Idx → EReal} {lg lb : Pre_finite2.S2x1024.Idx → EReal} {ws : Pre_finite2.S2x8x128x128.Idx → EReal} {bs : Pre_finite2.S2x8x128.Idx → EReal}
    {yb : Pre_finite2.S16384x1024.Idx → EReal} {x2 : Pre_finite2.S16384x2048.Idx → EReal} {gate : Pre_finite2.S4x1x2048.Idx → EReal} {w : Pre_finite2.S2x2048x2048.Idx → EReal} {fg : Pre_finite2.S2048.Idx → EReal}
    (h : Pre_finite2.fn (F := Ideal) z lg lb ws bs yb x2 gate w fg = (fun _ => 1#1)) : ∀ i, ∃ r : ℝ, gate i = r :=
  have e : ∀ {x : EReal} {i : BitVec 1}, i = 1#1 → Ideal.cmp .olt (max x (-x)) (Ideal.ofBits .f32 0x7F800000#32) = i → ∃ r : ℝ, x = r :=
    fun hi hc => real_of_abs ((congrArg (Ideal.cmp .olt _) posInf).symm.trans (hc.trans hi))
  fun i => e (congrFun h i) rfl

theorem algebraic : Cert.algebraic_Kernel2Ideal_Reference2Ideal_pre_finite2 := by
  intro m ρ m' ρ' hpre hagree
  refine ⟨fun c => (Cert.Kernel2Ideal.Gen.dats m 0 c).arrAt 13 Cert.Kernel2Ideal.cfg0.N, ?_, ?_⟩
  · exact Cert.Kernel2Ideal.Value.run_blocks (F := Ideal) m ρ
  · refine (θ_run Cert.Reference2Ideal.defs _ _).mono (fun _ h c => ⟨(h c).1.trans ?_, (h c).2⟩) (Cert.Reference2Ideal.Value.run (F := Ideal) m' ρ')
    obtain ⟨a0, a1, a2, a3, a4, a5, a6, a7, a8, a9⟩ := hagree c
    rw [Reference2Ideal.Read.val_main_v77_eq, a0, a1, a2, a3, a4, a5, a6, a7, a8, a9]
    exact (OutEq.result _ _ _ _ _ _ _ _ _ _ (reals (hpre c))).trans (Kernel2Ideal.Body.arr m c).symm

end Cert.OutClaims

end
-- ==== Proof.InRun.lean ====
/- The in-projection's body, run from each kind of grid point: what it reads and what it leaves in its outputs and its scratch. -/
module

public import proofs.«01_k».proof.Proof.Gen.Kernel3Ideal.Skeleton
public import proofs.«01_k».proof.Proof.Gen.Kernel3Ideal.Frame

@[expose] public section

set_option maxRecDepth 16384

noncomputable section

namespace Cert.Kernel3Ideal.Run

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords) (a2 : Memref sig .tc .vmem S1024x2048 .f32) (h2 : a2.IsWhole) (a3 : Memref sig .tc .vmem S1x1x2048 .f32) (h3 : a3.IsWhole) (a4 : Memref sig .tc .vmem S1x1x2048 .f32) (h4 : a4.IsWhole)
  (a5 : Memref sig .tc .vmem S1x2048 .f32) (h5 : a5.IsWhole) (a6 : Memref sig .tc .vmem S1x2048x1792 .bf16) (h6 : a6.IsWhole) (a7 : Memref sig .tc .vmem S2048x128 .bf16) (h7 : a7.IsWhole)
  (a8 : Memref sig .tc .vmem S1024x1792 .bf16) (h8 : a8.IsWhole) (a9 : Memref sig .tc .vmem S1024x128 .f32) (h9 : a9.IsWhole) (a10 : Memref sig .tc .vmem S1024x2048 .bf16) (h10 : a10.IsWhole)

/-- What the body does at a point that only multiplies: it reads the weights and the scratch, and stores the output's tiles. -/
abbrev Spec (w : Vec F S1x2048x1792 .bf16) (h : Vec F S1024x2048 .bf16) (L : List (View.Piece (Elt F) S1024x1792 .bf16)) : Prop :=
  ∀ (E : Set ℕ) (K : PUnit → sProp 𝕄),
    iprop(owns (c : Thread nD τ) a6 fullShare w ∗ (∃ d, owns (c : Thread nD τ) a8 fullShare d) ∗ owns (c : Thread nD τ) a10 fullShare h
        ∗ (iprop(owns (c : Thread nD τ) a6 fullShare w ∗ (∃ f, a8.view.loc (c : Thread nD τ) ↦[a8.view.set]{fullShare} a8.view.writes (Elt F) f L) ∗ owns (c : Thread nD τ) a10 fullShare h) -∗ K ⟨⟩))
      ⊢ wp frame (wpE (defs₀ (F := F)) Variants.none c none) E (cc0_norm_inproj i a2 h2 a3 h3 a4 h4 a5 h5 a6 h6 a7 h7 a8 h8 a9 h9 a10 h10) K

set_option maxHeartbeats 1000000 in
/-- The run at the second column tile. -/
def run2 (c1 : ¬k0_cond1 i = 1#1) (c2 : k0_cond2 i = 1#1) (c3 : ¬k0_cond3 i = 1#1) (c4 : ¬k0_cond4 i = 1#1) (w : Vec F S1x2048x1792 .bf16) (h : Vec F S1024x2048 .bf16) :
    { L : List (View.Piece (Elt F) S1024x1792 .bf16) // Spec c i a2 h2 a3 h3 a4 h4 a5 h5 a6 h6 a7 h7 a8 h8 a9 h9 a10 h10 w h L } := by
  refine ⟨?_, fun E K => ?run⟩
  case run =>
    simp only [cc0_norm_inproj_eq_skeleton]; unfold cc0_norm_inproj_skel
    simp only [k0_part5_eq_skeleton, k0_part6_eq_skeleton, dif_neg c1, dif_pos c2, dif_neg c3, dif_neg c4]
    unfold owns
    iintro ⟨⟨%f6, %hf6, H6⟩, ⟨%d8, %f8, -, H8⟩, ⟨%f10, %hf10, H10⟩, Hk⟩
    obtain rfl := h6.eq_unread hf6; obtain rfl := h10.eq_unread hf10
    sl_exec
    sl_step
    iapply Hk
    isplitl [H6]
    · iexists _; isplitr; · ipureintro; exact h6.read_unread _
      iexact H6
    isplitl [H8]; · iexists _; iexact H8
    iexists _; isplitr; · ipureintro; exact h10.read_unread _
    iexact H10

set_option maxHeartbeats 1000000 in
/-- The run at the third column tile. -/
def run3 (c1 : ¬k0_cond1 i = 1#1) (c2 : ¬k0_cond2 i = 1#1) (c3 : k0_cond3 i = 1#1) (c4 : ¬k0_cond4 i = 1#1) (w : Vec F S1x2048x1792 .bf16) (h : Vec F S1024x2048 .bf16) :
    { L : List (View.Piece (Elt F) S1024x1792 .bf16) // Spec c i a2 h2 a3 h3 a4 h4 a5 h5 a6 h6 a7 h7 a8 h8 a9 h9 a10 h10 w h L } := by
  refine ⟨?_, fun E K => ?run⟩
  case run =>
    simp only [cc0_norm_inproj_eq_skeleton]; unfold cc0_norm_inproj_skel
    simp only [k0_part7_eq_skeleton, dif_neg c1, dif_neg c2, dif_pos c3, dif_neg c4]
    unfold owns
    iintro ⟨⟨%f6, %hf6, H6⟩, ⟨%d8, %f8, -, H8⟩, ⟨%f10, %hf10, H10⟩, Hk⟩
    obtain rfl := h6.eq_unread hf6; obtain rfl := h10.eq_unread hf10
    sl_exec
    sl_step
    iapply Hk
    isplitl [H6]
    · iexists _; isplitr; · ipureintro; exact h6.read_unread _
      iexact H6
    isplitl [H8]; · iexists _; iexact H8
    iexists _; isplitr; · ipureintro; exact h10.read_unread _
    iexact H10

set_option maxHeartbeats 1000000 in
/-- The run at the fourth column tile. -/
def run4 (c1 : ¬k0_cond1 i = 1#1) (c2 : ¬k0_cond2 i = 1#1) (c3 : ¬k0_cond3 i = 1#1) (c4 : k0_cond4 i = 1#1) (w : Vec F S1x2048x1792 .bf16) (h : Vec F S1024x2048 .bf16) :
    { L : List (View.Piece (Elt F) S1024x1792 .bf16) // Spec c i a2 h2 a3 h3 a4 h4 a5 h5 a6 h6 a7 h7 a8 h8 a9 h9 a10 h10 w h L } := by
  refine ⟨?_, fun E K => ?run⟩
  case run =>
    simp only [cc0_norm_inproj_eq_skeleton]; unfold cc0_norm_inproj_skel
    simp only [k0_part8_eq_skeleton, k0_part9_eq_skeleton, dif_neg c1, dif_neg c2, dif_neg c3, dif_pos c4]
    unfold owns
    iintro ⟨⟨%f6, %hf6, H6⟩, ⟨%d8, %f8, -, H8⟩, ⟨%f10, %hf10, H10⟩, Hk⟩
    obtain rfl := h6.eq_unread hf6; obtain rfl := h10.eq_unread hf10
    sl_exec
    sl_step
    iapply Hk
    isplitl [H6]
    · iexists _; isplitr; · ipureintro; exact h6.read_unread _
      iexact H6
    isplitl [H8]; · iexists _; iexact H8
    iexists _; isplitr; · ipureintro; exact h10.read_unread _
    iexact H10

/-- What the body does at a row block's first point: it norms and modulates the rows into the scratch, multiplies them by the decay weights, and stores the output's first tiles. -/
abbrev Spec1 (x : Vec F S1024x2048 .f32) (sh : Vec F S1x1x2048 .f32) (sc : Vec F S1x1x2048 .f32) (g : Vec F S1x2048 .f32) (w : Vec F S1x2048x1792 .bf16) (wf : Vec F S2048x128 .bf16)
    (L : List (View.Piece (Elt F) S1024x1792 .bf16)) (Lf : List (View.Piece (Elt F) S1024x128 .f32)) (Lh : List (View.Piece (Elt F) S1024x2048 .bf16)) : Prop :=
  ∀ (E : Set ℕ) (K : PUnit → sProp 𝕄),
    iprop(owns (c : Thread nD τ) a2 fullShare x ∗ owns (c : Thread nD τ) a3 fullShare sh ∗ owns (c : Thread nD τ) a4 fullShare sc ∗ owns (c : Thread nD τ) a5 fullShare g ∗ owns (c : Thread nD τ) a6 fullShare w ∗ owns (c : Thread nD τ) a7 fullShare wf ∗ (∃ d, owns (c : Thread nD τ) a8 fullShare d) ∗ (∃ d, owns (c : Thread nD τ) a9 fullShare d) ∗ (∃ d, owns (c : Thread nD τ) a10 fullShare d)
        ∗ (iprop(owns (c : Thread nD τ) a2 fullShare x ∗ owns (c : Thread nD τ) a3 fullShare sh ∗ owns (c : Thread nD τ) a4 fullShare sc ∗ owns (c : Thread nD τ) a5 fullShare g ∗ owns (c : Thread nD τ) a6 fullShare w ∗ owns (c : Thread nD τ) a7 fullShare wf ∗ (∃ f, a8.view.loc (c : Thread nD τ) ↦[a8.view.set]{fullShare} a8.view.writes (Elt F) f L) ∗ (∃ f, a9.view.loc (c : Thread nD τ) ↦[a9.view.set]{fullShare} a9.view.writes (Elt F) f Lf)
          ∗ (∃ f, a10.view.loc (c : Thread nD τ) ↦[a10.view.set]{fullShare} a10.view.writes (Elt F) f Lh)) -∗ K ⟨⟩))
      ⊢ wp frame (wpE (defs₀ (F := F)) Variants.none c none) E (cc0_norm_inproj i a2 h2 a3 h3 a4 h4 a5 h5 a6 h6 a7 h7 a8 h8 a9 h9 a10 h10) K

set_option maxHeartbeats 1000000 in
/-- The run at the first column tile. -/
def run1 (c1 : k0_cond1 i = 1#1) (c2 : ¬k0_cond2 i = 1#1) (c3 : ¬k0_cond3 i = 1#1) (c4 : ¬k0_cond4 i = 1#1)
    (x : Vec F S1024x2048 .f32) (sh : Vec F S1x1x2048 .f32) (sc : Vec F S1x1x2048 .f32) (g : Vec F S1x2048 .f32) (w : Vec F S1x2048x1792 .bf16) (wf : Vec F S2048x128 .bf16) :
    Σ' (L : List (View.Piece (Elt F) S1024x1792 .bf16)) (Lf : List (View.Piece (Elt F) S1024x128 .f32)), { Lh : List (View.Piece (Elt F) S1024x2048 .bf16) //
      Spec1 c i a2 h2 a3 h3 a4 h4 a5 h5 a6 h6 a7 h7 a8 h8 a9 h9 a10 h10 x sh sc g w wf L Lf Lh } := by
  refine ⟨?_, ?_, ?_, fun E K => ?run⟩
  case run =>
    simp only [cc0_norm_inproj_eq_skeleton]; unfold cc0_norm_inproj_skel
    simp only [k0_part1_eq_skeleton, k0_part2_eq_skeleton, k0_part3_eq_skeleton, k0_part4_eq_skeleton, dif_pos c1, dif_neg c2, dif_neg c3, dif_neg c4]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
    obtain rfl := h2.eq_unread hf2; obtain rfl := h3.eq_unread hf3; obtain rfl := h4.eq_unread hf4; obtain rfl := h5.eq_unread hf5; obtain rfl := h6.eq_unread hf6; obtain rfl := h7.eq_unread hf7
    sl_exec
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]; · iexists _; iexact H8
    isplitl [H9]; · iexists _; iexact H9
    iexists _; iexact H10

end Cert.Kernel3Ideal.Run

end
-- ==== Proof.InFrame.lean ====
/- The in-projection's frame: the contents of the scratch carried from one grid point to the next, and the run they give. -/
module

public import proofs.«01_k».proof.Proof.InRun
public import Idealize.ShloMosaic.Lib.Pipeline.TableIdle
public import Idealize.ShloMosaic.Lib.Pipeline.ValueKit

@[expose] public section

set_option maxRecDepth 16384

noncomputable section

namespace Cert.Kernel3Ideal.Hand

open Cert.Kernel3Ideal Cert.Kernel3Ideal.Gen Cert.Kernel3Ideal.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The scratch, whole. -/
abbrev scM : Memref sig .tc .vmem S1024x2048 .bf16 := Memref.whole cc0_scratch0

theorem cond1 : ∀ t : Fin cfg0.N, k0_cond1 (grid0.coords t) = 1#1 ↔ t.val % 4 = 0 := by decide +kernel
theorem cond2 : ∀ t : Fin cfg0.N, k0_cond2 (grid0.coords t) = 1#1 ↔ t.val % 4 = 1 := by decide +kernel
theorem cond3 : ∀ t : Fin cfg0.N, k0_cond3 (grid0.coords t) = 1#1 ↔ t.val % 4 = 2 := by decide +kernel
theorem cond4 : ∀ t : Fin cfg0.N, k0_cond4 (grid0.coords t) = 1#1 ↔ t.val % 4 = 3 := by decide +kernel
theorem idle6 : ∀ t : Fin cfg0.N, cfg0.idle 6 (cfg0.grid.coords t) = false := by decide +kernel
theorem idle7 : ∀ t : Fin cfg0.N, cfg0.idle 7 (cfg0.grid.coords t) = !decide (t.val % 4 = 0) := by decide +kernel
theorem fresh7 : ∀ t : Fin cfg0.N, cfg0.fresh 7 t.val = decide (t.val % 4 = 0) := by decide +kernel

/-- The first point of the row block of point `n`. -/
def row (n : ℕ) : Fin cfg0.N := ⟨n / 4 % 16 * 4, by show _ < 64; omega⟩

theorem row_first (t : Fin cfg0.N) (h : t.val % 4 = 0) : row t.val = t := by
  have := t.isLt; have e : cfg0.N = 64 := N_0
  exact Fin.ext (show t.val / 4 % 16 * 4 = t.val by omega)

theorem row_pred {n n' : ℕ} (h : n / 4 = n' / 4) : row n = row n' := by unfold row; simp only [h]

/-- The normed and modulated rows of a row block, as the scratch holds them. -/
def hAt (c : Dev nD) (t : Fin cfg0.N) : Vec F S1024x2048 .bf16 := k0_pay9 (iblk m c 0 t) (iblk m c 3 t) (iblk m c 2 t) (iblk m c 1 t)

/-- The decay logits of a row block. -/
def fAt (c : Dev nD) (t : Fin cfg0.N) : Vec F S1024x128 .f32 := k0_pay10 (iblk m c 0 t) (iblk m c 3 t) (iblk m c 2 t) (iblk m c 1 t) (iblk m c 5 t)

/-- What the three later runs store, and the first. -/
abbrev L1 (c : Dev nD) (t : Fin cfg0.N) (h : t.val % 4 = 0) :=
  run1 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) scM (Memref.isWhole_whole _) ((cond1 t).2 h) (fun e => by have := (cond2 t).1 e; omega) (fun e => by have := (cond3 t).1 e; omega) (fun e => by have := (cond4 t).1 e; omega)
    (iblk m c 0 t) (iblk m c 1 t) (iblk m c 2 t) (iblk m c 3 t) (X0_4 m c t) (iblk m c 5 t)
abbrev L2 (c : Dev nD) (t : Fin cfg0.N) (h : t.val % 4 = 1) :=
  run2 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) scM (Memref.isWhole_whole _) (fun e => by have := (cond1 t).1 e; omega) ((cond2 t).2 h) (fun e => by have := (cond3 t).1 e; omega) (fun e => by have := (cond4 t).1 e; omega) (X0_4 m c t) (hAt m c (row t.val))
abbrev L3 (c : Dev nD) (t : Fin cfg0.N) (h : t.val % 4 = 2) :=
  run3 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) scM (Memref.isWhole_whole _) (fun e => by have := (cond1 t).1 e; omega) (fun e => by have := (cond2 t).1 e; omega) ((cond3 t).2 h) (fun e => by have := (cond4 t).1 e; omega) (X0_4 m c t) (hAt m c (row t.val))
abbrev L4 (c : Dev nD) (t : Fin cfg0.N) (h : t.val % 4 = 3) :=
  run4 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) scM (Memref.isWhole_whole _) (fun e => by have := (cond1 t).1 e; omega) (fun e => by have := (cond2 t).1 e; omega) (fun e => by have := (cond3 t).1 e; omega) ((cond4 t).2 h) (X0_4 m c t) (hAt m c (row t.val))

theorem cover1 (c : Dev nD) (t : Fin cfg0.N) (h : t.val % 4 = 0) : ∀ y, ∃ p ∈ (L1 m c t h).1, y ∈ p.1.set := View.cover_of_tiledL _ S1024x256.size (by sl_kernel_rfl)
theorem cover1f (c : Dev nD) (t : Fin cfg0.N) (h : t.val % 4 = 0) : ∀ y, ∃ p ∈ (L1 m c t h).2.1, y ∈ p.1.set := View.cover_of_tiledL _ S1024x128.size (by sl_kernel_rfl)
theorem cover1h (c : Dev nD) (t : Fin cfg0.N) (h : t.val % 4 = 0) : ∀ y, ∃ p ∈ (L1 m c t h).2.2.1, y ∈ p.1.set := View.cover_of_tiledL _ S1024x2048.size (by sl_kernel_rfl)
theorem cover2 (c : Dev nD) (t : Fin cfg0.N) (h : t.val % 4 = 1) : ∀ y, ∃ p ∈ (L2 m c t h).1, y ∈ p.1.set := View.cover_of_tiledL _ S1024x256.size (by sl_kernel_rfl)
theorem cover3 (c : Dev nD) (t : Fin cfg0.N) (h : t.val % 4 = 2) : ∀ y, ∃ p ∈ (L3 m c t h).1, y ∈ p.1.set := View.cover_of_tiledL _ S1024x256.size (by sl_kernel_rfl)
theorem cover4 (c : Dev nD) (t : Fin cfg0.N) (h : t.val % 4 = 3) : ∀ y, ∃ p ∈ (L4 m c t h).1, y ∈ p.1.set := View.cover_of_tiledL _ S1024x256.size (by sl_kernel_rfl)

/-- The first run leaves the normed rows in the scratch, and the decay logits. -/
theorem canon1h (c : Dev nD) (t : Fin cfg0.N) (h : t.val % 4 = 0) : View.canon (L1 m c t h).2.2.1 = hAt m c t := by
  unfold L1 hAt
  frame_open
  simp (disch := decide) only [View.canon_cons_unit_lit', View.readAt_eq_ld, View.ld_unit_lit', Memref.IsWhole.read_unread]
  rfl
theorem canon1f (c : Dev nD) (t : Fin cfg0.N) (h : t.val % 4 = 0) : View.canon (L1 m c t h).2.1 = fAt m c t := by
  unfold L1 fAt
  frame_open
  simp (disch := decide) only [View.canon_cons_unit_lit', View.readAt_eq_ld, View.ld_unit_lit', Memref.IsWhole.read_unread]
  rfl

/-- The output's block at a point. -/
def zAt (c : Dev nD) (t : Fin cfg0.N) : Vec F S1024x1792 .bf16 :=
  if h : t.val % 4 = 0 then View.canon (L1 m c t h).1
  else if h : t.val % 4 = 1 then View.canon (L2 m c t h).1
  else if h : t.val % 4 = 2 then View.canon (L3 m c t h).1
  else View.canon (L4 m c t (by omega)).1

/-- The scratch between points: anything before a row block's first point, then the row block's normed rows. -/
def scr (c : Dev nD) (n : ℕ) : sProp 𝕄 :=
  if n % 4 = 0 then iprop(∃ d, owns (c : Thread nD τ) scM fullShare d) else owns (c : Thread nD τ) scM fullShare (hAt m c (row n))

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => X0_4 m c t
    | ⟨5, _⟩ => iblk m c 5 t
    | ⟨6, _⟩ => zAt m c t
    | ⟨7, _⟩ => fAt m c (row t.val)
  Φ n := iprop(scr m c n.val ∗ (∃ r, prngReg c r))
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = X0_4 m c t := by dsimp only [dats]
theorem after_5 (c : Dev nD) (t : Fin cfg0.N) : (dats m 0 c).after 5 t = iblk m c 5 t := by dsimp only [dats]
theorem after_6 (c : Dev nD) (t : Fin cfg0.N) : (dats m 0 c).after 6 t = zAt m c t := by dsimp only [dats]
theorem after_7 (c : Dev nD) (t : Fin cfg0.N) : (dats m 0 c).after 7 t = fAt m c (row t.val) := by dsimp only [dats]
theorem phi (c : Dev nD) (n : Fin (cfg0.N + 1)) : (dats m 0 c).Φ n = iprop(scr m c n.val ∗ (∃ r, prngReg c r)) := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = X0_4 m c t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d

/-- Past a row block's first point the logits' buffer holds what that point stored. -/
theorem before_7 (c : Dev nD) (t : Fin cfg0.N) (h : t.val % 4 ≠ 0) (d) : (dats m 0 c).before 7 t d = fAt m c (row t.val) := by
  rw [(dats m 0 c).before_out_traj 7 rfl (fun _ _ => rfl) (fun t ht hi hf => ?_) t.val t rfl d, fresh7 t, if_neg (by simp [h]), after_7]
  · exact congrArg _ (row_pred (by simp only; omega))
  · rw [fresh7 t] at hf
    have h4 : t.val % 4 ≠ 0 := by simpa using hf
    rw [after_7, after_7]
    exact congrArg _ (row_pred (by simp only; omega))

/-- What the body is called with at a point, -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)))

/-- and what it returns, with `P` for the logits' buffer. -/
def bodyPost (c : Dev nD) (t : Fin cfg0.N) (P : sProp 𝕄) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ P)

set_option maxHeartbeats 1200000 in
/-- The body at a row block's first point. -/
theorem sound_first (c : Dev nD) (t : Fin cfg0.N) (h : t.val % 4 = 0) :
    bodyPre m c t ⊢ wp frame (wpE (defs₀ (F := F)) Variants.none c none) Set.univ (bodyAt0 t) (fun _ => bodyPost m c t (owns (c : Thread nD τ) (st0_7 t) fullShare ((dats m 0 c).after 7 t))) := by
  unfold bodyPre bodyPost bodyAt0
  simp only [before_0, before_1, before_2, before_3, before_4, before_5]
  rw [phi, phi, show (dats m 0 c).owesAt () t.succ = (dats m 0 c).owesAt () t.castSucc from rfl,
    after_0, after_1, after_2, after_3, after_4, after_5, after_6, after_7]
  have ez : zAt m c t = View.canon (L1 m c t h).1 := by unfold zAt; rw [dif_pos h]
  have e0 : scr m c t.castSucc.val = iprop(∃ d, owns (c : Thread nD τ) scM fullShare d) := by unfold scr; exact if_pos h
  have e1 : scr m c t.succ.val = owns (c : Thread nD τ) scM fullShare (hAt m c t) := by
    unfold scr
    rw [if_neg (by simp only [Fin.val_succ]; omega), row_pred (n' := t.val) (by simp only [Fin.val_succ]; omega), row_first t h]
  rw [ez, e0, e1, row_first t h, ← canon1h m c t h, ← canon1f m c t h]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((L1 m c t h).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS]; · iexact HS
  iintro ⟨H0, H1, H2, H3, H4, H5, ⟨%e6, H6⟩, ⟨%e7, H7⟩, ⟨%eS, HS⟩⟩
  isplitl [HS Hg]
  · isplitl [HS]
    · unfold owns; iexists _; isplitr
      swap; · iexact HS
      ipureintro; exact View.read_writes_eq_canon _ _ _ (cover1h m c t h)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_eq_canon _ _ _ (cover1 m c t h)
  unfold owns; iexists _; isplitr
  swap; · iexact H7
  ipureintro; exact View.read_writes_eq_canon _ _ _ (cover1f m c t h)

/-- The three later points store what the output's block is said to hold. -/
theorem rest (c : Dev nD) (t : Fin cfg0.N) (h : t.val % 4 ≠ 0) :
    ∃ L : List (View.Piece (Elt F) S1024x1792 .bf16), (∀ y, ∃ p ∈ L, y ∈ p.1.set) ∧ zAt m c t = View.canon L
      ∧ Spec c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) scM (Memref.isWhole_whole _) (X0_4 m c t) (hAt m c (row t.val)) L := by
  unfold zAt
  rw [dif_neg h]
  by_cases h1 : t.val % 4 = 1
  · rw [dif_pos h1]; exact ⟨_, cover2 m c t h1, rfl, (L2 m c t h1).2⟩
  rw [dif_neg h1]
  by_cases h2 : t.val % 4 = 2
  · rw [dif_pos h2]; exact ⟨_, cover3 m c t h2, rfl, (L3 m c t h2).2⟩
  rw [dif_neg h2]
  exact ⟨_, cover4 m c t (by omega), rfl, (L4 m c t (by omega)).2⟩

set_option maxHeartbeats 1200000 in
/-- The body at a later point. -/
theorem sound_rest (c : Dev nD) (t : Fin cfg0.N) (h : t.val % 4 ≠ 0) (P : sProp 𝕄) (hP : iprop(∃ d, owns (c : Thread nD τ) (st0_7 t) fullShare ((dats m 0 c).before 7 t d)) ⊢ P) :
    bodyPre m c t ⊢ wp frame (wpE (defs₀ (F := F)) Variants.none c none) Set.univ (bodyAt0 t) (fun _ => bodyPost m c t P) := by
  obtain ⟨L, hc, hz, run⟩ := rest m c t h
  unfold bodyPre bodyPost bodyAt0
  simp only [before_0, before_1, before_2, before_3, before_4, before_5]
  rw [phi, phi, show (dats m 0 c).owesAt () t.succ = (dats m 0 c).owesAt () t.castSucc from rfl,
    after_0, after_1, after_2, after_3, after_4, after_5, after_6, hz]
  have e0 : scr m c t.castSucc.val = owns (c : Thread nD τ) scM fullShare (hAt m c (row t.val)) := by unfold scr; exact if_neg h
  have e1 : owns (c : Thread nD τ) scM fullShare (hAt m c (row t.val)) ⊢ scr m c t.succ.val := by
    unfold scr
    by_cases h3 : t.val % 4 = 3
    · rw [if_pos (by simp only [Fin.val_succ]; omega)]
      iintro H; iexists _; iexact H
    · rw [if_neg (by simp only [Fin.val_succ]; omega), row_pred (n := t.succ.val) (n' := t.val) (by simp only [Fin.val_succ]; omega)]
  rw [e0]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, H7⟩
  iapply (run Set.univ _)
  isplitl [H4]; · iexact H4
  isplitl [H6]; · iexists _; iexact H6
  isplitl [HS]; · iexact HS
  iintro ⟨H4, ⟨%e6, H6⟩, HS⟩
  isplitl [HS Hg]
  · isplitl [HS]
    · iapply e1; iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_eq_canon _ _ _ hc
  iapply hP; iexact H7

/-- The body table's row at a point is the body. -/
theorem defs₀_row (t : Fin cfg0.N) : defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  rewrite [idle6 t, idle7 t]
  by_cases h : t.val % 4 = 0
  · rewrite [decide_eq_true h]
    exact triple_restated (sound_first m c t h) rfl .rfl fun _ => .rfl
  rewrite [decide_eq_false h]
  by_cases h3 : t.val % 4 = 3
  · rewrite [(flush0_7 t).2 h3]
    refine triple_restated (sound_rest m c t h (owns (c : Thread nD τ) (st0_7 t) fullShare ((dats m 0 c).after 7 t)) ?_) rfl .rfl fun _ => .rfl
    rw [after_7]
    iintro ⟨%d, H⟩
    rw [before_7 m c t h d]
    iexact H
  · rewrite [show (cfg0.win 7).flush t = false from by rw [← Bool.not_eq_true, flush0_7]; exact h3]
    exact triple_restated (sound_rest m c t h _ .rfl) rfl .rfl fun _ => .rfl

/-- The scoped rest is the scratch. -/
theorem phiA (c : Dev nD) : (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

set_option backward.isDefEq.respectTransparency.types false in
/-- The launch: it ends with every array of the pipeline at what the proof data say, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by rw [phiA, phi]; exact .rfl) (hout := fun c => by rw [phiA, phi]; exact .rfl)

theorem run_main : θ_run defs (onTc (τ := τ) (main (F := F))) (s₀ m ρ) (Pipeline.FramePost cfgs (dats m) 0 (V m)) :=
  (θ_run defs _ _).mono (fun _ h => h.1) (run_main_quiescent m ρ)

/-- The program runs, its arguments end unchanged, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Kernel3Ideal.Hand

end
-- ==== Proof.InTile.lean ====
/- The in-projection's tiles: the normed rows, one product, and the four ways a product's entries leave the kernel. -/
module

public import proofs.«01_k».proof.Proof.Gate

@[expose] public section

set_option maxRecDepth 16384

noncomputable section

namespace Cert.InTile

open Idealize.ShloMosaic Idealize.ShloMosaic.TcCoe Idealize.SL.Sem Idealize.ShloMosaic.Pointwise Cert.Tile Cert.Gate

section Defs
variable {F : FTy → Type} [FloatOps F]

/-- A block of rows, normed and modulated. -/
def normed (x : FVec F (Mat 1024 2048) .f32) (g : FVec F (Mat 1 2048) .f32) (sc sh : FVec F (Cub 1 1 2048) .f32)
    (h0 : (Mat 1024 2048).ShapeCasts (Mat 1024 2048)) (h1 : (Mat 1024 2048).Reduces [1] ⟨1, ![1024]⟩) (h2 : Shape.ShapeCasts ⟨1, ![1024]⟩ (Mat 1024 1)) (h3 : (Mat 1024 1).Broadcasts (Mat 1024 2048))
    (h4 : (Mat 1 2048).ShapeCasts (Mat 1 2048)) (h5 : (Mat 1 2048).Broadcasts (Mat 1024 2048)) (h6 : (Cub 1 1 2048).ShapeCasts (Mat 1 2048)) : FVec F (Mat 1024 2048) .f32 :=
  addf (mulf (mulf (mulf (shapeCast (Mat 1024 2048) x h0)
      (broadcastTo (Mat 1024 2048) (rsqrt (addf (divf (shapeCast (Mat 1024 1) (multiReduction .add [1] ⟨1, ![1024]⟩ (mulf (shapeCast (Mat 1024 2048) x h0) (shapeCast (Mat 1024 2048) x h0)) 0x00000000#32 h1 (.inl rfl) rfl) h2)
        (broadcast (Mat 1024 1) (Scalar.ofBits .f32 0x45000000#32))) (broadcast (Mat 1024 1) (Scalar.ofBits .f32 0x358637BD#32)))) h3))
      (broadcastTo (Mat 1024 2048) (shapeCast (Mat 1 2048) g h4) h5))
      (broadcastTo (Mat 1024 2048) (addf (broadcast (Mat 1 2048) (Scalar.ofBits .f32 0x3F800000#32)) (shapeCast (Mat 1 2048) sc h6)) h5))
    (broadcastTo (Mat 1024 2048) (shapeCast (Mat 1 2048) sh h6) h5)

/-- A block of rows times a block of columns. -/
def prod {n : ℕ} (h : FVec F (Mat 1024 2048) .bf16) (w : FVec F (Mat 2048 n) .bf16) : FVec F (Mat 1024 n) .f32 :=
  matmul (DotDims.plain 1024 2048 n) none h w (constant (Mat 1024 n) .f32 0x00000000#32)

/-- The exact GELU of a tile, with the reciprocal of the square root of two in `v`. -/
def geluTile (v : F .f32) (z : FVec F (Mat 1024 256) .f32) : FVec F (Mat 1024 256) .f32 :=
  mulf (mulf (broadcast (Mat 1024 256) (Scalar.ofBits .f32 0x3F000000#32)) z) (addf (broadcast (Mat 1024 256) (Scalar.ofBits .f32 0x3F800000#32)) (erf (mulf z (broadcast (Mat 1024 256) v))))

/-- The SiLU of a tile. -/
def siluTile (z : FVec F (Mat 1024 256) .f32) : FVec F (Mat 1024 256) .f32 :=
  divf z (addf (broadcast (Mat 1024 256) (Scalar.ofBits .f32 0x3F800000#32)) (exp (subf (broadcast (Mat 1024 256) (Scalar.ofBits .f32 0x00000000#32)) z)))

/-- A tile times the number `v`. -/
def scaledTile (v : F .f32) (z : FVec F (Mat 1024 256) .f32) : FVec F (Mat 1024 256) .f32 := mulf z (broadcast (Mat 1024 256) v)

end Defs

/-- The exact GELU of one number. -/
def gelu (v x : EReal) : EReal := Ideal.ofBits .f32 0x3F000000#32 * x * (Ideal.ofBits .f32 0x3F800000#32 + Ideal.erf (x * v))

/-- The SiLU of one number. -/
def silu (x : EReal) : EReal := Ideal.div x (Ideal.ofBits .f32 0x3F800000#32 + Ideal.exp (0 - x))

/-- One row's entry, normed and modulated. -/
def modNorm (x g sc sh : Fin 2048 → EReal) (d : Fin 2048) : EReal := rmsNorm x g d * (Ideal.ofBits .f32 0x3F800000#32 + sc d) + sh d

/-- How entry `n` of a projected row leaves the kernel: `v` is the GELU's constant, `q` the queries' scale. -/
def act (v q : EReal) (n : ℕ) (x : EReal) : EReal :=
  if n < 2048 then gelu v x else if n < 3072 then silu x else if n < 4096 then x * q else if n < 6144 then x else silu x

theorem normed_apply (x : FVec Ideal (Mat 1024 2048) .f32) (g : FVec Ideal (Mat 1 2048) .f32) (sc sh : FVec Ideal (Cub 1 1 2048) .f32) (h0 h1 h2 h3 h4 h5 h6) (i : Fin 1024) (d : Fin 2048) :
    normed (F := Ideal) x g sc sh h0 h1 h2 h3 h4 h5 h6 (ix2 i d) = modNorm (fun k => x (ix2 i k)) (fun k => g (ix2 0 k)) (fun k => sc (ix3 0 0 k)) (fun k => sh (ix3 0 0 k)) d := by
  pointwise [normed, modNorm, rmsNorm, mean, eps]

theorem prod_apply {n : ℕ} (h : FVec Ideal (Mat 1024 2048) .bf16) (w : FVec Ideal (Mat 2048 n) .bf16) (i : Fin 1024) (j : Fin n) :
    prod (F := Ideal) h w (ix2 i j) = ∑ d : Fin 2048, h (ix2 i d) * w (ix2 d j) := by
  rw [prod, ix2_eq_valueIdx]
  refine (Ideal.matmul_plain_apply _ _ _ _ i j).trans ?_
  have h0 : constant (F := Ideal) (Mat 1024 n) .f32 0x00000000#32 (ix2 i j) = 0 := by pointwise
  simp only [← ix2_eq_valueIdx]
  rw [h0, zero_add]

theorem geluTile_apply (v : Ideal .f32) (z : FVec Ideal (Mat 1024 256) .f32) (y : (Mat 1024 256).Idx) : geluTile (F := Ideal) v z y = gelu v (z y) := by
  pointwise [geluTile, gelu]
  rfl

theorem siluTile_apply (z : FVec Ideal (Mat 1024 256) .f32) (y : (Mat 1024 256).Idx) : siluTile (F := Ideal) z y = silu (z y) := by
  pointwise [siluTile, silu]

theorem scaledTile_apply (v : Ideal .f32) (z : FVec Ideal (Mat 1024 256) .f32) (y : (Mat 1024 256).Idx) : scaledTile (F := Ideal) v z y = z y * v := by
  pointwise [scaledTile]

end Cert.InTile

end
-- ==== Proof.InBody.lean ====
/- The in-projection's body: what one grid point stores in its output blocks, from its input blocks. -/
module

public import proofs.«01_k».proof.Proof.InFrame
public import proofs.«01_k».proof.Proof.InTile
public import proofs.«01_k».proof.Proof.Stores

@[expose] public section

set_option maxRecDepth 16384

noncomputable section

namespace Cert.Kernel3Ideal.Hand

open Cert.Kernel3Ideal Cert.Kernel3Ideal.Gen Cert.Kernel3Ideal.Run Idealize.ShloMosaic Idealize.ShloMosaic.TcCoe Idealize.ShloMosaic.Tactic Idealize.SL.Sem Idealize.ShloMosaic.Pointwise Cert.Tile Cert.Stores Cert.InTile Cert.Gate

/-- The reciprocal of the square root of two, and the queries' scale, as the kernel's constants name them. -/
abbrev invSqrt2 : EReal := Named.named (F := Ideal) κ (φ := .f32) "inv_sqrt2" 0x3F3504F3#32
abbrev qScale : EReal := Named.named (F := Ideal) κ (φ := .f32) "q_scale" 0x3E38AA3B#32

variable (m : (ℓ : Loc nD τ sig) → Buf (Elt Ideal) ℓ)

theorem hAt_eq (c : Dev nD) (t : Fin cfg0.N) : hAt m c t = k0_pay8 (iblk m c 0 t) (iblk m c 3 t) (iblk m c 2 t) (iblk m c 1 t) := by
  unfold hAt k0_pay9
  exact shapeCast_id _ _

theorem hAt_apply (c : Dev nD) (t : Fin cfg0.N) (i : Fin 1024) (d : Fin 2048) :
    hAt m c t (ix2 i d) = modNorm (fun k => (iblk m c 0 t : (Mat 1024 2048).Idx → EReal) (ix2 i k)) (fun k => (iblk m c 3 t : (Mat 1 2048).Idx → EReal) (ix2 0 k))
      (fun k => (iblk m c 2 t : (Cub 1 1 2048).Idx → EReal) (ix3 0 0 k)) (fun k => (iblk m c 1 t : (Cub 1 1 2048).Idx → EReal) (ix3 0 0 k)) d := by
  refine Eq.trans ?_ (normed_apply _ _ _ _ shapeCasts_S1024x2048_S1024x2048 reduces_S1024x2048_S1024 shapeCasts_S1024_S1024x1 broadcasts_S1024x1_S1024x2048 shapeCasts_S1x2048_S1x2048 broadcasts_S1x2048_S1024x2048 shapeCasts_S1x1x2048_S1x2048 i d)
  rw [hAt_eq]
  rfl

theorem fAt_apply (c : Dev nD) (t : Fin cfg0.N) (i : Fin 1024) (j : Fin 128) :
    fAt m c t (ix2 i j) = ∑ d : Fin 2048, hAt m c t (ix2 i d) * (iblk m c 5 t : (Mat 2048 128).Idx → EReal) (ix2 d j) := by
  rw [hAt_eq]
  refine Eq.trans ?_ (prod_apply (k0_pay8 (F := Ideal) _ _ _ _) _ i j)
  unfold fAt k0_pay10
  rw [shapeCast_id]
  rfl

/-- The entries of a point's output block: column `n0 + j` of the projected rows. -/
def zEntry (n0 : ℕ) (h : (Mat 1024 2048).Idx → EReal) (w : (Cub 1 2048 1792).Idx → EReal) (y : (Mat 1024 1792).Idx) : EReal :=
  act invSqrt2 qScale (n0 + (y 1).val) (∑ d : Fin 2048, h (ix2 (y 0) d) * w (ix3 0 d (y 1)))

/-- A stored tile holds the output's entries: `A` is how the tile's columns leave the kernel. -/
theorem tile {n0 k : ℕ} {H h' : (Mat 1024 2048).Idx → EReal} {W : (Cub 1 2048 1792).Idx → EReal} {w' : (Cub 1 2048 256).Idx → EReal} {w : (Mat 1024 256).Idx → EReal} (A : EReal → EReal)
    (off : Fin 2 → ℕ) (inb : ∀ i, off i + (Mat 1024 256).size i ≤ (Mat 1024 1792).size i) (ho : off = ![0, k]) (hk : k + 256 ≤ 1792)
    (hh : ∀ i d, h' (ix2 i d) = H (ix2 i d)) (hW : ∀ (d : Fin 2048) (j : Fin 256), w' (ix3 0 d j) = W (ix3 0 d ⟨k + j, by omega⟩)) {hc : (Cub 1 2048 256).ShapeCasts (Mat 2048 256)}
    (hw : ∀ y, w y = A (prod (F := Ideal) h' (shapeCast (Mat 2048 256) w' hc) y)) (hA : ∀ j, j < 256 → act invSqrt2 qScale (n0 + (k + j)) = A)
    (j : (Rect.unit (s := Mat 1024 1792) off (Mat 1024 256).size inb).shape.Idx) :
    w j = zEntry n0 H W ((Rect.unit (s := Mat 1024 1792) off (Mat 1024 256).size inb).emb j) := by
  refine piece2 (A := zEntry n0 H W) off inb ho (by omega) hk (fun r q => ?_) j
  rw [hw, prod_apply]
  unfold zEntry
  refine (congrFun (hA q.val q.isLt).symm _).trans (congrArg _ (Finset.sum_congr rfl fun d _ => congrArg₂ (· * ·) ((hh r d).trans (congrArg H ?_)) ((shapeCast_drop w' hc d q).trans (hW d q))))
  exact congrArg₂ ix2 (Fin.ext (by simp)) rfl

theorem act_gelu {n : ℕ} (h : n < 2048) : act invSqrt2 qScale n = gelu invSqrt2 := by funext x; unfold act; rw [if_pos h]
theorem act_silu {n : ℕ} (h : 2048 ≤ n ∧ n < 3072 ∨ 6144 ≤ n) : act invSqrt2 qScale n = silu := by
  funext x; unfold act
  rcases h with h | h
  · rw [if_neg (by omega), if_pos (by omega)]
  · rw [if_neg (by omega), if_neg (by omega), if_neg (by omega), if_neg (by omega)]
theorem act_scaled {n : ℕ} (h : 3072 ≤ n ∧ n < 4096) : act invSqrt2 qScale n = fun x => x * qScale := by
  funext x; unfold act; rw [if_neg (by omega), if_neg (by omega), if_pos (by omega)]
theorem act_plain {n : ℕ} (h : 4096 ≤ n ∧ n < 6144) : act invSqrt2 qScale n = fun x => x := by
  funext x; unfold act; rw [if_neg (by omega), if_neg (by omega), if_neg (by omega), if_pos (by omega)]

/-! The block at each of a row block's four points. -/

theorem z1 (c : Dev nD) (t : Fin cfg0.N) (h : t.val % 4 = 0) : View.canon (L1 m c t h).1 = zEntry 0 (hAt m c t) (X0_4 m c t) := by
  refine canon_of ?_ (cover1 m c t h)
  unfold L1
  frame_open
  iterate 7
    apply pieces_cons
    · first
        | exact tile (gelu invSqrt2) _ _ rfl (by decide) (fun i d => (read_block2 _ _ rfl _ i d (i' := i) (j' := d) (by simp) (by simp)).trans (congrFun (canon1h m c t h) _)) (fun d j => read3 _ _ _ 0 d j rfl (by simp) (by simp) (by simp)) (hc := shapeCasts_S1x2048x256_S2048x256) (fun y => geluTile_apply invSqrt2 _ y) (fun j hj => act_gelu (by omega))
  exact trivial

theorem z2 (c : Dev nD) (t : Fin cfg0.N) (h : t.val % 4 = 1) : View.canon (L2 m c t h).1 = zEntry 1792 (hAt m c (row t.val)) (X0_4 m c t) := by
  refine canon_of ?_ (cover2 m c t h)
  unfold L2
  frame_open
  iterate 7
    apply pieces_cons
    · first
        | exact tile (gelu invSqrt2) _ _ rfl (by decide) (fun i d => read2 _ _ _ i d rfl (by simp) (by simp)) (fun d j => read3 _ _ _ 0 d j rfl (by simp) (by simp) (by simp)) (hc := shapeCasts_S1x2048x256_S2048x256) (fun y => geluTile_apply invSqrt2 _ y) (fun j hj => act_gelu (by omega))
        | exact tile silu _ _ rfl (by decide) (fun i d => read2 _ _ _ i d rfl (by simp) (by simp)) (fun d j => read3 _ _ _ 0 d j rfl (by simp) (by simp) (by simp)) (hc := shapeCasts_S1x2048x256_S2048x256) (fun y => siluTile_apply _ y) (fun j hj => act_silu (by omega))
        | exact tile (fun x => x * qScale) _ _ rfl (by decide) (fun i d => read2 _ _ _ i d rfl (by simp) (by simp)) (fun d j => read3 _ _ _ 0 d j rfl (by simp) (by simp) (by simp)) (hc := shapeCasts_S1x2048x256_S2048x256) (fun y => scaledTile_apply qScale _ y) (fun j hj => act_scaled (by omega))
  exact trivial

theorem z3 (c : Dev nD) (t : Fin cfg0.N) (h : t.val % 4 = 2) : View.canon (L3 m c t h).1 = zEntry 3584 (hAt m c (row t.val)) (X0_4 m c t) := by
  refine canon_of ?_ (cover3 m c t h)
  unfold L3
  frame_open
  iterate 7
    apply pieces_cons
    · first
        | exact tile (fun x => x * qScale) _ _ rfl (by decide) (fun i d => read2 _ _ _ i d rfl (by simp) (by simp)) (fun d j => read3 _ _ _ 0 d j rfl (by simp) (by simp) (by simp)) (hc := shapeCasts_S1x2048x256_S2048x256) (fun y => scaledTile_apply qScale _ y) (fun j hj => act_scaled (by omega))
        | exact tile (fun x => x) _ _ rfl (by decide) (fun i d => read2 _ _ _ i d rfl (by simp) (by simp)) (fun d j => read3 _ _ _ 0 d j rfl (by simp) (by simp) (by simp)) (hc := shapeCasts_S1x2048x256_S2048x256) (fun y => rfl) (fun j hj => act_plain (by omega))
  exact trivial

theorem z4 (c : Dev nD) (t : Fin cfg0.N) (h : t.val % 4 = 3) : View.canon (L4 m c t h).1 = zEntry 5376 (hAt m c (row t.val)) (X0_4 m c t) := by
  refine canon_of ?_ (cover4 m c t h)
  unfold L4
  frame_open
  iterate 7
    apply pieces_cons
    · first
        | exact tile silu _ _ rfl (by decide) (fun i d => read2 _ _ _ i d rfl (by simp) (by simp)) (fun d j => read3 _ _ _ 0 d j rfl (by simp) (by simp) (by simp)) (hc := shapeCasts_S1x2048x256_S2048x256) (fun y => siluTile_apply _ y) (fun j hj => act_silu (by omega))
        | exact tile (fun x => x) _ _ rfl (by decide) (fun i d => read2 _ _ _ i d rfl (by simp) (by simp)) (fun d j => read3 _ _ _ 0 d j rfl (by simp) (by simp) (by simp)) (hc := shapeCasts_S1x2048x256_S2048x256) (fun y => rfl) (fun j hj => act_plain (by omega))
  exact trivial

/-- A point's output block: column `j` of the point's column tile, from its row block's normed rows. -/
theorem zAt_eq (c : Dev nD) (t : Fin cfg0.N) : zAt m c t = zEntry (1792 * (t.val % 4)) (hAt m c (row t.val)) (X0_4 m c t) := by
  unfold zAt
  split
  · next h => rw [z1 m c t h, row_first t h, h]
  split
  · next h => rw [z2 m c t h, h]
  split
  · next h => rw [z3 m c t h, h]
  · next h0 h1 h2 => have h : t.val % 4 = 3 := by omega
                     rw [z4 m c t h, h]

end Cert.Kernel3Ideal.Hand

end
-- ==== Proof.InArray.lean ====
/- The in-projection's two output arrays as formulas in its argument arrays. -/
module

public import proofs.«01_k».proof.Proof.InBody
public import Idealize.ShloMosaic.Lib.StableHlo.ReadAt

@[expose] public section

set_option maxRecDepth 16384

noncomputable section

namespace Cert.Kernel3Ideal.Hand

open Cert.Kernel3Ideal Cert.Kernel3Ideal.Gen Idealize.ShloMosaic Idealize.ShloMosaic.TcCoe Idealize.SL.Sem Idealize.ShloMosaic.Pointwise Cert.Tile Cert.Stores Cert.InTile Cert.Gate

/-- Row `r` of the activations, normed and modulated. -/
def hRow (x : S4x4096x2048.Idx → EReal) (sh sc : S4x1x2048.Idx → EReal) (g : S2x2048.Idx → EReal) (r : Fin 16384) (d : Fin 2048) : EReal :=
  modNorm (fun k => x (ix3 ⟨r / 4096, by omega⟩ ⟨r % 4096, by omega⟩ k)) (fun k => g (ix2 0 k)) (fun k => sc (ix3 ⟨r / 4096, by omega⟩ 0 k)) (fun k => sh (ix3 ⟨r / 4096, by omega⟩ 0 k)) d

/-- The decay columns of the weights, padded to 128 columns. -/
def decayCol (w : S2x2048x7184.Idx → EReal) (d : Fin 2048) (j : Fin 128) : EReal := if h : j.val < 16 then w (ix3 0 d ⟨7168 + j, by omega⟩) else 0

/-- The projected array. -/
def zArr (x : S4x4096x2048.Idx → EReal) (sh sc : S4x1x2048.Idx → EReal) (g : S2x2048.Idx → EReal) (w : S2x2048x7184.Idx → EReal) (r : Fin 16384) (n : Fin 7168) : EReal :=
  act invSqrt2 qScale n (∑ d : Fin 2048, hRow x sh sc g r d * w (ix3 0 d ⟨n, by omega⟩))

/-- The decay logits. -/
def fArr (x : S4x4096x2048.Idx → EReal) (sh sc : S4x1x2048.Idx → EReal) (g : S2x2048.Idx → EReal) (w : S2x2048x7184.Idx → EReal) (r : Fin 16384) (j : Fin 128) : EReal :=
  ∑ d : Fin 2048, hRow x sh sc g r d * decayCol w d j

variable (m : (ℓ : Loc nD τ sig) → Buf (Elt Ideal) ℓ)

theorem places : ∀ t : Fin cfg0.N, win0_0.index t = ![t.val / 4, 0] ∧ win0_1.index t = ![t.val / 16, 0, 0] ∧ win0_2.index t = ![t.val / 16, 0, 0] ∧ win0_3.index t = ![0, 0]
    ∧ win0_4.index t = ![0, 0, t.val % 4] ∧ win0_5.index t = ![0, 0] ∧ win0_6.index t = ![t.val / 4, t.val % 4] ∧ win0_7.index t = ![t.val / 4, 0] :=
  (by decide +kernel : ∀ t : Fin grid0.N, _)

/-! The arrays the host prepares. -/

theorem host_v0 (c : Dev nD) : V m c main_v0 = fun y : S2x2048x7184.Idx => m ((c : Thread nD τ).loc main_arg4) y := by
  funext y; unfold V; after_reads_at

theorem host_v4 (c : Dev nD) : V m c main_v4 = fun y : (Mat 16384 2048).Idx => m ((c : Thread nD τ).loc main_arg0) (ix3 ⟨(show Fin 16384 from y 0).val / 4096, by have := (show Fin 16384 from y 0).isLt; omega⟩ ⟨(show Fin 16384 from y 0).val % 4096, by omega⟩ (y 1)) := by
  funext y; unfold V; after_reads_at

theorem host_v7 (c : Dev nD) : V m c main_v7 = fun y : (Mat 1 2048).Idx => m ((c : Thread nD τ).loc main_arg3) (ix2 0 (y 1)) := by
  funext y; unfold V; after_reads_at

theorem host_v3 (c : Dev nD) : V m c main_v3 = fun y : (Mat 2048 128).Idx => decayCol (m ((c : Thread nD τ).loc main_arg4)) (y 0) (y 1) := by
  have h0 : (FloatOps.sitofp .bf16 0#32 : Ideal .bf16) = 0 := by show (((0#32 : BitVec 32).toInt : ℝ) : EReal) = 0; simp
  funext y; unfold V; after_reads_at
  rw [h0]
  rfl

/-! The input blocks. -/

section Blocks
variable (c : Dev nD) (t : Fin cfg0.N)

theorem lt_64 : t.val < 64 := t.isLt

/-- Block `t / 4` of 1024 rows of the activations. -/
def xBlock (x : S4x4096x2048.Idx → EReal) (t : Fin 64) (y : (Mat 1024 2048).Idx) : EReal :=
  x (ix3 ⟨(1024 * (t.val / 4) + (show Fin 1024 from y 0).val) / 4096, by have := (show Fin 1024 from y 0).isLt; omega⟩ ⟨(1024 * (t.val / 4) + (show Fin 1024 from y 0).val) % 4096, by omega⟩ (y 1))

theorem in_0 : iblk m c 0 t = xBlock (m ((c : Thread nD τ).loc main_arg0)) t := by
  refine Eq.trans ?_ (funext fun y : (Mat 1024 2048).Idx => (congrFun (host_v4 m c) (ix2 ⟨1024 * (t.val / 4) + (show Fin 1024 from y 0).val, by have := lt_64 t; have := (show Fin 1024 from y 0).isLt; omega⟩ (y 1))).trans rfl)
  funext y; blk_ext [iblk, places t]
theorem in_1 : iblk m c 1 t = fun y : (Cub 1 1 2048).Idx => m ((c : Thread nD τ).loc main_arg1) (ix3 ⟨t / 16, by have := lt_64 t; omega⟩ 0 (y 2)) := by funext y; blk_ext [iblk, V, places t]
theorem in_2 : iblk m c 2 t = fun y : (Cub 1 1 2048).Idx => m ((c : Thread nD τ).loc main_arg2) (ix3 ⟨t / 16, by have := lt_64 t; omega⟩ 0 (y 2)) := by funext y; blk_ext [iblk, V, places t]
theorem in_3 : iblk m c 3 t = fun y : (Mat 1 2048).Idx => m ((c : Thread nD τ).loc main_arg3) (ix2 0 (y 1)) := by rw [← host_v7]; funext y; blk_ext [iblk, places t]
theorem in_5 : iblk m c 5 t = fun y : (Mat 2048 128).Idx => decayCol (m ((c : Thread nD τ).loc main_arg4)) (y 0) (y 1) := by rw [← host_v3]; funext y; blk_ext [iblk, places t]
theorem in_4 : X0_4 m c t = fun y : (Cub 1 2048 1792).Idx => m ((c : Thread nD τ).loc main_arg4) (ix3 0 (y 1) ⟨1792 * (t.val % 4) + (show Fin 1792 from y 2).val, by have := (show Fin 1792 from y 2).isLt; omega⟩) := by
  refine Eq.trans ?_ (funext fun y : (Cub 1 2048 1792).Idx => congrFun (host_v0 m c) (ix3 0 (y 1) ⟨1792 * (t.val % 4) + (show Fin 1792 from y 2).val, by have := (show Fin 1792 from y 2).isLt; omega⟩))
  funext y
  unfold X0_4 Pipeline.Window.fill
  rw [dif_pos (moved0_4 t y)]
  blk_ext [iblk, places t]

end Blocks

/-- The scratch holds its row block's normed rows. -/
theorem hAt_row (c : Dev nD) (t : Fin cfg0.N) (r : Fin 16384) (i : Fin 1024) (d : Fin 2048) (h : r.val = 1024 * (t.val / 4) + i.val) :
    hAt m c (row t.val) (ix2 i d) = hRow (m ((c : Thread nD τ).loc main_arg0)) (m ((c : Thread nD τ).loc main_arg1)) (m ((c : Thread nD τ).loc main_arg2)) (m ((c : Thread nD τ).loc main_arg3)) r d := by
  have ht := lt_64 t
  have e : (row t.val).val = t.val / 4 * 4 := by show t.val / 4 % 16 * 4 = _; omega
  have e1 : (row t.val).val / 4 = t.val / 4 := by omega
  have eb : (row t.val).val / 16 = r.val / 4096 := by omega
  rw [hAt_apply, in_0, in_1, in_2, in_3]
  unfold hRow xBlock
  have e2 : 1024 * ((row t.val).val / 4) + i.val = r.val := by rw [e1, h]
  have g1 : ∀ k : Fin 2048, m ((c : Thread nD τ).loc main_arg0) (ix3 ⟨(1024 * ((row t.val).val / 4) + i.val) / 4096, by omega⟩ ⟨(1024 * ((row t.val).val / 4) + i.val) % 4096, by omega⟩ k)
      = m ((c : Thread nD τ).loc main_arg0) (ix3 ⟨r / 4096, by omega⟩ ⟨r % 4096, by omega⟩ k) := fun k => by simp only [e2]
  have g2 : (⟨(row t.val).val / 16, by omega⟩ : Fin 4) = ⟨r / 4096, by omega⟩ := Fin.ext eb
  refine congrFun (congr (congr (congrArg₂ modNorm (funext g1) rfl) (funext fun k => ?_)) (funext fun k => ?_)) d
  · exact congrArg (fun b => m ((c : Thread nD τ).loc main_arg2) (ix3 b 0 k)) g2
  · exact congrArg (fun b => m ((c : Thread nD τ).loc main_arg1) (ix3 b 0 k)) g2

/-- A block's entries are the projected array's. -/
theorem z_block (c : Dev nD) (t : Fin cfg0.N) (y : (Mat 1024 1792).Idx) (r : Fin 16384) (n : Fin 7168) (h0 : r.val = 1024 * (t.val / 4) + (y 0).val) (h1 : n.val = 1792 * (t.val % 4) + (y 1).val) :
    zEntry (1792 * (t.val % 4)) (hAt m c (row t.val)) (X0_4 m c t) y = zArr (m ((c : Thread nD τ).loc main_arg0)) (m ((c : Thread nD τ).loc main_arg1)) (m ((c : Thread nD τ).loc main_arg2)) (m ((c : Thread nD τ).loc main_arg3)) (m ((c : Thread nD τ).loc main_arg4)) r n := by
  rw [in_4]
  unfold zEntry zArr
  refine congrArg₂ (act invSqrt2 qScale) h1.symm (Finset.sum_congr rfl fun d _ => congrArg₂ (· * ·) (hAt_row m c t r _ d h0) (congrArg (m ((c : Thread nD τ).loc main_arg4)) (congrArg (ix3 0 d) (Fin.ext ?_))))
  exact h1.symm

/-- A block's entries are the decay logits. -/
theorem f_block (c : Dev nD) (t : Fin cfg0.N) (i : Fin 1024) (j : Fin 128) (r : Fin 16384) (h0 : r.val = 1024 * (t.val / 4) + i.val) :
    fAt m c (row t.val) (ix2 i j) = fArr (m ((c : Thread nD τ).loc main_arg0)) (m ((c : Thread nD τ).loc main_arg1)) (m ((c : Thread nD τ).loc main_arg2)) (m ((c : Thread nD τ).loc main_arg3)) (m ((c : Thread nD τ).loc main_arg4)) r j := by
  rw [fAt_apply, in_5]
  unfold fArr
  exact Finset.sum_congr rfl fun d _ => congrArg₂ (· * ·) (hAt_row m c t r _ d h0) rfl

/-- The projected array after the run. -/
theorem arr_z (c : Dev nD) : (dats m 0 c).arrAt 6 cfg0.N = fun y : (Mat 16384 7168).Idx =>
    zArr (m ((c : Thread nD τ).loc main_arg0)) (m ((c : Thread nD τ).loc main_arg1)) (m ((c : Thread nD τ).loc main_arg2)) (m ((c : Thread nD τ).loc main_arg3)) (m ((c : Thread nD τ).loc main_arg4)) (y 0) (y 1) := by
  refine (dats m 0 c).arrAt_eq_of_covers 6 _ (by decide +kernel) fun t hf y => ?_
  blk_simp
  rw [after_6, zAt_eq]
  refine z_block m c t y _ _ ?_ ?_
  · blk_simp [places t]; omega
  · blk_simp [places t]; omega

/-- The decay logits after the run. -/
theorem arr_f (c : Dev nD) : (dats m 0 c).arrAt 7 cfg0.N = fun y : (Mat 16384 128).Idx =>
    fArr (m ((c : Thread nD τ).loc main_arg0)) (m ((c : Thread nD τ).loc main_arg1)) (m ((c : Thread nD τ).loc main_arg2)) (m ((c : Thread nD τ).loc main_arg3)) (m ((c : Thread nD τ).loc main_arg4)) (y 0) (y 1) := by
  refine (dats m 0 c).arrAt_eq_of_covers 7 _ (by decide +kernel) fun t hf y => ?_
  blk_simp
  rw [after_7]
  have e := eq_ix2 (n0 := 1024) (n1 := 128) y
  refine (congrArg (fAt m c (row t.val)) e).trans ((f_block m c t _ _ ((win0_7.blk t).view.emb y 0) ?_).trans (congrArg (fArr _ _ _ _ _ _) (Fin.ext ?_)))
  · blk_simp [places t]; omega
  · blk_simp [places t]

end Cert.Kernel3Ideal.Hand

end
-- ==== Proof.InEq.lean ====
/- The reference's norm, projection and activations are the kernel's. -/
module

public import proofs.«01_k».proof.Proof.InArray
public import proofs.«01_k».proof.Proof.OutEq
public import proofs.«01_k».proof.Proof.Gen.Reference3Ideal.Read

@[expose] public section

set_option maxRecDepth 16384

noncomputable section

namespace Cert.InEq

open Idealize.ShloMosaic Idealize.ShloMosaic.TcCoe Idealize.SL.Sem Idealize.ShloMosaic.Pointwise Cert.Tile Cert.Softmax Cert.Gate Cert.InTile
open Cert.OutEq (is2 is3)
open Cert.Kernel3Ideal.Hand (invSqrt2 qScale hRow decayCol zArr fArr act_gelu act_silu act_scaled act_plain)
open Cert.Reference3Ideal Cert.Reference3Ideal.Gen Cert.Reference3Ideal.Read

/-! The activations, as the reference spells them. -/

theorem invSqrt2_eq : invSqrt2 = (((Real.sqrt 2)⁻¹ : ℝ) : EReal) := IdealRules.named_const.ideal_named_scalar _ _ _ _ rfl
theorem qScale_eq : qScale = (((8 * Real.log 2)⁻¹ : ℝ) : EReal) := IdealRules.named_const.ideal_named_scalar _ _ _ _ rfl

theorem one : Ideal.ofBits .f32 0x3F800000#32 = 1 := by
  simp [Ideal.ofBits, Ideal.ieee, -EReal.coe_mul]; norm_num
theorem eighth : Ideal.ofBits .f32 0x3E000000#32 = ((8⁻¹ : ℝ) : EReal) := by
  simp [Ideal.ofBits, Ideal.ieee, -EReal.coe_mul]; norm_num

theorem gelu_eq (x : EReal) : Ideal.ofBits .f32 0x3F000000#32 * x * (Ideal.ofBits .f32 0x3F800000#32 + Ideal.erf (Ideal.div x (Ideal.sqrt (Ideal.ofBits .f32 0x40000000#32)))) = gelu invSqrt2 x := by
  have h2 : Ideal.sqrt (Ideal.ofBits .f32 0x40000000#32) = ((Real.sqrt 2 : ℝ) : EReal) := by
    rw [two, Ideal.sqrt_coe, if_neg (by norm_num)]
  rw [h2, Ideal.div_coe (Real.sqrt_pos.mpr (by norm_num)).ne', one_div, ← invSqrt2_eq]
  rfl

theorem exp_nonneg (x : EReal) : 0 ≤ Ideal.exp x := by
  induction x using EReal.rec with
  | bot => exact le_refl _
  | top => exact le_top
  | coe r => show (0 : EReal) ≤ ((Real.exp r : ℝ) : EReal); exact_mod_cast (Real.exp_pos r).le

theorem silu_eq (x : EReal) : x * Ideal.div (Ideal.ofBits .f32 0x3F800000#32) (Ideal.ofBits .f32 0x3F800000#32 + Ideal.exp (-x)) = silu x := by
  have hp : (0 : EReal) < Ideal.ofBits .f32 0x3F800000#32 + Ideal.exp (-x) := by
    rw [one]; exact lt_of_lt_of_le zero_lt_one (le_add_of_nonneg_right (exp_nonneg _))
  unfold silu
  rw [zero_sub]
  unfold Ideal.div
  rw [if_neg hp.ne', if_neg hp.ne', one, one_mul]

theorem scaled_eq (x : EReal) : Ideal.div (x * Ideal.ofBits .f32 0x3E000000#32) (Ideal.log (Ideal.ofBits .f32 0x40000000#32)) = x * qScale := by
  have h2 : Ideal.log (Ideal.ofBits .f32 0x40000000#32) = ((Real.log 2 : ℝ) : EReal) := by
    rw [two, Ideal.log_coe, if_neg (by norm_num)]
  rw [h2, Ideal.div_coe (Real.log_pos (by norm_num)).ne', eighth, qScale_eq, mul_assoc, ← EReal.coe_mul, mul_inv, one_div]

variable (x : S4x4096x2048.Idx → EReal) (sh sc : S4x1x2048.Idx → EReal) (g : S2x2048.Idx → EReal) (w : S2x2048x7184.Idx → EReal)

section Read

variable (b : Fin 4) (q : Fin 4096)

/-- A row of the activations, normed and modulated. -/
abbrev modRow (d : Fin 2048) : EReal := modNorm (fun k => x (ix3 b q k)) (fun k => g (ix2 0 k)) (fun k => sc (ix3 b 0 k)) (fun k => sh (ix3 b 0 k)) d

theorem root_at (d : Fin 2048) : val_main_v10 (F := Ideal) x (ix3 b q d) = Ideal.rsqrt (mean 0x45000000#32 (fun k => x (ix3 b q k) * x (ix3 b q k)) + eps) := by
  rw [val_main_v10_apply, val_main_v9_apply, val_main_v8_apply, val_main_v6_apply, val_main_v4_apply, val_main_v3_apply, val_main_v5_apply, val_main_cst_0_apply, val_main_v7_apply, val_main_cst_1_apply, val_main_cst_apply]
  rw [Finset.sum_congr rfl fun k _ => (congrArg (val_main_v2 (F := Ideal) x) (is3 (x := b) (y := q) (z := k) rfl rfl rfl))]
  simp only [val_main_v2_apply]
  simp [mean, eps]

theorem h_at (d : Fin 2048) : val_main_v20 (F := Ideal) x sh sc g (ix3 b q d) = modRow x sh sc g b q d := by
  rw [val_main_v20_apply, val_main_v18_apply, val_main_v14_apply, val_main_v11_apply, root_at, val_main_v13_apply, val_main_v12_apply, val_main_v1_apply, val_main_v0_apply,
    val_main_v17_apply, val_main_v16_apply, val_main_v15_apply, val_main_cst_2_apply, val_main_v19_apply]
  refine congrArg₂ (· + ·) (congrArg₂ (· * ·) (congrArg₂ (· * ·) rfl (congrArg g (is2 ?_ ?_))) (congrArg₂ (· + ·) rfl (congrArg sc (is3 ?_ ?_ ?_)))) (congrArg sh (is3 ?_ ?_ ?_))
  all_goals first | rfl | (show d.val % 2048 = d.val; omega)

/-- A row's projection at column `n`. -/
abbrev lin (n : Fin 7184) : EReal := ∑ d : Fin 2048, modRow x sh sc g b q d * w (ix3 0 d n)

theorem lin_at (n : Fin 7184) : val_main_v23 (F := Ideal) x sh sc g w (ix3 b q n) = lin x sh sc g w b q n := by
  rw [val_main_v23_apply]
  refine Finset.sum_congr rfl fun d _ => congrArg₂ (· * ·) ((congrArg (val_main_v20 (F := Ideal) x sh sc g) (is3 (x := b) (y := q) (z := d) rfl rfl rfl)).trans (h_at x sh sc g b q d)) ?_
  rw [val_main_v22_apply, val_main_v21_apply]
  refine congrArg w (is3 ?_ ?_ ?_)
  · rfl
  · show (d.val * 7184 + n.val) / 7184 % 2048 = d.val; omega
  · show (d.val * 7184 + n.val) % 7184 = n.val; omega

theorem at_col {i : S4x4096x7184.Idx} {n : Fin 7184} (h0 : (i 0).val = b.val) (h1 : (i 1).val = q.val) (h2 : (i 2).val = n.val) :
    val_main_v23 (F := Ideal) x sh sc g w i = lin x sh sc g w b q n := (congrArg _ (is3 h0 h1 h2)).trans (lin_at x sh sc g w b q n)

/-! The seven groups of columns. -/

theorem grp_0 (l : Fin 1024) : val_main_v45 (F := Ideal) x sh sc g w (ix3 b q l) = gelu invSqrt2 (lin x sh sc g w b q ⟨l, by omega⟩) := by
  rw [val_main_v45_apply, val_main_v38_apply, val_main_v37_apply, val_main_cst_5_apply, val_main_v44_apply, val_main_v43_apply, val_main_cst_7_apply, val_main_v42_apply, val_main_v41_apply, val_main_v40_apply, val_main_v39_apply, val_main_cst_6_apply,
    val_main_v24_apply, at_col x sh sc g w b q (n := ⟨l, by omega⟩) rfl rfl rfl]
  exact gelu_eq _

theorem grp_1 (l : Fin 1024) : val_main_v54 (F := Ideal) x sh sc g w (ix3 b q l) = gelu invSqrt2 (lin x sh sc g w b q ⟨1024 + l, by omega⟩) := by
  rw [val_main_v54_apply, val_main_v47_apply, val_main_v46_apply, val_main_cst_8_apply, val_main_v53_apply, val_main_v52_apply, val_main_cst_10_apply, val_main_v51_apply, val_main_v50_apply, val_main_v49_apply, val_main_v48_apply, val_main_cst_9_apply,
    val_main_v25_apply, at_col x sh sc g w b q (n := ⟨1024 + l, by omega⟩) rfl rfl rfl]
  exact gelu_eq _

theorem grp_2 (l : Fin 1024) : val_main_v55 (F := Ideal) x sh sc g w (ix3 b q l) = silu (lin x sh sc g w b q ⟨2048 + l, by omega⟩) := by
  rw [val_main_v55_apply, val_main_call0_v5_apply, val_main_call0_v4_apply, val_main_call0_cst_0_apply, val_main_call0_v3_apply, val_main_call0_v2_apply, val_main_call0_cst_apply, val_main_call0_v1_apply, val_main_call0_v0_apply,
    val_main_v26_apply, at_col x sh sc g w b q (n := ⟨2048 + l, by omega⟩) rfl rfl rfl]
  exact silu_eq _

theorem grp_3 (l : Fin 1024) : val_main_v36 (F := Ideal) x sh sc g w (ix3 b q l) = lin x sh sc g w b q ⟨3072 + l, by omega⟩ * qScale := by
  rw [val_main_v36_apply, val_main_v33_apply, val_main_v32_apply, val_main_cst_3_apply, val_main_v35_apply, val_main_v34_apply, val_main_cst_4_apply,
    val_main_v27_apply, at_col x sh sc g w b q (n := ⟨3072 + l, by omega⟩) rfl rfl rfl]
  exact scaled_eq _

theorem grp_4 (l : Fin 1024) : val_main_v28 (F := Ideal) x sh sc g w (ix3 b q l) = lin x sh sc g w b q ⟨4096 + l, by omega⟩ := by
  rw [val_main_v28_apply, at_col x sh sc g w b q (n := ⟨4096 + l, by omega⟩) rfl rfl rfl]

theorem grp_5 (l : Fin 1024) : val_main_v29 (F := Ideal) x sh sc g w (ix3 b q l) = lin x sh sc g w b q ⟨5120 + l, by omega⟩ := by
  rw [val_main_v29_apply, at_col x sh sc g w b q (n := ⟨5120 + l, by omega⟩) rfl rfl rfl]

theorem grp_6 (l : Fin 1024) : val_main_v56 (F := Ideal) x sh sc g w (ix3 b q l) = silu (lin x sh sc g w b q ⟨6144 + l, by omega⟩) := by
  rw [val_main_v56_apply, val_main_call1_v5_apply, val_main_call1_v4_apply, val_main_call1_cst_0_apply, val_main_call1_v3_apply, val_main_call1_v2_apply, val_main_call1_cst_apply, val_main_call1_v1_apply, val_main_call1_v0_apply,
    val_main_v30_apply, at_col x sh sc g w b q (n := ⟨6144 + l, by omega⟩) rfl rfl rfl]
  exact silu_eq _

theorem cat_at (n : Fin 7168) : val_main_v57 (F := Ideal) x sh sc g w (ix3 b q n) = act invSqrt2 qScale n (lin x sh sc g w b q ⟨n, by omega⟩) := by
  unfold val_main_v57
  have h0 := grp_0 x sh sc g w b q
  have h1 := grp_1 x sh sc g w b q
  have h2 := grp_2 x sh sc g w b q
  have h3 := grp_3 x sh sc g w b q
  have h4 := grp_4 x sh sc g w b q
  have h5 := grp_5 x sh sc g w b q
  have h6 := grp_6 x sh sc g w b q
  generalize val_main_v45 (F := Ideal) x sh sc g w = A0 at *
  generalize val_main_v54 (F := Ideal) x sh sc g w = A1 at *
  generalize val_main_v55 (F := Ideal) x sh sc g w = A2 at *
  generalize val_main_v36 (F := Ideal) x sh sc g w = A3 at *
  generalize val_main_v28 (F := Ideal) x sh sc g w = A4 at *
  generalize val_main_v29 (F := Ideal) x sh sc g w = A5 at *
  generalize val_main_v56 (F := Ideal) x sh sc g w = A6 at *
  pointwise
  simp only [h0, h1, h2, h3, h4, h5, h6]
  have hn := n.isLt
  have e : ∀ (k : ℕ) (hk : k < 7184), k = n.val → lin x sh sc g w b q ⟨k, hk⟩ = lin x sh sc g w b q ⟨n, by omega⟩ := fun k hk h => by subst h; rfl
  by_cases c0 : n.val < 1024
  · rw [dif_pos c0, act_gelu (by omega)]
  rw [dif_neg c0]
  by_cases c1 : n.val - 1024 < 1024
  · rw [dif_pos c1, act_gelu (by omega)]; exact congrArg _ (e _ _ (by omega))
  rw [dif_neg c1]
  by_cases c2 : n.val - 1024 - 1024 < 1024
  · rw [dif_pos c2, act_silu (by omega)]; exact congrArg _ (e _ _ (by omega))
  rw [dif_neg c2]
  by_cases c3 : n.val - 1024 - 1024 - 1024 < 1024
  · rw [dif_pos c3, act_scaled (by omega)]; exact congrArg (· * qScale) (e _ _ (by omega))
  rw [dif_neg c3]
  by_cases c4 : n.val - 1024 - 1024 - 1024 - 1024 < 1024
  · rw [dif_pos c4, act_plain (by omega)]; exact e _ _ (by omega)
  rw [dif_neg c4]
  by_cases c5 : n.val - 1024 - 1024 - 1024 - 1024 - 1024 < 1024
  · rw [dif_pos c5, act_plain (by omega)]; exact e _ _ (by omega)
  rw [dif_neg c5]
  rw [act_silu (by omega)]; exact congrArg _ (e _ _ (by omega))

theorem pad_at (j : Fin 128) : val_main_v58 (F := Ideal) x sh sc g w (ix3 b q j) = ∑ d : Fin 2048, modRow x sh sc g b q d * decayCol w d j := by
  unfold val_main_v58
  have h : ∀ l : Fin 16, val_main_v31 (F := Ideal) x sh sc g w (ix3 b q l) = lin x sh sc g w b q ⟨7168 + l, by omega⟩ := fun l => by
    rw [val_main_v31_apply, at_col x sh sc g w b q (n := ⟨7168 + l, by omega⟩) rfl rfl rfl]
  generalize val_main_v31 (F := Ideal) x sh sc g w = A at *
  pointwise
  simp only [h]
  unfold decayCol
  split
  · rfl
  · simp only [mul_zero, Finset.sum_const_zero]
    show (((0#32 : BitVec 32).toInt : ℝ) : EReal) = 0
    simp

end Read

/-- The reference's projected array is the kernel's. -/
theorem result_z : val_main_v60 (F := Ideal) x sh sc g w = fun y : (Mat 16384 7168).Idx => zArr x sh sc g w (y 0) (y 1) := by
  funext y
  obtain ⟨r, n, rfl⟩ : ∃ (r : Fin 16384) (n : Fin 7168), y = ix2 r n := ⟨y 0, y 1, eq_ix2 (n0 := 16384) (n1 := 7168) y⟩
  rw [val_main_v60_apply, val_main_v59_apply]
  refine (congrArg (val_main_v57 (F := Ideal) x sh sc g w) (is3 (x := ⟨r / 4096, by omega⟩) (y := ⟨r % 4096, by omega⟩) (z := n) ?_ ?_ ?_)).trans (cat_at x sh sc g w _ _ n)
  · show (r.val * 7168 + n.val) / 29360128 = r.val / 4096; omega
  · show (r.val * 7168 + n.val) / 7168 % 4096 = r.val % 4096; omega
  · show (r.val * 7168 + n.val) % 7168 = n.val; omega

/-- The reference's decay logits are the kernel's. -/
theorem result_f : val_main_v61 (F := Ideal) x sh sc g w = fun y : (Mat 16384 128).Idx => fArr x sh sc g w (y 0) (y 1) := by
  funext y
  obtain ⟨r, j, rfl⟩ : ∃ (r : Fin 16384) (j : Fin 128), y = ix2 r j := ⟨y 0, y 1, eq_ix2 (n0 := 16384) (n1 := 128) y⟩
  rw [val_main_v61_apply]
  refine (congrArg (val_main_v58 (F := Ideal) x sh sc g w) (is3 (x := ⟨r / 4096, by omega⟩) (y := ⟨r % 4096, by omega⟩) (z := j) ?_ ?_ ?_)).trans (pad_at x sh sc g w _ _ j)
  · show (r.val * 128 + j.val) / 524288 = r.val / 4096; omega
  · show (r.val * 128 + j.val) / 128 % 4096 = r.val % 4096; omega
  · show (r.val * 128 + j.val) % 128 = j.val; omega

end Cert.InEq

end
-- ==== Proof.InClaims.lean ====
/- The in-projection's claims, from its hand-built frame, its two output arrays and the reference's results. -/
module

public import proofs.«01_k».proof.Defs
public import proofs.«01_k».proof.Proof.InEq
public import proofs.«01_k».proof.Proof.Gen.Kernel3.Frame
public import proofs.«01_k».proof.Proof.Gen.Kernel3Ideal.Frame

@[expose] public section

set_option maxRecDepth 16384

noncomputable section

namespace Cert.InClaims

open Idealize.ShloMosaic Idealize.ShloMosaic.Tactic Idealize.SL.Sem Cert.Kernel3Ideal.Hand

/-- The named constants read as the words the printed program carries. -/
@[reducible] def printed : Named Bits := ⟨fun _ _ {φ} bits => Scalar.ofBits φ bits⟩

/-- The frame of the program with named constants, at whatever the names stand for. -/
def Framed (F : FTy → Type) [FloatOps F] [Named F] : Prop :=
  ∀ (m : (ℓ : Loc Cert.Kernel3Ideal.nD Cert.Kernel3Ideal.τ Cert.Kernel3Ideal.sig) → Buf (Elt F) ℓ) (g : Dev Cert.Kernel3Ideal.nD → PrngReg), True →
    θ_run (Cert.Kernel3Ideal.defs (F := F)) (onTc (τ := Cert.Kernel3Ideal.τ) (Cert.Kernel3Ideal.main (F := F))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

/-- The two texts differ only in how the two constants are written, so one frame serves both. -/
theorem framed_printed : @Framed Bits _ printed = Cert.quiescent_Kernel3 := by sl_kernel_rfl

theorem frame_p : Cert.quiescent_Kernel3 := framed_printed.mp fun m ρ _ => @frame Bits _ printed m ρ
theorem frame_pi : Cert.quiescent_Kernel3Ideal := fun m ρ _ => frame (F := Ideal) m ρ

/-- The reference declares no semaphore, so none is left raised. -/
theorem frame_ri : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

theorem preserves : Cert.preserves_Kernel3_Kernel3Ideal :=
  ⟨IdealRules.named_const.statement Cert.Kernel3Ideal.κ "inv_sqrt2" .f32 0x3F3504F3#32 (((Real.sqrt 2)⁻¹ : ℝ) : EReal) rfl,
    IdealRules.named_const.statement Cert.Kernel3Ideal.κ "q_scale" .f32 0x3E38AA3B#32 (((8 * (Real.log 2))⁻¹ : ℝ) : EReal) rfl⟩

theorem algebraic : Cert.algebraic_Kernel3Ideal_Reference3Ideal := by
  intro m ρ m' ρ' _ hagree
  refine ⟨fun c => (dats m 0 c).arrAt 6 Cert.Kernel3Ideal.cfg0.N, fun c => (dats m 0 c).arrAt 7 Cert.Kernel3Ideal.cfg0.N, ?_, ?_⟩
  · exact (θ_run Cert.Kernel3Ideal.defs _ _).mono (fun _ h c => ⟨(h.1 c).1 6, (h.1 c).1 7, h.2 c⟩)
      (θ_run_and (run_main (F := Ideal) m ρ) (Cert.Kernel3Ideal.Gen.frame_of m ρ (dats m) (A_eq m) (run_main m ρ)))
  · refine (θ_run Cert.Reference3Ideal.defs _ _).mono (fun _ h c => ⟨(h c).1.trans ?_, (h c).2.1.trans ?_, (h c).2.2⟩) (Cert.Reference3Ideal.Value.run (F := Ideal) m' ρ')
    · obtain ⟨a0, a1, a2, a3, a4⟩ := hagree c
      rw [Reference3Ideal.Read.val_main_v60_eq, a0, a1, a2, a3, a4]
      exact (InEq.result_z _ _ _ _ _).trans (arr_z m c).symm
    · obtain ⟨a0, a1, a2, a3, a4⟩ := hagree c
      rw [Reference3Ideal.Read.val_main_v61_eq, a0, a1, a2, a3, a4]
      exact (InEq.result_f _ _ _ _ _).trans (arr_f m c).symm

end Cert.InClaims

end
-- ==== Proof.AdaArray.lean ====
/- The modulation's output array as a formula in its argument arrays. -/
module

public import proofs.«01_k».proof.Proof.InTile
public import proofs.«01_k».proof.Proof.Gen.Kernel4Ideal.Value
public import Idealize.ShloMosaic.Lib.Pipeline.ValueKit
public import Idealize.ShloMosaic.Lib.StableHlo.ReadAt

@[expose] public section

set_option maxRecDepth 16384

noncomputable section

namespace Cert.Kernel4Ideal.Body

open Cert.Kernel4Ideal Cert.Kernel4Ideal.Gen Idealize.ShloMosaic Idealize.ShloMosaic.TcCoe Idealize.SL.Sem Idealize.ShloMosaic.Pointwise Cert.Tile Cert.InTile Cert.Gate

/-- The conditioning rows, padded with zeros to eight. -/
def condRow (c : S4x2048.Idx → EReal) (b : Fin 8) (d : Fin 2048) : EReal := if h : b.val < 4 then c (ix2 ⟨b, h⟩ d) else 0

/-- The modulation of layer `l`, row `b`, column `n`. -/
def modArr (c : S4x2048.Idx → EReal) (w : S2x2048x6144.Idx → EReal) (bias : S2x6144.Idx → EReal) (l : Fin 2) (b : Fin 8) (n : Fin 6144) : EReal :=
  ∑ d : Fin 2048, silu (condRow c b d) * w (ix3 l d n) + bias (ix2 l n)

/-- A point's stored block, from its three input blocks. -/
theorem block (x0 : (Mat 8 2048).Idx → EReal) (x1 : (Cub 1 2048 1536).Idx → EReal) (x2 : (Cub 1 1 1536).Idx → EReal) (b : Fin 8) (j : Fin 1536) :
    out0_3 (F := Ideal) x0 x1 x2 (ix3 0 b j) = ∑ d : Fin 2048, silu (x0 (ix2 b d)) * x1 (ix3 0 d j) + x2 (ix3 0 0 j) := by
  unfold out0_3
  rw [View.canon_cons_unit_lit, View.ld_unit_lit, View.ld_unit_lit, View.ld_unit_lit]
  rotate_left 1
  · decide
  · decide
  · decide
  · decide
  unfold k0_pay1
  refine (shapeCast_add _ _ b j).trans (congrArg₂ (· + ·) ?_ ?_)
  · rw [ix2_eq_valueIdx]
    refine (Ideal.matmul_plain_apply _ _ _ _ b j).trans ?_
    simp only [← ix2_eq_valueIdx]
    have h0 : constant (F := Ideal) (Mat 8 1536) .f32 0x00000000#32 (ix2 b j) = 0 := by pointwise
    refine (congrArg (· + _) h0).trans ((zero_add _).trans (Finset.sum_congr rfl fun d _ => congrArg₂ (· * ·) ?_ (shapeCast_drop _ _ d j)))
    rw [shapeCast_id]
    pointwise [silu]
  · pointwise

variable (m : (ℓ : Loc nD τ sig) → Buf (Elt Ideal) ℓ)

theorem places : ∀ t : Fin cfg0.N, win0_0.index t = ![0, 0] ∧ win0_1.index t = ![t.val / 4, 0, t.val % 4] ∧ win0_2.index t = ![t.val / 4, 0, t.val % 4] ∧ win0_3.index t = ![t.val / 4, 0, t.val % 4] :=
  (by decide +kernel : ∀ t : Fin grid0.N, _)

theorem lt_8 (t : Fin cfg0.N) : t.val < 8 := t.isLt

/-! The arrays the host prepares, and the input blocks. -/

theorem host_v0 (c : Dev nD) : V m c main_v0 = fun y : (Mat 8 2048).Idx => condRow (m ((c : Thread nD τ).loc main_arg0)) (y 0) (y 1) := by
  have h0 : (FloatOps.sitofp .f32 0#32 : Ideal .f32) = 0 := by show (((0#32 : BitVec 32).toInt : ℝ) : EReal) = 0; simp
  funext y; unfold V; after_reads_at
  rw [h0]
  rfl

theorem host_v1 (c : Dev nD) : V m c main_v1 = fun y : (Cub 2 1 6144).Idx => m ((c : Thread nD τ).loc main_arg2) (ix2 (y 0) (y 2)) := by
  funext y; unfold V; after_reads_at

theorem in_0 (c : Dev nD) (t : Fin cfg0.N) : iblk m c 0 t = fun y : (Mat 8 2048).Idx => condRow (m ((c : Thread nD τ).loc main_arg0)) (y 0) (y 1) := by
  rw [← host_v0]; funext y; blk_ext [iblk, places t]
theorem in_1 (c : Dev nD) (t : Fin cfg0.N) : iblk m c 1 t = fun y : (Cub 1 2048 1536).Idx => m ((c : Thread nD τ).loc main_arg1) (ix3 ⟨t / 4, by have := lt_8 t; omega⟩ (y 1) ⟨1536 * (t.val % 4) + (show Fin 1536 from y 2).val, by have := (show Fin 1536 from y 2).isLt; omega⟩) := by
  funext y; blk_ext [iblk, V, places t]
theorem in_2 (c : Dev nD) (t : Fin cfg0.N) : iblk m c 2 t = fun y : (Cub 1 1 1536).Idx => m ((c : Thread nD τ).loc main_arg2) (ix2 ⟨t / 4, by have := lt_8 t; omega⟩ ⟨1536 * (t.val % 4) + (show Fin 1536 from y 2).val, by have := (show Fin 1536 from y 2).isLt; omega⟩) := by
  refine Eq.trans ?_ (funext fun y : (Cub 1 1 1536).Idx => congrFun (host_v1 m c) (ix3 ⟨t / 4, by have := lt_8 t; omega⟩ 0 ⟨1536 * (t.val % 4) + (show Fin 1536 from y 2).val, by have := (show Fin 1536 from y 2).isLt; omega⟩))
  funext y; blk_ext [iblk, places t]

/-- The modulation after the run. -/
theorem arr (c : Dev nD) : (dats m 0 c).arrAt 3 cfg0.N = fun y : (Cub 2 8 6144).Idx =>
    modArr (m ((c : Thread nD τ).loc main_arg0)) (m ((c : Thread nD τ).loc main_arg1)) (m ((c : Thread nD τ).loc main_arg2)) (y 0) (y 1) (y 2) := by
  refine (dats m 0 c).arrAt_eq_of_covers 3 _ (by decide +kernel) fun t hf y => ?_
  have ht := lt_8 t
  have e := eq_ix3 (n0 := 1) (n1 := 8) (n2 := 1536) y
  have y0 : (y 0).val = 0 := by have : (y 0).val < 1 := (y 0).isLt; omega
  obtain ⟨l, hl⟩ : ∃ l : Fin 2, l.val = t.val / 4 := ⟨⟨_, by omega⟩, rfl⟩
  obtain ⟨n, hn⟩ : ∃ n : Fin 6144, n.val = 1536 * (t.val % 4) + (y 2).val := ⟨⟨_, by have : (y 2).val < 1536 := (y 2).isLt; omega⟩, rfl⟩
  have g : ∀ b : Fin 8, b = y 1 → out0_3 (iblk m c 0 t) (iblk m c 1 t) (iblk m c 2 t) y
      = modArr (m ((c : Thread nD τ).loc main_arg0)) (m ((c : Thread nD τ).loc main_arg1)) (m ((c : Thread nD τ).loc main_arg2)) l b n := by
    rintro b rfl
    have e' : y = ix3 0 (y 1) (y 2) := e.trans (congrArg (fun a => ix3 a (y 1) (y 2)) (Fin.ext y0))
    rw [in_0, in_1, in_2]
    refine (congrArg (out0_3 (F := Ideal) _ _ _) e').trans ((block _ _ _ (y 1) (y 2)).trans ?_)
    unfold modArr
    have el : ∀ h, (⟨t.val / 4, h⟩ : Fin 2) = l := fun h => Fin.ext hl.symm
    have en : ∀ h, (⟨1536 * (t.val % 4) + (y 2).val, h⟩ : Fin 6144) = n := fun h => Fin.ext hn.symm
    refine congrArg₂ (· + ·) (Finset.sum_congr rfl fun d _ => congrArg₂ (· * ·) rfl (congrArg (m ((c : Thread nD τ).loc main_arg1)) ?_)) (congrArg (m ((c : Thread nD τ).loc main_arg2)) ?_)
    · exact congrArg₂ (fun a b => ix3 a d b) (el _) (en _)
    · exact congrArg₂ ix2 (el _) (en _)
  blk_simp
  rw [after0_3]
  refine (g _ rfl).trans ?_
  refine congr (congr (congrArg (modArr _ _ _) (Fin.ext ?_)) (Fin.ext ?_)) (Fin.ext ?_)
  · blk_simp [places t]; omega
  · blk_simp [places t]
  · blk_simp [places t]; omega

end Cert.Kernel4Ideal.Body

end
-- ==== Proof.AdaClaims.lean ====
/- The modulation's claims, from its frames, its output array and the reference's result. -/
module

public import proofs.«01_k».proof.Defs
public import proofs.«01_k».proof.Proof.AdaArray
public import proofs.«01_k».proof.Proof.InEq
public import proofs.«01_k».proof.Proof.Gen.Reference4Ideal.Read
public import proofs.«01_k».proof.Proof.Gen.Kernel4.Frame
public import proofs.«01_k».proof.Proof.Gen.Kernel4Ideal.Frame

@[expose] public section

set_option maxRecDepth 16384

noncomputable section

namespace Cert.AdaClaims

open Idealize.ShloMosaic Idealize.ShloMosaic.TcCoe Idealize.SL.Sem Idealize.ShloMosaic.Pointwise Cert.Tile Cert.Gate Cert.InTile
open Cert.OutEq (is2 is3)
open Cert.Kernel4Ideal.Body (condRow modArr)

section Read

open Cert.Reference4Ideal Cert.Reference4Ideal.Gen Cert.Reference4Ideal.Read

variable (c : S4x2048.Idx → EReal) (w : S2x2048x6144.Idx → EReal) (bias : S2x6144.Idx → EReal)

theorem pad_at (b : Fin 8) (d : Fin 2048) : val_main_v0 (F := Ideal) c (ix2 b d) = condRow c b d := by
  have h0 : (FloatOps.sitofp .f32 0#32 : Ideal .f32) = 0 := by show (((0#32 : BitVec 32).toInt : ℝ) : EReal) = 0; simp
  unfold val_main_v0 val_main_call0_v0 val_main_c condRow
  pointwise
  rw [h0]

theorem cond_at (b : Fin 8) (d : Fin 2048) : val_main_v1 (F := Ideal) c (ix2 b d) = silu (condRow c b d) := by
  rw [val_main_v1_apply, val_main_call1_v5_apply, val_main_call1_v4_apply, val_main_call1_cst_0_apply, val_main_call1_v3_apply, val_main_call1_v2_apply, val_main_call1_cst_apply, val_main_call1_v1_apply, val_main_call1_v0_apply, pad_at]
  exact InEq.silu_eq _

theorem layer_0 (b : Fin 8) (n : Fin 6144) : val_main_v18 (F := Ideal) c w bias (ix3 0 b n) = modArr c w bias 0 b n := by
  rw [val_main_v18_apply, val_main_v9_apply, val_main_v4_apply, val_main_v8_apply, val_main_v7_apply, val_main_v6_apply, val_main_v5_apply]
  refine congrArg₂ (· + ·) (Finset.sum_congr rfl fun d _ => congrArg₂ (· * ·) ((congrArg (val_main_v1 (F := Ideal) c) (is2 (x := b) (y := d) ?_ ?_)).trans (cond_at c b d)) ?_) (congrArg bias (is2 ?_ ?_))
  rotate_left 2
  · rw [val_main_v3_apply, val_main_v2_apply]
    refine congrArg w (is3 ?_ ?_ ?_)
    · rfl
    · show (d.val * 6144 + n.val) / 6144 % 2048 = d.val; omega
    · show (d.val * 6144 + n.val) % 6144 = n.val; omega
  all_goals first | rfl | (show n.val % 6144 = n.val; omega)

theorem layer_1 (b : Fin 8) (n : Fin 6144) : val_main_v19 (F := Ideal) c w bias (ix3 0 b n) = modArr c w bias 1 b n := by
  rw [val_main_v19_apply, val_main_v17_apply, val_main_v12_apply, val_main_v16_apply, val_main_v15_apply, val_main_v14_apply, val_main_v13_apply]
  refine congrArg₂ (· + ·) (Finset.sum_congr rfl fun d _ => congrArg₂ (· * ·) ((congrArg (val_main_v1 (F := Ideal) c) (is2 (x := b) (y := d) ?_ ?_)).trans (cond_at c b d)) ?_) (congrArg bias (is2 ?_ ?_))
  rotate_left 2
  · rw [val_main_v11_apply, val_main_v10_apply]
    refine congrArg w (is3 ?_ ?_ ?_)
    · rfl
    · show (d.val * 6144 + n.val) / 6144 % 2048 = d.val; omega
    · show (d.val * 6144 + n.val) % 6144 = n.val; omega
  all_goals first | rfl | (show n.val % 6144 = n.val; omega)

/-- The reference's modulation is the kernel's. -/
theorem result : val_main_v20 (F := Ideal) c w bias = fun y : (Cub 2 8 6144).Idx => modArr c w bias (y 0) (y 1) (y 2) := by
  funext y
  obtain ⟨l, b, n, rfl⟩ : ∃ (l : Fin 2) (b : Fin 8) (n : Fin 6144), y = ix3 l b n := ⟨y 0, y 1, y 2, eq_ix3 (n0 := 2) (n1 := 8) (n2 := 6144) y⟩
  unfold val_main_v20
  have h0 := layer_0 c w bias b n
  have h1 := layer_1 c w bias b n
  generalize val_main_v18 (F := Ideal) c w bias = A0 at *
  generalize val_main_v19 (F := Ideal) c w bias = A1 at *
  obtain rfl | rfl : l = 0 ∨ l = 1 := by omega
  · pointwise; exact h0
  · pointwise; exact h1

end Read

theorem frame_p : Cert.quiescent_Kernel4 := fun m ρ _ => Cert.Kernel4.Gen.frame m ρ
theorem frame_pi : Cert.quiescent_Kernel4Ideal := fun m ρ _ => Cert.Kernel4Ideal.Gen.frame m ρ

/-- The reference declares no semaphore, so none is left raised. -/
theorem frame_ri : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem algebraic : Cert.algebraic_Kernel4Ideal_Reference4Ideal := by
  intro m ρ m' ρ' _ hagree
  refine ⟨fun c => (Cert.Kernel4Ideal.Gen.dats m 0 c).arrAt 3 Cert.Kernel4Ideal.cfg0.N, ?_, ?_⟩
  · exact Cert.Kernel4Ideal.Value.run_blocks (F := Ideal) m ρ
  · refine (θ_run Cert.Reference4Ideal.defs _ _).mono (fun _ h c => ⟨(h c).1.trans ?_, (h c).2⟩) (Cert.Reference4Ideal.Value.run (F := Ideal) m' ρ')
    obtain ⟨a0, a1, a2⟩ := hagree c
    rw [Reference4Ideal.Read.val_main_v20_eq, a0, a1, a2]
    exact (result _ _ _).trans (Kernel4Ideal.Body.arr m c).symm

end Cert.AdaClaims

end
-- ==== Proof.FirstBody.lean ====
/- The first layer's out-projection, its body: what one grid point stores in its output block, from its thirteen input blocks. -/
module

public import proofs.«01_k».proof.Proof.Gen.Kernel5Ideal.Value
public import proofs.«01_k».proof.Proof.Gate

@[expose] public section

set_option maxRecDepth 16384

noncomputable section

namespace Cert.Kernel5Ideal.Body

open Cert.Kernel5Ideal Cert.Kernel5Ideal.Gen Idealize.ShloMosaic Idealize.ShloMosaic.TcCoe Idealize.SL.Sem Idealize.ShloMosaic.Pointwise Cert.Tile Cert.Stores Cert.Gate

/-- A block's output rows: the residual rows and both halves' projections through the gate. -/
def sumRows (X : (Mat 512 2048).Idx → EReal) (G : (Cub 1 1 2048).Idx → EReal) (ya : Fin 512 → Fin 1024 → EReal) (yb : (Mat 512 1024).Idx → EReal) (wa wb : (Cub 1 1024 2048).Idx → EReal)
    (i : Fin 512) (j : Fin 2048) : EReal :=
  (X (ix2 i j) + G (ix3 0 0 j) * ∑ l : Fin 1024, yb (ix2 i l) * wb (ix3 0 l j)) + G (ix3 0 0 j) * ∑ l : Fin 1024, ya i l * wa (ix3 0 l j)

theorem sumRows_apply (X : FVec Ideal (Mat 512 2048) .f32) (G : FVec Ideal (Cub 1 1 2048) .f32) (ya yb : FVec Ideal (Mat 512 1024) .bf16) (wa wb : FVec Ideal (Cub 1 1024 2048) .bf16)
    (h1 h2 h3) (i : Fin 512) (j : Fin 2048) :
    addProd (F := Ideal) (addProd X G yb wb h1 h2 h3) G ya wa h1 h2 h3 (ix2 i j) = sumRows X G (fun i l => ya (ix2 i l)) yb wa wb i j := by
  simp only [addProd_apply]
  rfl

/-- A load of a whole buffer reads all of it. -/
theorem whole {κ : Kind} {s : Shape} {α : EltTy} {m : Memref sig κ .vmem s α} (h : m.IsWhole) (X : s.Idx → Elt Ideal α) {off : Fin s.rank → ℕ} (inb : ∀ i, off i + s.size i ≤ s.size i) (h0 : ∀ i, off i = 0) :
    View.readAt (Elt Ideal) m.view (Rect.unit (s := s) off s.size inb).toLoadRect (h.unread X) = X := by
  funext y
  refine (Memref.IsWhole.readAt_unread h _ _ _).trans (congrArg X ?_)
  funext i; apply Fin.ext
  refine (Rect.idx_unit_val _ _ _ _ i).trans ?_
  rw [h0]; omega

variable (m : (ℓ : Loc nD τ sig) → Buf (Elt Ideal) ℓ)

/-- A point's output block, from its thirteen input blocks. -/
theorem block (c : Dev nD) (t : Fin cfg0.N) :
    outsAt0 m c t = fun y => sumRows (iblk m c 8 t) (iblk m c 9 t) (gated (iblk m c 0 t) (iblk m c 1 t) (iblk m c 2 t) (iblk m c 3 t) (iblk m c 4 t) (iblk m c 5 t) (iblk m c 6 t))
      (iblk m c 7 t) (iblk m c 10 t) (iblk m c 11 t) (y 0) (y 1) := by
  unfold outsAt0
  frame_open
  rw [View.read_writes_junk_eq_canon]
  generalize hY : ((⟨Rect.unit ![384, 896] S128x128.size inb_S512x1024_S128x128_384_896, _⟩ : View.Piece (Elt Ideal) S512x1024 .bf16) :: _) = LY
  have eY : View.canon LY = fun y : (Mat 512 1024).Idx => gated (iblk m c 0 t) (iblk m c 1 t) (iblk m c 2 t) (iblk m c 3 t) (iblk m c 4 t) (iblk m c 5 t) (iblk m c 6 t) (y 0) (y 1) := by
    rw [← hY]
    refine canon_of ?_ (View.cover_of_tiledL _ S128x128.size (by sl_kernel_rfl))
    iterate 32
      apply pieces_cons
      · refine gated_piece (h1 := iota_S128x128_d0_w32) (h2 := iota_S128x128_d1_w32) (h3 := shapeCasts_S1x128x128_S128x128) (h5 := bitsLt_bf16_f32) (h6 := shapeCasts_S128x1_S128x1) (h7 := broadcasts_S128x1_S128x128) (h8 := shapeCasts_S128x128_S128x128)
          _ _ (by exact rfl) (by decide) (by decide) (by exact rfl) (fun i l => ?_) (fun i l => ?_) (fun i => ?_) (fun i l => ?_) (fun i l => ?_)
        · refine (normRows_apply _ _ _ _ _ _ _ _ _ i l).trans ?_
          rw [whole, whole, whole] <;> decide
        · exact read3 _ _ _ _ _ _ (by exact rfl) (by exact rfl) (by simp) (by simp)
        · exact read2 _ _ _ _ _ (by exact rfl) (by simp) (by exact rfl)
        · exact read2 _ _ _ _ _ (by exact rfl) (by exact rfl) (by exact rfl)
        · exact read2 _ _ _ _ _ (by exact rfl) (by exact rfl) (by exact rfl)
    exact trivial
  clear hY
  refine canon_of (pieces_cons (piece2 (A := fun y : (Mat 512 2048).Idx => sumRows (iblk m c 8 t) (iblk m c 9 t) (gated (iblk m c 0 t) (iblk m c 1 t) (iblk m c 2 t) (iblk m c 3 t) (iblk m c 4 t) (iblk m c 5 t) (iblk m c 6 t))
      (iblk m c 7 t) (iblk m c 10 t) (iblk m c 11 t) (y 0) (y 1)) _ _ (by exact rfl) (by decide) (by decide) fun i j => ?_) trivial) (View.cover_of_tiledL _ S512x2048.size (by sl_kernel_rfl))
  refine (sumRows_apply _ _ _ _ _ _ shapeCasts_S1x1x2048_S1x2048 shapeCasts_S1x1024x2048_S1024x2048 broadcasts_S1x2048_S512x2048 i j).trans ?_
  rw [whole (hs0_8 t) _ _ (by decide), whole (hs0_9 t) _ _ (by decide), whole (hs0_7 t) _ _ (by decide), whole (hs0_10 t) _ _ (by decide), whole (hs0_11 t) _ _ (by decide)]
  have e : (fun i l => scM0_0.view.readCov LY (Rect.unit ![0, 0] S512x1024.size inb_S512x1024_S512x1024_0_0).toLoadRect (ix2 i l))
      = gated (iblk m c 0 t) (iblk m c 1 t) (iblk m c 2 t) (iblk m c 3 t) (iblk m c 4 t) (iblk m c 5 t) (iblk m c 6 t) := by
    funext i l
    refine (read_block2 _ _ (by exact rfl) _ i l (i' := i) (j' := l) (by simp) (by simp)).trans ?_
    rw [eY]; rfl
  rw [e]
  show _ = sumRows _ _ _ _ _ _ _ _
  congr 1 <;> exact Fin.ext (by simp)

end Cert.Kernel5Ideal.Body

end
-- ==== Proof.FirstArray.lean ====
/- The first layer's out-projection, its output array as one formula in its argument arrays. -/
module

public import proofs.«01_k».proof.Proof.FirstBody
public import Idealize.ShloMosaic.Lib.StableHlo.ReadAt

@[expose] public section

set_option maxRecDepth 16384

noncomputable section

namespace Cert.Kernel5Ideal.Body

open Cert.Kernel5Ideal Cert.Kernel5Ideal.Gen Idealize.ShloMosaic Idealize.ShloMosaic.TcCoe Idealize.SL.Sem Idealize.ShloMosaic.Pointwise Cert.Tile Cert.Stores Cert.Gate

/-- The gated channels of row `r`: the first layer's parameters, the channels and their gate from the projected array. -/
def gatedRow (z : S16384x7168.Idx → EReal) (lg lb : S2x1024.Idx → EReal) (ws : S2x8x128x128.Idx → EReal) (bs : S2x8x128.Idx → EReal) (r : Fin 16384) (l : Fin 1024) : EReal :=
  z (ix2 r ⟨l, by omega⟩) * (∑ s : Fin 128, (if s.val ≤ r.val % 128 then ws (ix4 0 ⟨l / 128, by omega⟩ ⟨r % 128, by omega⟩ s) else 0)
      * layerNorm (fun k => z (ix2 ⟨128 * (r / 128) + s, by omega⟩ ⟨1024 + k, by omega⟩)) (fun k => lg (ix2 0 k)) (fun k => lb (ix2 0 k)) l
    + bs (ix3 0 ⟨l / 128, by omega⟩ ⟨r % 128, by omega⟩)) * z (ix2 r ⟨2048 + l, by omega⟩)

/-- A row of the two projections' sum, added to the residual row through the gate. -/
def sumRow (z : S16384x7168.Idx → EReal) (lg lb : S2x1024.Idx → EReal) (ws : S2x8x128x128.Idx → EReal) (bs : S2x8x128.Idx → EReal) (yb : S16384x1024.Idx → EReal) (x2 : S16384x2048.Idx → EReal)
    (gate : S4x1x2048.Idx → EReal) (w : S2x2048x2048.Idx → EReal) (r : Fin 16384) (j : Fin 2048) : EReal :=
  (x2 (ix2 r j) + gate (ix3 ⟨r / 4096, by omega⟩ 0 j) * ∑ l : Fin 1024, yb (ix2 r l) * w (ix3 0 ⟨1024 + l, by omega⟩ j))
    + gate (ix3 ⟨r / 4096, by omega⟩ 0 j) * ∑ l : Fin 1024, gatedRow z lg lb ws bs r l * w (ix3 0 ⟨l, by omega⟩ j)

/-- The output array. -/
def outArr (z : S16384x7168.Idx → EReal) (lg lb : S2x1024.Idx → EReal) (ws : S2x8x128x128.Idx → EReal) (bs : S2x8x128.Idx → EReal) (yb : S16384x1024.Idx → EReal) (x2 : S16384x2048.Idx → EReal)
    (gate : S4x1x2048.Idx → EReal) (w : S2x2048x2048.Idx → EReal) (y : S16384x2048.Idx) : EReal :=
  sumRow z lg lb ws bs yb x2 gate w (y 0) (y 1)

variable (m : (ℓ : Loc nD τ sig) → Buf (Elt Ideal) ℓ)

theorem places : ∀ t : Fin cfg0.N, win0_0.index t = ![t.val, 0] ∧ win0_1.index t = ![t.val, 1] ∧ win0_2.index t = ![t.val, 2]
    ∧ win0_3.index t = ![0, 0] ∧ win0_4.index t = ![0, 0] ∧ win0_5.index t = ![0, 0, 0] ∧ win0_6.index t = ![0, 0]
    ∧ win0_7.index t = ![t.val, 0] ∧ win0_8.index t = ![t.val, 0] ∧ win0_9.index t = ![t.val / 8, 0, 0] ∧ win0_10.index t = ![0, 0, 0] ∧ win0_11.index t = ![0, 1, 0]
    ∧ win0_12.index t = ![0, 0] ∧ win0_13.index t = ![t.val, 0] :=
  (by decide +kernel : ∀ t : Fin grid0.N, _)

/-- Block `t` of 512 rows of column group `g` of the projected array. -/
def zBlock (z : S16384x7168.Idx → EReal) (g : ℕ) (hg : g < 7) (t : Fin 32) (y : (Mat 512 1024).Idx) : EReal :=
  z (ix2 ⟨512 * t + (show Fin 512 from y 0).val, by have := (show Fin 512 from y 0).isLt; omega⟩ ⟨1024 * g + (show Fin 1024 from y 1).val, by have := (show Fin 1024 from y 1).isLt; omega⟩)

/-- Block `t` of 512 rows of an array. -/
def rowBlock {b : ℕ} (z : (Mat 16384 b).Idx → EReal) (t : Fin 32) (y : (Mat 512 b).Idx) : EReal :=
  z (ix2 ⟨512 * t + (show Fin 512 from y 0).val, by have := (show Fin 512 from y 0).isLt; omega⟩ (y 1))

/-- Half `h` of the first layer's projection. -/
def wHalf (w : S2x2048x2048.Idx → EReal) (h : ℕ) (hh : h < 2) (y : (Cub 1 1024 2048).Idx) : EReal :=
  w (ix3 0 ⟨1024 * h + (show Fin 1024 from y 1).val, by have := (show Fin 1024 from y 1).isLt; omega⟩ (y 2))

/-! ## The arrays the host prepares -/

theorem host_v0 (c : Dev nD) : V m c main_v0 = fun y : S2x2048x2048.Idx => m ((c : Thread nD τ).loc main_arg8) y := by
  funext y; unfold V; after_reads_at

theorem host_v3 (c : Dev nD) : V m c main_v3 = fun y : (Mat 1 1024).Idx => m ((c : Thread nD τ).loc main_arg1) (ix2 0 (y 1)) := by
  funext y; unfold V; after_reads_at

theorem host_v6 (c : Dev nD) : V m c main_v6 = fun y : (Mat 1 1024).Idx => m ((c : Thread nD τ).loc main_arg2) (ix2 0 (y 1)) := by
  funext y; unfold V; after_reads_at

theorem host_v8 (c : Dev nD) : V m c main_v8 = fun y : (Cub 8 128 128).Idx => m ((c : Thread nD τ).loc main_arg3) (ix4 0 (y 0) (y 1) (y 2)) := by
  funext y; unfold V; after_reads_at

theorem host_v11 (c : Dev nD) : V m c main_v11 = fun y : (Mat 128 8).Idx => m ((c : Thread nD τ).loc main_arg4) (ix3 0 (y 1) (y 0)) := by
  funext y; unfold V; after_reads_at

/-! ## The input blocks -/

section Blocks
variable (c : Dev nD) (t : Fin cfg0.N)

theorem in_0 : iblk m c 0 t = zBlock (m ((c : Thread nD τ).loc main_arg0)) 0 (by decide) t := by funext y; unfold zBlock; blk_ext [iblk, V, places t]
theorem in_1 : iblk m c 1 t = zBlock (m ((c : Thread nD τ).loc main_arg0)) 1 (by decide) t := by funext y; unfold zBlock; blk_ext [iblk, V, places t]
theorem in_2 : iblk m c 2 t = zBlock (m ((c : Thread nD τ).loc main_arg0)) 2 (by decide) t := by funext y; unfold zBlock; blk_ext [iblk, V, places t]
theorem in_3 : iblk m c 3 t = fun y : (Mat 1 1024).Idx => m ((c : Thread nD τ).loc main_arg1) (ix2 0 (y 1)) := by rw [← host_v3]; funext y; blk_ext [iblk, places t]
theorem in_4 : iblk m c 4 t = fun y : (Mat 1 1024).Idx => m ((c : Thread nD τ).loc main_arg2) (ix2 0 (y 1)) := by rw [← host_v6]; funext y; blk_ext [iblk, places t]
theorem in_5 : iblk m c 5 t = fun y : (Cub 8 128 128).Idx => m ((c : Thread nD τ).loc main_arg3) (ix4 0 (y 0) (y 1) (y 2)) := by rw [← host_v8]; funext y; blk_ext [iblk, places t]
theorem in_6 : iblk m c 6 t = fun y : (Mat 128 8).Idx => m ((c : Thread nD τ).loc main_arg4) (ix3 0 (y 1) (y 0)) := by rw [← host_v11]; funext y; blk_ext [iblk, places t]
theorem in_7 : iblk m c 7 t = rowBlock (m ((c : Thread nD τ).loc main_arg5)) t := by funext y; unfold rowBlock; blk_ext [iblk, V, places t]
theorem in_8 : iblk m c 8 t = rowBlock (m ((c : Thread nD τ).loc main_arg6)) t := by funext y; unfold rowBlock; blk_ext [iblk, V, places t]
theorem in_9 : iblk m c 9 t = fun y : (Cub 1 1 2048).Idx => m ((c : Thread nD τ).loc main_arg7) (ix3 ⟨t / 8, by have : t.val < 32 := t.isLt; omega⟩ 0 (y 2)) := by funext y; blk_ext [iblk, V, places t]
theorem in_10 : iblk m c 10 t = wHalf (m ((c : Thread nD τ).loc main_arg8)) 0 (by decide) := by
  refine Eq.trans ?_ (congrArg (fun w => wHalf w 0 (by decide)) (host_v0 m c))
  funext y; unfold wHalf; blk_ext [iblk, places t]
theorem in_11 : iblk m c 11 t = wHalf (m ((c : Thread nD τ).loc main_arg8)) 1 (by decide) := by
  refine Eq.trans ?_ (congrArg (fun w => wHalf w 1 (by decide)) (host_v0 m c))
  funext y; unfold wHalf; blk_ext [iblk, places t]

end Blocks

/-- A block's rows are the output array's. -/
theorem sumRows_block (z : S16384x7168.Idx → EReal) (lg lb : S2x1024.Idx → EReal) (ws : S2x8x128x128.Idx → EReal) (bs : S2x8x128.Idx → EReal) (yb : S16384x1024.Idx → EReal) (x2 : S16384x2048.Idx → EReal)
    (gate : S4x1x2048.Idx → EReal) (w : S2x2048x2048.Idx → EReal) (t : Fin 32) (y : S16384x2048.Idx) (i : Fin 512) (j : Fin 2048) (h0 : (y 0).val = 512 * t.val + i.val) (h1 : (y 1).val = j.val) :
    sumRows (rowBlock x2 t) (fun y : (Cub 1 1 2048).Idx => gate (ix3 ⟨t / 8, by omega⟩ 0 (y 2)))
      (gated (zBlock z 0 (by decide) t) (zBlock z 1 (by decide) t) (zBlock z 2 (by decide) t) (fun y : (Mat 1 1024).Idx => lg (ix2 0 (y 1))) (fun y : (Mat 1 1024).Idx => lb (ix2 0 (y 1)))
        (fun y : (Cub 8 128 128).Idx => ws (ix4 0 (y 0) (y 1) (y 2))) (fun y : (Mat 128 8).Idx => bs (ix3 0 (y 1) (y 0))))
      (rowBlock yb t) (wHalf w 0 (by decide)) (wHalf w 1 (by decide)) i j = outArr z lg lb ws bs yb x2 gate w y := by
  obtain ⟨r, hr⟩ : ∃ r : Fin 16384, r.val = 512 * t.val + i.val := ⟨⟨_, by omega⟩, rfl⟩
  obtain rfl : y = ix2 r j := by
    rw [eq_ix2 (n0 := 16384) (n1 := 2048) y]
    congr 1 <;> exact Fin.ext (by first | exact h0.trans hr.symm | exact h1)
  have er : ∀ h, (⟨512 * t.val + i.val, h⟩ : Fin 16384) = r := fun h => Fin.ext hr.symm
  have eg : ∀ l, gated (zBlock z 0 (by decide) t) (zBlock z 1 (by decide) t) (zBlock z 2 (by decide) t) (fun y : (Mat 1 1024).Idx => lg (ix2 0 (y 1))) (fun y : (Mat 1 1024).Idx => lb (ix2 0 (y 1)))
        (fun y : (Cub 8 128 128).Idx => ws (ix4 0 (y 0) (y 1) (y 2))) (fun y : (Mat 128 8).Idx => bs (ix3 0 (y 1) (y 0))) i l = gatedRow z lg lb ws bs r l := by
    intro l
    have e1 : i.val % 128 = r.val % 128 := by omega
    have e2 : ∀ s : Fin 128, 512 * t.val + (128 * (i.val / 128) + s.val) = 128 * (r.val / 128) + s.val := fun s => by omega
    unfold gated gatedRow
    refine congrArg₂ (· * ·) (congrArg₂ (· * ·) (congrArg z (congrArg₂ ix2 (er _) (Fin.ext (by simp)))) (congrArg₂ (· + ·) (Finset.sum_congr rfl fun s _ => ?_) ?_)) (congrArg z (congrArg₂ ix2 (er _) rfl))
    · refine congrArg₂ (· * ·) ?_ (congrArg (fun f => layerNorm f _ _ l) (funext fun k => congrArg z (congrArg₂ ix2 (Fin.ext (e2 s)) rfl)))
      simp only [e1]
      rfl
    · simp only [e1]
      rfl
  have e3 : ∀ h, (⟨t.val / 8, h⟩ : Fin 4) = ⟨r.val / 4096, by omega⟩ := fun h => Fin.ext (by show t.val / 8 = r.val / 4096; omega)
  unfold sumRows outArr sumRow
  refine congrArg₂ (· + ·) (congrArg₂ (· + ·) (congrArg x2 (congrArg₂ ix2 (er _) rfl)) (congrArg₂ (· * ·) (congrArg (fun b => gate (ix3 b 0 j)) (e3 _)) (Finset.sum_congr rfl fun l _ => ?_)))
    (congrArg₂ (· * ·) (congrArg (fun b => gate (ix3 b 0 j)) (e3 _)) (Finset.sum_congr rfl fun l _ => ?_))
  · exact congrArg₂ (· * ·) (congrArg yb (congrArg₂ ix2 (er _) rfl)) rfl
  · exact congrArg₂ (· * ·) (eg l) (congrArg w (congrArg (fun b => ix3 0 b j) (Fin.ext (by simp))))

/-- The output array after the run. -/
theorem arr (c : Dev nD) : (dats m 0 c).arrAt 13 cfg0.N
    = outArr (m ((c : Thread nD τ).loc main_arg0)) (m ((c : Thread nD τ).loc main_arg1)) (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) (m ((c : Thread nD τ).loc main_arg8)) := by
  refine (dats m 0 c).arrAt_eq_of_covers 13 _ (by decide +kernel) fun t hf y => ?_
  blk_simp
  rw [after0_13, block, in_0, in_1, in_2, in_3, in_4, in_5, in_6, in_7, in_8, in_9, in_10, in_11]
  refine sumRows_block _ _ _ _ _ _ _ _ _ t _ (y 0) (y 1) ?_ ?_
  · blk_simp [places t]; omega
  · blk_simp [places t]

end Cert.Kernel5Ideal.Body

end
-- ==== Proof.FirstEq.lean ====
/- The first layer's out-projection: the reference's gating and projection are the kernel's, the sum over the 2048 channels of both halves splitting into the kernel's two sums. -/
module

public import proofs.«01_k».proof.Proof.FirstArray
public import proofs.«01_k».proof.Proof.OutEq
public import proofs.«01_k».proof.Proof.Softmax
public import proofs.«01_k».proof.Proof.Gen.Reference5Ideal.Read

@[expose] public section

set_option maxRecDepth 16384

noncomputable section

namespace Cert.FirstEq

open Idealize.ShloMosaic Idealize.ShloMosaic.TcCoe Idealize.SL.Sem Cert.Tile Cert.Softmax Cert.Gate
open Cert.OutEq (is2 is3 row)
open Cert.Kernel5Ideal.Body (gatedRow sumRow outArr)
open Cert.Reference5Ideal Cert.Reference5Ideal.Gen Cert.Reference5Ideal.Read

/-- A real factor on a sum with one real summand, or on the summands one after the other. -/
theorem split_add {g s : EReal} (hg : ∃ r : ℝ, g = r) (hs : ∃ r : ℝ, s = r) (x a : EReal) : x + g * (a + s) = x + g * s + g * a := by
  obtain ⟨g, rfl⟩ := hg
  obtain ⟨s, rfl⟩ := hs
  rw [add_assoc]
  congr 1
  by_cases h0 : g = 0
  · subst h0; simp
  · rcases inf_or_real a with ha | ⟨a, rfl⟩
    · have h1 : ∀ {i : EReal} (r : ℝ), Inf i → (r : EReal) + i = i := by
        rintro i r (rfl | rfl)
        · exact EReal.coe_add_top r
        · exact EReal.add_bot _
      rw [add_comm a, h1 s ha, ← EReal.coe_mul, h1 (g * s) (ha.mul h0)]
    · norm_cast
      ring

theorem mul_real {a b : EReal} (ha : ∃ r : ℝ, a = r) (hb : ∃ r : ℝ, b = r) : ∃ r : ℝ, a * b = r := by
  obtain ⟨a, rfl⟩ := ha
  obtain ⟨b, rfl⟩ := hb
  exact ⟨a * b, (EReal.coe_mul a b).symm⟩

theorem sum_real {n : ℕ} {f : Fin n → EReal} (h : ∀ l, ∃ r : ℝ, f l = r) : ∃ r : ℝ, ∑ l, f l = r := by
  choose r hr using h
  refine ⟨∑ l, r l, (Finset.sum_congr rfl fun l _ => hr l).trans ?_⟩
  clear hr f
  induction n with
  | zero => simp
  | succ n ih => rw [Fin.sum_univ_succ, Fin.sum_univ_succ, EReal.coe_add, ih]

variable (z : S16384x7168.Idx → EReal) (lg lb : S2x1024.Idx → EReal) (ws : S2x8x128x128.Idx → EReal) (bs : S2x8x128.Idx → EReal) (yb : S16384x1024.Idx → EReal) (x2 : S16384x2048.Idx → EReal)
    (gate : S4x1x2048.Idx → EReal) (w : S2x2048x2048.Idx → EReal)

section Read

variable (b : Fin 4) (q : Fin 4096)

theorem u_at (l : Fin 1024) : val_main_v2 (F := Ideal) z (ix3 b q l) = z (ix2 (row b q) ⟨l, by omega⟩) := by
  rw [val_main_v2_apply, val_main_v1_apply, val_main_v0_apply]
  refine congrArg z (is2 ?_ ?_)
  · show ((b.val * 4096 + q.val) * 1024 + l.val) / 1024 = 4096 * b.val + q.val; omega
  · show ((b.val * 4096 + q.val) * 1024 + l.val) % 1024 = l.val; omega

theorem v_at (l : Fin 1024) : val_main_v5 (F := Ideal) z (ix3 b q l) = z (ix2 (row b q) ⟨1024 + l, by omega⟩) := by
  rw [val_main_v5_apply, val_main_v4_apply, val_main_v3_apply]
  refine congrArg z (is2 ?_ ?_)
  · show ((b.val * 4096 + q.val) * 1024 + l.val) / 1024 = 4096 * b.val + q.val; omega
  · show 1024 + ((b.val * 4096 + q.val) * 1024 + l.val) % 1024 = 1024 + l.val; omega

theorem a_at (l : Fin 1024) : val_main_v8 (F := Ideal) z (ix3 b q l) = z (ix2 (row b q) ⟨2048 + l, by omega⟩) := by
  rw [val_main_v8_apply, val_main_v7_apply, val_main_v6_apply]
  refine congrArg z (is2 ?_ ?_)
  · show ((b.val * 4096 + q.val) * 1024 + l.val) / 1024 = 4096 * b.val + q.val; omega
  · show 2048 + ((b.val * 4096 + q.val) * 1024 + l.val) % 1024 = 2048 + l.val; omega

/-- A row of the gated half, before its norm. -/
abbrev vRow (k : Fin 1024) : EReal := z (ix2 (row b q) ⟨1024 + k, by omega⟩)

theorem centred (l : Fin 1024) : val_main_v22 (F := Ideal) z (ix3 b q l) = vRow z b q l - mean 0x44800000#32 (vRow z b q) := by
  rw [val_main_v22_apply, v_at, val_main_v21_apply, val_main_v20_apply, val_main_v18_apply, val_main_v17_apply, val_main_v19_apply, val_main_cst_0_apply, val_main_cst_apply]
  rw [Finset.sum_congr rfl fun k _ => (congrArg (val_main_v5 (F := Ideal) z) (is3 (x := b) (y := q) (z := k) rfl rfl rfl)).trans (v_at z b q k)]
  simp [mean]

theorem norm_at (l : Fin 1024) : val_main_v38 (F := Ideal) z lg lb (ix3 b q l) = layerNorm (vRow z b q) (fun k => lg (ix2 0 k)) (fun k => lb (ix2 0 k)) l := by
  have hc : ∀ l, val_main_v31 (F := Ideal) z (ix3 b q l) = Ideal.rsqrt (mean 0x44800000#32 (fun k => (vRow z b q k - mean 0x44800000#32 (vRow z b q)) * (vRow z b q k - mean 0x44800000#32 (vRow z b q))) + eps) := by
    intro l
    rw [val_main_v31_apply, val_main_v30_apply, val_main_v29_apply, val_main_v27_apply, val_main_v25_apply, val_main_v24_apply, val_main_v26_apply, val_main_cst_2_apply, val_main_v28_apply, val_main_cst_3_apply, val_main_cst_1_apply]
    rw [Finset.sum_congr rfl fun k _ => (congrArg (val_main_v23 (F := Ideal) z) (is3 (x := b) (y := q) (z := k) rfl rfl rfl))]
    simp only [val_main_v23_apply, centred]
    simp [mean, eps]
  rw [val_main_v38_apply, val_main_v35_apply, val_main_v32_apply, centred, hc, val_main_v37_apply, val_main_v36_apply, val_main_v12_apply, val_main_v11_apply,
    val_main_v34_apply, val_main_v33_apply, val_main_v10_apply, val_main_v9_apply]
  refine congrArg₂ (· + ·) (congrArg₂ (· * ·) rfl (congrArg lg (is2 ?_ ?_))) (congrArg lb (is2 ?_ ?_))
  all_goals first | rfl | (show l.val % 1024 = l.val; omega)

/-- The causal weights of a group. -/
theorem tri_at (h : Fin 8) (t s : Fin 128) : val_main_v44 (F := Ideal) ws (ix3 h t s) = if s.val ≤ t.val then ws (ix4 0 h t s) else 0 := by
  rw [val_main_v44_apply, val_main_call1_v0_apply, val_main_v42_apply, val_main_v41_apply, val_main_call0_v4_apply, val_main_call0_v2_apply, val_main_call0_v0_apply, val_main_call0_v1_apply, val_main_call0_c_apply,
    val_main_call0_v3_apply, val_main_v40_apply, val_main_c_apply, val_main_call0_v5_apply, val_main_call0_c_0_apply, val_main_v43_apply, val_main_cst_4_apply, val_main_v14_apply, val_main_v13_apply]
  have e : IntOp.addi (BitVec.ofNat 32 t.val) 0#32 = BitVec.ofNat 32 t.val := BitVec.add_zero _
  have ew : idx_main_v13 (idx_main_v14 (ix3 h t s)) = ix4 0 h t s := funext fun a => Fin.ext (by
    match a with
    | ⟨0, _⟩ => rfl
    | ⟨1, _⟩ => show ((h.val * 128 + t.val) * 128 + s.val) / 16384 % 8 = h.val; omega
    | ⟨2, _⟩ => show ((h.val * 128 + t.val) * 128 + s.val) / 128 % 128 = t.val; omega
    | ⟨3, _⟩ => show ((h.val * 128 + t.val) * 128 + s.val) % 128 = s.val; omega)
  rw [ew]
  show Scalar.select (Scalar.select (IntOp.cmpi .sge (IntOp.addi (BitVec.ofNat 32 t.val) 0#32) (BitVec.ofNat 32 s.val)) 1#1 0#1) _ _ = _
  rw [e, WordCmp.cmpi_sge_ofNat (by omega) (by omega), Scalar.select_decide]
  split <;> simp [Scalar.select]

/-- A group's mix of the rows of a chunk. -/
theorem mix_at (l : Fin 1024) : val_main_v51 (F := Ideal) z lg lb ws bs (ix3 b q l)
    = ∑ s : Fin 128, (if s.val ≤ (row b q).val % 128 then ws (ix4 0 ⟨l / 128, by omega⟩ ⟨(row b q).val % 128, by omega⟩ s) else 0)
      * layerNorm (fun k => z (ix2 ⟨128 * ((row b q).val / 128) + s, by omega⟩ ⟨1024 + k, by omega⟩)) (fun k => lg (ix2 0 k)) (fun k => lb (ix2 0 k)) l
    + bs (ix3 0 ⟨l / 128, by omega⟩ ⟨(row b q).val % 128, by omega⟩) := by
  rw [val_main_v51_apply, val_main_v50_apply, val_main_v46_apply, val_main_v45_apply, val_main_v49_apply, val_main_v48_apply, val_main_v47_apply, val_main_v16_apply, val_main_v15_apply]
  have hb : ((b.val * 4096 + q.val) * 1024 + l.val) / 4194304 = b.val := by omega
  have hc : ((b.val * 4096 + q.val) * 1024 + l.val) / 131072 % 32 = q.val / 128 := by omega
  have hg : ((b.val * 4096 + q.val) * 1024 + l.val) / 128 % 8 = l.val / 128 := by omega
  have ht : ((b.val * 4096 + q.val) * 1024 + l.val) / 1024 % 128 = (4096 * b.val + q.val) % 128 := by omega
  refine congrArg₂ (· + ·) (Finset.sum_congr rfl fun s _ => ?_) (congrArg bs (is3 ?_ ?_ ?_))
  · rw [mul_comm, val_main_v39_apply]
    refine congrArg₂ (· * ·) ((congrArg (val_main_v44 (F := Ideal) ws) (is3 (x := ⟨l / 128, by omega⟩) (y := ⟨(row b q).val % 128, by omega⟩) (z := s) ?_ ?_ rfl)).trans (tri_at ws _ _ _)) ?_
    · exact hg
    · exact ht
    · refine ((congrArg (val_main_v38 (F := Ideal) z lg lb) (is3 (x := b) (y := ⟨128 * (q / 128) + s, by omega⟩) (z := l) ?_ ?_ ?_)).trans (norm_at z lg lb _ _ _)).trans ?_
      · show ((((((b.val * 4096 + q.val) * 1024 + l.val) / 4194304 * 32 + ((b.val * 4096 + q.val) * 1024 + l.val) / 131072 % 32) * 128 + s.val) * 8 + ((b.val * 4096 + q.val) * 1024 + l.val) / 128 % 8) * 128 + ((b.val * 4096 + q.val) * 1024 + l.val) % 128) / 4194304 = b.val
        rw [hb, hc, hg]; omega
      · show ((((((b.val * 4096 + q.val) * 1024 + l.val) / 4194304 * 32 + ((b.val * 4096 + q.val) * 1024 + l.val) / 131072 % 32) * 128 + s.val) * 8 + ((b.val * 4096 + q.val) * 1024 + l.val) / 128 % 8) * 128 + ((b.val * 4096 + q.val) * 1024 + l.val) % 128) / 1024 % 4096 = 128 * (q.val / 128) + s.val
        rw [hb, hc, hg]; omega
      · show ((((((b.val * 4096 + q.val) * 1024 + l.val) / 4194304 * 32 + ((b.val * 4096 + q.val) * 1024 + l.val) / 131072 % 32) * 128 + s.val) * 8 + ((b.val * 4096 + q.val) * 1024 + l.val) / 128 % 8) * 128 + ((b.val * 4096 + q.val) * 1024 + l.val) % 128) % 1024 = l.val
        rw [hb, hc, hg]; omega
      · refine congrArg (fun f => layerNorm f _ _ l) (funext fun k => congrArg z (congrArg (fun r => ix2 r _) (Fin.ext ?_)))
        show 4096 * b.val + (128 * (q.val / 128) + s.val) = 128 * ((4096 * b.val + q.val) / 128) + s.val
        omega
  · rfl
  · show (((b.val * 4096 + q.val) * 1024 + l.val) / 128 % 8 * 128 + ((b.val * 4096 + q.val) * 1024 + l.val) / 1024 % 128) / 128 % 8 = l.val / 128
    rw [hg, ht]
    have h : (4096 * b.val + q.val) % 128 < 128 := Nat.mod_lt _ (by decide)
    have hl : l.val / 128 < 8 := by omega
    generalize (4096 * b.val + q.val) % 128 = t at h ⊢
    generalize l.val / 128 = g at hl ⊢
    omega
  · show (((b.val * 4096 + q.val) * 1024 + l.val) / 128 % 8 * 128 + ((b.val * 4096 + q.val) * 1024 + l.val) / 1024 % 128) % 128 = (4096 * b.val + q.val) % 128
    rw [ht]; omega

theorem gated_at (l : Fin 1024) : val_main_v53 (F := Ideal) z lg lb ws bs (ix3 b q l) = gatedRow z lg lb ws bs (row b q) l := by
  rw [val_main_v53_apply, val_main_v52_apply, u_at, mix_at, a_at]
  rfl

/-- The two halves of the channels. -/
theorem cat_at (k : Fin 2048) : val_main_v56 (F := Ideal) z lg lb ws bs yb (ix3 b q k)
    = if h : k.val < 1024 then gatedRow z lg lb ws bs (row b q) ⟨k, h⟩ else yb (ix2 (row b q) ⟨k - 1024, by omega⟩) := by
  unfold val_main_v56
  have h1 := gated_at z lg lb ws bs b q
  have h2 : ∀ l, val_main_v55 (F := Ideal) yb (ix3 b q l) = yb (ix2 (row b q) l) := by
    intro l
    rw [val_main_v55_apply, val_main_v54_apply]
    refine congrArg yb (is2 ?_ ?_)
    · show ((b.val * 4096 + q.val) * 1024 + l.val) / 1024 = 4096 * b.val + q.val; omega
    · show ((b.val * 4096 + q.val) * 1024 + l.val) % 1024 = l.val; omega
  generalize val_main_v53 (F := Ideal) z lg lb ws bs = A at *
  generalize val_main_v55 (F := Ideal) yb = B at *
  pointwise
  simp only [h1, h2]

end Read

variable (hy : ∀ i, ∃ r : ℝ, yb i = r) (hg : ∀ i, ∃ r : ℝ, gate i = r) (hw : ∀ i, ∃ r : ℝ, w i = r)

section Sum

variable (b : Fin 4) (q : Fin 4096)
include hy hg hw

/-- The projection of both halves of the channels. -/
theorem sum_at (j : Fin 2048) : val_main_v63 (F := Ideal) z lg lb ws bs yb x2 gate w (ix3 b q j) = sumRow z lg lb ws bs yb x2 gate w (row b q) j := by
  have eb : ∀ h, (⟨(row b q).val / 4096, h⟩ : Fin 4) = b := fun h => Fin.ext (by show (4096 * b.val + q.val) / 4096 = b.val; omega)
  have e0 : ∀ k : Fin 2048, val_main_v58 (F := Ideal) w (ix2 k j) = w (ix3 0 k j) := by
    intro k
    rw [val_main_v58_apply, val_main_v57_apply]
    refine congrArg w (is3 rfl ?_ ?_)
    · show (k.val * 2048 + j.val) / 2048 % 2048 = k.val; omega
    · show (k.val * 2048 + j.val) % 2048 = j.val; omega
  have e1 : val_main_v59 (F := Ideal) z lg lb ws bs yb w (ix3 b q j)
      = (∑ l : Fin 1024, gatedRow z lg lb ws bs (row b q) l * w (ix3 0 ⟨l, by omega⟩ j)) + ∑ l : Fin 1024, yb (ix2 (row b q) l) * w (ix3 0 ⟨1024 + l, by omega⟩ j) := by
    rw [val_main_v59_apply, Finset.sum_congr rfl fun k _ => congrArg₂ (· * ·)
      ((congrArg (val_main_v56 (F := Ideal) z lg lb ws bs yb) (is3 (x := b) (y := q) (z := k) rfl rfl rfl)).trans (cat_at z lg lb ws bs yb b q k))
      ((congrArg (val_main_v58 (F := Ideal) w) (is2 (x := k) (y := j) rfl rfl)).trans (e0 k))]
    refine (Fin.sum_univ_add (a := 1024) (b := 1024) _).trans (congrArg₂ (· + ·) (Finset.sum_congr rfl fun l _ => ?_) (Finset.sum_congr rfl fun l _ => ?_))
    · exact congrArg (· * _) (dif_pos (show (Fin.castAdd 1024 l).val < 1024 from l.isLt))
    · refine congrArg (· * _) ((dif_neg (show ¬ (Fin.natAdd 1024 l).val < 1024 by simp)).trans (congrArg yb (congrArg (ix2 _) (Fin.ext ?_))))
      show 1024 + l.val - 1024 = l.val
      omega
  have e2 : val_main_v61 (F := Ideal) gate (ix3 b q j) = gate (ix3 b 0 j) := by
    rw [val_main_v61_apply]
    exact congrArg gate (is3 rfl rfl rfl)
  have e3 : val_main_v60 (F := Ideal) x2 (ix3 b q j) = x2 (ix2 (row b q) j) := by
    rw [val_main_v60_apply]
    refine congrArg x2 (is2 ?_ ?_)
    · show ((b.val * 4096 + q.val) * 2048 + j.val) / 2048 = 4096 * b.val + q.val; omega
    · show ((b.val * 4096 + q.val) * 2048 + j.val) % 2048 = j.val; omega
  rw [val_main_v63_apply, val_main_v62_apply, e1, e2, e3]
  unfold sumRow
  rw [eb]
  exact split_add (hg _) (sum_real fun l => mul_real (hy _) (hw _)) _ _

end Sum

include hy hg hw

/-- The reference's result is the kernel's. -/
theorem result : val_main_v64 (F := Ideal) z lg lb ws bs yb x2 gate w = outArr z lg lb ws bs yb x2 gate w := by
  funext y
  have h0 : (y 0).val < 16384 := (y 0).isLt
  have h1 : (y 1).val < 2048 := (y 1).isLt
  rw [val_main_v64_apply]
  refine (congrArg (val_main_v63 (F := Ideal) z lg lb ws bs yb x2 gate w) (is3 (x := ⟨(y 0).val / 4096, by omega⟩) (y := ⟨(y 0).val % 4096, by omega⟩) (z := ⟨(y 1).val, h1⟩) ?_ ?_ ?_)).trans
    ((sum_at z lg lb ws bs yb x2 gate w hy hg hw _ _ _).trans ?_)
  · show ((y 0).val * 2048 + (y 1).val) / 8388608 = (y 0).val / 4096; omega
  · show ((y 0).val * 2048 + (y 1).val) / 2048 % 4096 = (y 0).val % 4096; omega
  · show ((y 0).val * 2048 + (y 1).val) % 2048 = (y 1).val; omega
  · exact congrArg (fun r => sumRow z lg lb ws bs yb x2 gate w r (y 1)) (Fin.ext (by show 4096 * ((y 0).val / 4096) + (y 0).val % 4096 = (y 0).val; omega))

end Cert.FirstEq

end
-- ==== Proof.FirstClaims.lean ====
/- The claims of the first layer's out-projection, from its frames, its output array and the reference's result. -/
module

public import proofs.«01_k».proof.Defs
public import proofs.«01_k».proof.Proof.FirstEq
public import proofs.«01_k».proof.Proof.Gen.Pre_finite5
public import proofs.«01_k».proof.Proof.Gen.Kernel5.Frame
public import proofs.«01_k».proof.Proof.Gen.Kernel5Ideal.Frame

@[expose] public section

noncomputable section

namespace Cert.FirstClaims

open Idealize.ShloMosaic Idealize.SL.Sem Cert.Softmax

theorem frame_p : Cert.quiescent_Kernel5 := fun m ρ _ => Cert.Kernel5.Gen.frame m ρ
theorem frame_pi : Cert.quiescent_Kernel5Ideal := fun m ρ _ => Cert.Kernel5Ideal.Gen.frame m ρ

/-- The reference declares no semaphore, so none is left raised. -/
theorem frame_ri : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- Under the precondition every element of the attention's rows, the gate and the projection is real. -/
theorem reals {z : Pre_finite5.S16384x7168.Idx → EReal} {lg lb : Pre_finite5.S2x1024.Idx → EReal} {ws : Pre_finite5.S2x8x128x128.Idx → EReal} {bs : Pre_finite5.S2x8x128.Idx → EReal}
    {yb : Pre_finite5.S16384x1024.Idx → EReal} {x2 : Pre_finite5.S16384x2048.Idx → EReal} {gate : Pre_finite5.S4x1x2048.Idx → EReal} {w : Pre_finite5.S2x2048x2048.Idx → EReal} {fg : Pre_finite5.S2048.Idx → EReal}
    (h : (Pre_finite5.fn (F := Ideal) z lg lb ws bs yb x2 gate w fg).1 = (fun _ => 1#1) ∧ (Pre_finite5.fn (F := Ideal) z lg lb ws bs yb x2 gate w fg).2.1 = (fun _ => 1#1)
      ∧ (Pre_finite5.fn (F := Ideal) z lg lb ws bs yb x2 gate w fg).2.2 = (fun _ => 1#1)) : (∀ i, ∃ r : ℝ, yb i = r) ∧ (∀ i, ∃ r : ℝ, gate i = r) ∧ (∀ i, ∃ r : ℝ, w i = r) :=
  have e : ∀ {x : EReal} {i : BitVec 1}, i = 1#1 → Ideal.cmp .olt (max x (-x)) (Ideal.ofBits .f32 0x7F800000#32) = i → ∃ r : ℝ, x = r :=
    fun hi hc => real_of_abs ((congrArg (Ideal.cmp .olt _) posInf).symm.trans (hc.trans hi))
  ⟨fun i => e (congrFun h.1 i) rfl, fun i => e (congrFun h.2.1 i) rfl, fun i => e (congrFun h.2.2 i) rfl⟩

theorem algebraic : Cert.algebraic_Kernel5Ideal_Reference5Ideal_pre_finite5 := by
  intro m ρ m' ρ' hpre hagree
  refine ⟨fun c => (Cert.Kernel5Ideal.Gen.dats m 0 c).arrAt 13 Cert.Kernel5Ideal.cfg0.N, ?_, ?_⟩
  · exact Cert.Kernel5Ideal.Value.run_blocks (F := Ideal) m ρ
  · refine (θ_run Cert.Reference5Ideal.defs _ _).mono (fun _ h c => ⟨(h c).1.trans ?_, (h c).2⟩) (Cert.Reference5Ideal.Value.run (F := Ideal) m' ρ')
    obtain ⟨a0, a1, a2, a3, a4, a5, a6, a7, a8, a9⟩ := hagree c
    rw [Reference5Ideal.Read.val_main_v64_eq, a0, a1, a2, a3, a4, a5, a6, a7, a8]
    exact (FirstEq.result _ _ _ _ _ _ _ _ _ (reals (hpre c)).1 (reals (hpre c)).2.1 (reals (hpre c)).2.2).trans (Kernel5Ideal.Body.arr m c).symm

end Cert.FirstClaims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_finite
public import proofs.«01_k».proof.Proof.Gen.Pre_finite2
public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_finite5
public import proofs.«01_k».proof.Proof.AttnClaims
public import proofs.«01_k».proof.Proof.OutClaims
public import proofs.«01_k».proof.Proof.InClaims
public import proofs.«01_k».proof.Proof.AdaClaims
public import proofs.«01_k».proof.Proof.FirstClaims
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Pre_finite.Gen.facts, Cert.Pre_finite2.Gen.facts, Cert.Pre_finite5.Gen.facts,
    AttnClaims.frame_p, AttnClaims.frame_pi, fun m ρ _ => AttnClaims.frame_pi m ρ trivial, AttnClaims.frame_ri, fun m ρ _ => AttnClaims.frame_ri m ρ trivial,
    OutClaims.frame_p, OutClaims.frame_pi, fun m ρ _ => OutClaims.frame_pi m ρ trivial, OutClaims.frame_ri, fun m ρ _ => OutClaims.frame_ri m ρ trivial,
    InClaims.frame_p, InClaims.frame_pi, InClaims.frame_ri,
    AdaClaims.frame_p, AdaClaims.frame_pi, AdaClaims.frame_ri,
    FirstClaims.frame_p, FirstClaims.frame_pi, fun m ρ _ => FirstClaims.frame_pi m ρ trivial, FirstClaims.frame_ri, fun m ρ _ => FirstClaims.frame_ri m ρ trivial,
    trivial, AttnClaims.algebraic, trivial, OutClaims.algebraic, InClaims.preserves, InClaims.algebraic, trivial, AdaClaims.algebraic, trivial, FirstClaims.algebraic⟩

end Cert.Proof

end
